-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_attention [hPre_real_attention : Cert.Pre_real_attention.Facts] (m : (ℓ : Loc Cert.KernelIdeal.nD Cert.KernelIdeal.τ Cert.KernelIdeal.sig) → Buf (Elt Ideal) ℓ) : Prop :=
  ∀ c : Dev Cert.KernelIdeal.nD,
    (Cert.Pre_real_attention.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_attention [hPre_real_attention : Cert.Pre_real_attention.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_attention.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_real_attention [hKernelIdeal : Cert.KernelIdeal.Facts] [hPre_real_attention : Cert.Pre_real_attention.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_attention m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_real_attention [hReferenceIdeal : Cert.ReferenceIdeal.Facts] [hPre_real_attention : Cert.Pre_real_attention.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_attention m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def preserves_Kernel_KernelIdeal : Prop :=
  True

def algebraic_KernelIdeal_ReferenceIdeal_pre_real_attention [hKernelIdeal : Cert.KernelIdeal.Facts] [hReferenceIdeal : Cert.ReferenceIdeal.Facts] [hPre_real_attention : Cert.Pre_real_attention.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_attention m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v17_1)) (v1 : (c : Dev Cert.Kernel2Ideal.nD) → Buf (Elt Ideal) ((c.tc : Thread Cert.Kernel2Ideal.nD Cert.Kernel2Ideal.τ).loc Cert.Kernel2Ideal.main_v17_2)) (v2 : (c : Dev Cert.Kernel2Ideal.nD) → Buf (Elt Ideal) ((c.tc : Thread Cert.Kernel2Ideal.nD Cert.Kernel2Ideal.τ).loc Cert.Kernel2Ideal.main_v17_3)) (v3 : (c : Dev Cert.Kernel2Ideal.nD) → Buf (Elt Ideal) ((c.tc : Thread Cert.Kernel2Ideal.nD Cert.Kernel2Ideal.τ).loc Cert.Kernel2Ideal.main_v17_4)) (v4 : (c : Dev Cert.Kernel2Ideal.nD) → Buf (Elt Ideal) ((c.tc : Thread Cert.Kernel2Ideal.nD Cert.Kernel2Ideal.τ).loc Cert.Kernel2Ideal.main_v17_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_1) = v0 c
          ∧ r.2.mem ((c.tc : Thread Cert.Kernel2Ideal.nD Cert.Kernel2Ideal.τ).loc Cert.Kernel2Ideal.main_v17_2) = v1 c
          ∧ r.2.mem ((c.tc : Thread Cert.Kernel2Ideal.nD Cert.Kernel2Ideal.τ).loc Cert.Kernel2Ideal.main_v17_3) = v2 c
          ∧ r.2.mem ((c.tc : Thread Cert.Kernel2Ideal.nD Cert.Kernel2Ideal.τ).loc Cert.Kernel2Ideal.main_v17_4) = v3 c
          ∧ r.2.mem ((c.tc : Thread Cert.Kernel2Ideal.nD Cert.Kernel2Ideal.τ).loc Cert.Kernel2Ideal.main_v17_5) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v22) = v3 c
          ∧ r.2.mem ((c.tc : Thread Cert.Reference2Ideal.nD Cert.Reference2Ideal.τ).loc Cert.Reference2Ideal.main_v24) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_real_attention : Cert.Pre_real_attention.Facts),
    quiescent_Kernel (hKernel := hKernel)
    ∧ quiescent_KernelIdeal (hKernelIdeal := hKernelIdeal)
    ∧ quiescent_KernelIdeal_pre_real_attention (hKernelIdeal := hKernelIdeal) (hPre_real_attention := hPre_real_attention)
    ∧ quiescent_ReferenceIdeal (hReferenceIdeal := hReferenceIdeal)
    ∧ quiescent_ReferenceIdeal_pre_real_attention (hReferenceIdeal := hReferenceIdeal) (hPre_real_attention := hPre_real_attention)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_real_attention (hKernelIdeal := hKernelIdeal) (hReferenceIdeal := hReferenceIdeal) (hPre_real_attention := hPre_real_attention)
    ∧ preserves_Kernel2_Kernel2Ideal
    ∧ algebraic_Kernel2Ideal_Reference2Ideal (hKernel2Ideal := hKernel2Ideal) (hReference2Ideal := hReference2Ideal)
-- ==== Pre_real_attention.lean ====
abbrev S1x16 : Shape := ⟨2, ![1, 16]⟩
abbrev S8x2048x1024 : Shape := ⟨3, ![8, 2048, 1024]⟩
abbrev S8x2048x256 : Shape := ⟨3, ![8, 2048, 256]⟩
abbrev S1x1024 : Shape := ⟨2, ![1, 1024]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩

class Facts : Prop where
  bcast_S_S1x16 : S_.BroadcastsInDim S1x16 (![] : Fin 0 → Fin S1x16.rank)
  reducesTo_S1x16_S_d0_1 : S1x16.ReducesTo [0, 1] S_
  h_S_ : 0 < S_.numel
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x2048x256 : S_.BroadcastsInDim S8x2048x256 (![] : Fin 0 → Fin S8x2048x256.rank)
  reducesTo_S8x2048x256_S_d0_1_2 : S8x2048x256.ReducesTo [0, 1, 2] S_

variable [Facts]

def fn {F : FTy → Type} [FloatOps F] (main_arg0 : FVec F S1x16 .f32) (main_arg1 : FVec F S8x2048x1024 .f32) (main_arg2 : FVec F S8x2048x256 .f32) (main_arg3 : FVec F S1x1024 .f32) (main_arg4 : FVec F S8x2048x1024 .f32) (main_arg5 : FVec F S8x2048x1024 .f32) (main_arg6 : FVec F S1x2048x1024 .f32) (main_arg7 : FVec F S1x1024 .f32) (main_arg8 : FVec F S1x1024x4096 .f32) (main_arg9 : FVec F S1x4096x1024 .f32) (main_arg10 : FVec F S1024 .f32) : IVec S_ 1 :=
  let main_v0 : FVec F S1x16 .f32 := Host.absf main_arg0
  let main_cst : FVec F S_ .f32 := constant S_ .f32 0x7F800000#32
  let main_v1 : FVec F S1x16 .f32 := broadcastInDim S1x16 ![] bcast_S_S1x16 main_cst
  let main_v2 : IVec S1x16 1 := cmpf .olt main_v0 main_v1
  let main_c : IVec S_ 1 := constantI S_ 1 1#1
  let main_v3 : IVec S_ 1 := (fun x v => Host.reduce IntOp.andi x v reducesTo_S1x16_S_d0_1 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x256 .f32 := Host.absf main_arg2
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  let main_c_3 : IVec S_ 1 := constantI S_ 1 1#1
  let main_v12 : IVec S_ 1 := (fun x v => Host.reduce IntOp.andi x v reducesTo_S8x2048x256_S_d0_1_2 h_S_) main_v11 main_c_3
  let main_v13 : IVec S_ 1 := andi main_v8 main_v12
  main_v13
-- ==== Kernel.lean ====
abbrev S1x16 : Shape := ⟨2, ![1, 16]⟩
abbrev S8x2048x1024 : Shape := ⟨3, ![8, 2048, 1024]⟩
abbrev S8x2048x256 : Shape := ⟨3, ![8, 2048, 256]⟩
abbrev S1x1024 : Shape := ⟨2, ![1, 1024]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S16 : Shape := ⟨1, ![16]⟩
abbrev S16384x256 : Shape := ⟨2, ![16384, 256]⟩
abbrev S2048x1024 : Shape := ⟨2, ![2048, 1024]⟩
abbrev S1024x4096 : Shape := ⟨2, ![1024, 4096]⟩
abbrev S4096x1024 : Shape := ⟨2, ![4096, 1024]⟩
abbrev S512x256 : Shape := ⟨2, ![512, 256]⟩
abbrev S_ : Shape := ⟨0, ![]⟩
abbrev S1x512x256 : Shape := ⟨3, ![1, 512, 256]⟩
abbrev S2x512x256 : Shape := ⟨3, ![2, 512, 256]⟩
abbrev S512x1024 : Shape := ⟨2, ![512, 1024]⟩
abbrev S128x256 : Shape := ⟨2, ![128, 256]⟩
abbrev S3 : Shape := ⟨1, ![3]⟩
abbrev S1 : Shape := ⟨1, ![1]⟩
abbrev S640x256 : Shape := ⟨2, ![640, 256]⟩
abbrev S640x128 : Shape := ⟨2, ![640, 128]⟩
abbrev S128x128 : Shape := ⟨2, ![128, 128]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S256x256 : Shape := ⟨2, ![256, 256]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 78
  | .vmem => 20
  | .smem => 1
  | _ => 0

abbrev bufTy : (tb : Table) → Fin (tcTables nBuf tb) → BufTy
  | .hbm, ⟨0, _⟩ => ⟨S1x16, .f32⟩
  | .hbm, ⟨1, _⟩ => ⟨S8x2048x1024, .f32⟩
  | .hbm, ⟨2, _⟩ => ⟨S8x2048x256, .f32⟩
  | .hbm, ⟨3, _⟩ => ⟨S1x1024, .f32⟩
  | .hbm, ⟨4, _⟩ => ⟨S8x2048x1024, .f32⟩
  | .hbm, ⟨5, _⟩ => ⟨S8x2048x1024, .f32⟩
  | .hbm, ⟨6, _⟩ => ⟨S1x2048x1024, .f32⟩
  | .hbm, ⟨7, _⟩ => ⟨S1x1024, .f32⟩
  | .hbm, ⟨8, _⟩ => ⟨S1x1024x4096, .f32⟩
  | .hbm, ⟨9, _⟩ => ⟨S1x4096x1024, .f32⟩
  | .hbm, ⟨10, _⟩ => ⟨S1024, .f32⟩
  | .hbm, ⟨11, _⟩ => ⟨S16384x1024, .f32⟩
  | .hbm, ⟨12, _⟩ => ⟨S8x2048x1024, .bf16⟩
  | .hbm, ⟨13, _⟩ => ⟨S8x2048x1024, .bf16⟩
  | .hbm, ⟨14, _⟩ => ⟨S16, .f32⟩
  | .hbm, ⟨15, _⟩ => ⟨S16384x1024, .bf16⟩
  | .hbm, ⟨16, _⟩ => ⟨S16384x256, .f32⟩
  | .hbm, ⟨17, _⟩ => ⟨S1024, .f32⟩
  | .hbm, ⟨18, _⟩ => ⟨S1x1024, .f32⟩
  | .hbm, ⟨19, _⟩ => ⟨S16384x1024, .bf16⟩
  | .hbm, ⟨20, _⟩ => ⟨S2048x1024, .f32⟩
  | .hbm, ⟨21, _⟩ => ⟨S2048x1024, .bf16⟩
  | .hbm, ⟨22, _⟩ => ⟨S1024, .f32⟩
  | .hbm, ⟨23, _⟩ => ⟨S1x1024, .f32⟩
  | .hbm, ⟨24, _⟩ => ⟨S1024x4096, .f32⟩
  | .hbm, ⟨25, _⟩ => ⟨S1024x4096, .bf16⟩
  | .hbm, ⟨26, _⟩ => ⟨S4096x1024, .f32⟩
  | .hbm, ⟨27, _⟩ => ⟨S4096x1024, .bf16⟩
  | .hbm, ⟨28, _⟩ => ⟨S1x1024, .f32⟩
  | .hbm, ⟨29, _⟩ => ⟨S512x256, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S512x256, .i32⟩
  | .hbm, ⟨37, _⟩ => ⟨S512x256, .i32⟩
  | .hbm, ⟨38, _⟩ => ⟨S_, .i32⟩
  | .hbm, ⟨39, _⟩ => ⟨S512x256, .i32⟩
  | .hbm, ⟨40, _⟩ => ⟨S512x256, .i1⟩
  | .hbm, ⟨41, _⟩ => ⟨S_, .i32⟩
  | .hbm, ⟨42, _⟩ => ⟨S512x256, .i32⟩
  | .hbm, ⟨43, _⟩ => ⟨S512x256, .i1⟩
  | .hbm, ⟨44, _⟩ => ⟨S_, .i32⟩
  | .hbm, ⟨45, _⟩ => ⟨S_, .i1⟩
  | .hbm, ⟨46, _⟩ => ⟨S512x256, .i1⟩
  | .hbm, ⟨47, _⟩ => ⟨S512x256, .i1⟩
  | .hbm, ⟨48, _⟩ => ⟨S512x256, .i1⟩
  | .hbm, ⟨49, _⟩ => ⟨S512x256, .i32⟩
  | .hbm, ⟨50, _⟩ => ⟨S512x256, .i32⟩
  | .hbm, ⟨51, _⟩ => ⟨S512x256, .i32⟩
  | .hbm, ⟨52, _⟩ => ⟨S512x256, .i32⟩
  | .hbm, ⟨53, _⟩ => ⟨S512x256, .i1⟩
  | .hbm, ⟨54, _⟩ => ⟨S_, .i32⟩
  | .hbm, ⟨55, _⟩ => ⟨S512x256, .i32⟩
  | .hbm, ⟨56, _⟩ => ⟨S512x256, .i32⟩
  | .hbm, ⟨57, _⟩ => ⟨S512x256, .i1⟩
  | .hbm, ⟨58, _⟩ => ⟨S512x256, .i1⟩
  | .hbm, ⟨59, _⟩ => ⟨S_, .f32⟩
  | .hbm, ⟨60, _⟩ => ⟨S_, .f32⟩
  | .hbm, ⟨61, _⟩ => ⟨S512x256, .f32⟩
  | .hbm, ⟨62, _⟩ => ⟨S512x256, .f32⟩
  | .hbm, ⟨63, _⟩ => ⟨S512x256, .f32⟩
  | .hbm, ⟨64, _⟩ => ⟨S_, .i32⟩
  | .hbm, ⟨65, _⟩ => ⟨S512x256, .i32⟩
  | .hbm, ⟨66, _⟩ => ⟨S512x256, .i1⟩
  | .hbm, ⟨67, _⟩ => ⟨S512x256, .i1⟩
  | .hbm, ⟨68, _⟩ => ⟨S_, .f32⟩
  | .hbm, ⟨69, _⟩ => ⟨S_, .f32⟩
  | .hbm, ⟨70, _⟩ => ⟨S512x256, .f32⟩
  | .hbm, ⟨71, _⟩ => ⟨S512x256, .f32⟩
  | .hbm, ⟨72, _⟩ => ⟨S512x256, .f32⟩
  | .hbm, ⟨73, _⟩ => ⟨S1x512x256, .f32⟩
  | .hbm, ⟨74, _⟩ => ⟨S1x512x256, .f32⟩
  | .hbm, ⟨75, _⟩ => ⟨S2x512x256, .f32⟩
  | .hbm, ⟨76, _⟩ => ⟨S2x512x256, .f32⟩
  | .hbm, ⟨77, _⟩ => ⟨S16384x1024, .f32⟩
  | .local _ .vmem, ⟨0, _⟩ => ⟨S2x512x256, .f32⟩
  | .local _ .vmem, ⟨1, _⟩ => ⟨S512x1024, .bf16⟩
  | .local _ .vmem, ⟨2, _⟩ => ⟨S512x1024, .bf16⟩
  | .local _ .vmem, ⟨3, _⟩ => ⟨S512x256, .f32⟩
  | .local _ .vmem, ⟨4, _⟩ => ⟨S512x256, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S128x256, .f32⟩
  | .local _ .vmem, ⟨15, _⟩ => ⟨S512x1024, .f32⟩
  | .local _ .vmem, ⟨16, _⟩ => ⟨S512x1024, .bf16⟩
  | .local _ .vmem, ⟨17, _⟩ => ⟨S2048x1024, .bf16⟩
  | .local _ .vmem, ⟨18, _⟩ => ⟨S1024x4096, .bf16⟩
  | .local _ .vmem, ⟨19, _⟩ => ⟨S4096x1024, .bf16⟩
  | .local _ .smem, ⟨0, _⟩ => ⟨S16, .f32⟩
  | _, _ => ⟨S1x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_1 : Ref sig .tc := ⟨.hbm, 38, rfl⟩
abbrev main_call0_v5 : Ref sig .tc := ⟨.hbm, 39, rfl⟩
abbrev main_call0_v6 : Ref sig .tc := ⟨.hbm, 40, rfl⟩
abbrev main_call0_c_2 : Ref sig .tc := ⟨.hbm, 41, rfl⟩
abbrev main_call0_v7 : Ref sig .tc := ⟨.hbm, 42, rfl⟩
abbrev main_call0_v8 : Ref sig .tc := ⟨.hbm, 43, rfl⟩
abbrev main_call0_c_3 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_c_0 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst : Ref sig .tc := ⟨.hbm, 59, rfl⟩
abbrev main_cst_1 : Ref sig .tc := ⟨.hbm, 60, rfl⟩
abbrev main_call1_v0 : Ref sig .tc := ⟨.hbm, 61, rfl⟩
abbrev main_call1_v1 : Ref sig .tc := ⟨.hbm, 62, rfl⟩
abbrev main_v26 : Ref sig .tc := ⟨.hbm, 63, rfl⟩
abbrev main_c_2 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_3 : Ref sig .tc := ⟨.hbm, 68, rfl⟩
abbrev main_cst_4 : Ref sig .tc := ⟨.hbm, 69, rfl⟩
abbrev main_call2_v0 : Ref sig .tc := ⟨.hbm, 70, rfl⟩
abbrev main_call2_v1 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![33], ![false]⟩

def k0_cond4 (i : grid0.Coords) : BitVec 1 :=
  let arg0 : BitVec 32 := BitVec.ofNat 32 (i 0).val
  let c0_i32_34 : BitVec 32 := 0#32
  let v69 : BitVec 1 := Scalar.cmpi .eq arg0 c0_i32_34
  let v70 : BitVec 32 := Scalar.extui v69
  let c0_i32_35 : BitVec 32 := 0#32
  let v71 : BitVec 1 := Scalar.cmpi .ne v70 c0_i32_35
  v71

def k0_off1 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_41 : BitVec 32 := 0#32
  let v81 : BitVec 1 := Scalar.cmpi .eq v9 c0_i32_41
  let c1_i32_42 : BitVec 32 := 1#32
  let c0_i32_43 : BitVec 32 := 0#32
  let v82 : BitVec 32 := Scalar.select v81 c1_i32_42 c0_i32_43
  let v83 : Index := Scalar.indexCast v82
  let c0_44 : Index := 0#32
  let c0_45 : Index := 0#32
  ![v83.toNat, 0, 0]
def k0_cond5 (i : grid0.Coords) : BitVec 1 :=
  let arg0 : BitVec 32 := BitVec.ofNat 32 (i 0).val
  let c32_i32 : BitVec 32 := 32#32
  let v72 : BitVec 1 := Scalar.cmpi .eq arg0 c32_i32
  let v73 : BitVec 32 := Scalar.extui v72
  let c0_i32_36 : BitVec 32 := 0#32
  let v74 : BitVec 1 := Scalar.cmpi .ne v73 c0_i32_36
  v74

def k0_off2 (i : grid0.Coords) : Fin 3 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_42 : BitVec 32 := 0#32
  let v84 : BitVec 1 := Scalar.cmpi .eq v9 c0_i32_42
  let c1_i32_43 : BitVec 32 := 1#32
  let c0_i32_44 : BitVec 32 := 0#32
  let v85 : BitVec 32 := Scalar.select v84 c1_i32_43 c0_i32_44
  let v86 : Index := Scalar.indexCast v85
  let c0_45 : Index := 0#32
  let c0_46 : Index := 0#32
  ![v86.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1x16 : Shape := ⟨2, ![1, 16]⟩
abbrev S8x2048x1024 : Shape := ⟨3, ![8, 2048, 1024]⟩
abbrev S8x2048x256 : Shape := ⟨3, ![8, 2048, 256]⟩
abbrev S1x1024 : Shape := ⟨2, ![1, 1024]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024 : Shape := ⟨1, ![1024]⟩
abbrev S8x2048x128 : Shape := ⟨3, ![8, 2048, 128]⟩
abbrev S16 : Shape := ⟨1, ![16]⟩
abbrev S8x16x128x2x8x64 : Shape := ⟨6, ![8, 16, 128, 2, 8, 64]⟩
abbrev S8x16x128x2x64 : Shape := ⟨5, ![8, 16, 128, 2, 64]⟩
abbrev S8x1x128x2x64 : Shape := ⟨5, ![8, 1, 128, 2, 64]⟩
abbrev S_ : Shape := ⟨0, ![]⟩
abbrev S8x17x128x2x64 : Shape := ⟨5, ![8, 17, 128, 2, 64]⟩
abbrev S8x16x256x2x64 : Shape := ⟨5, ![8, 16, 256, 2, 64]⟩
abbrev S8x16x2x256x128x8 : Shape := ⟨6, ![8, 16, 2, 256, 128, 8]⟩
abbrev S8x16x2x8x128x256 : Shape := ⟨6, ![8, 16, 2, 8, 128, 256]⟩
abbrev S16x1x1 : Shape := ⟨3, ![16, 1, 1]⟩
abbrev S128 : Shape := ⟨1, ![128]⟩
abbrev S1x128x1 : Shape := ⟨3, ![1, 128, 1]⟩
abbrev S16x128x1 : Shape := ⟨3, ![16, 128, 1]⟩
abbrev S256 : Shape := ⟨1, ![256]⟩
abbrev S1x1x256 : Shape := ⟨3, ![1, 1, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x2x8x1x1 : Shape := ⟨6, ![1, 1, 2, 8, 1, 1]⟩
abbrev S8x16x2x8x128 : Shape := ⟨5, ![8, 16, 2, 8, 128]⟩
abbrev S8x16x2x8x128x1 : Shape := ⟨6, ![8, 16, 2, 8, 128, 1]⟩
abbrev S8x16x2x64x8x128 : Shape := ⟨6, ![8, 16, 2, 64, 8, 128]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S2048x1024 : Shape := ⟨2, ![2048, 1024]⟩
abbrev S1024x4096 : Shape := ⟨2, ![1024, 4096]⟩
abbrev S8x2048x4096 : Shape := ⟨3, ![8, 2048, 4096]⟩
abbrev S4096x1024 : Shape := ⟨2, ![4096, 1024]⟩
abbrev S16384x1024 : Shape := ⟨2, ![16384, 1024]⟩

abbrev nBuf : Space → Nat
  | .hbm => 160
  | .vmem => 0
  | .smem => 0
  | _ => 0

abbrev hbmTy0_0 (i : Nat) : BufTy := match i % 128 with
  | 0 => ⟨S1x16, .f32⟩
  | 1 => ⟨S8x2048x1024, .f32⟩
  | 2 => ⟨S8x2048x256, .f32⟩
  | 3 => ⟨S1x1024, .f32⟩
  | 4 => ⟨S8x2048x1024, .f32⟩
  | 5 => ⟨S8x2048x1024, .f32⟩
  | 6 => ⟨S1x2048x1024, .f32⟩
  | 7 => ⟨S1x1024, .f32⟩
  | 8 => ⟨S1x1024x4096, .f32⟩
  | 9 => ⟨S1x4096x1024, .f32⟩
  | 10 => ⟨S1024, .f32⟩
  | 11 => ⟨S8x2048x128, .f32⟩
  | 12 => ⟨S8x2048x128, .f32⟩
  | 13 => ⟨S16, .f32⟩
  | 14 => ⟨S8x16x128x2x8x64, .f32⟩
  | 15 => ⟨S8x16x128x2x64, .f32⟩
  | 16 => ⟨S8x16x128x2x64, .f32⟩
  | 17 => ⟨S8x1x128x2x64, .f32⟩
  | 18 => ⟨S_, .f32⟩
  | 19 => ⟨S8x1x128x2x64, .f32⟩
  | 20 => ⟨S8x17x128x2x64, .f32⟩
  | 21 => ⟨S8x17x128x2x64, .f32⟩
  | 22 => ⟨S8x16x128x2x64, .f32⟩
  | 23 => ⟨S8x16x128x2x64, .f32⟩
  | 24 => ⟨S8x16x256x2x64, .f32⟩
  | 25 => ⟨S8x16x128x2x64, .f32⟩
  | 26 => ⟨S8x16x128x2x64, .f32⟩
  | 27 => ⟨S8x16x256x2x64, .f32⟩
  | 28 => ⟨S8x16x2x256x128x8, .f32⟩
  | 29 => ⟨S8x16x2x8x128x256, .f32⟩
  | 30 => ⟨S_, .f32⟩
  | 31 => ⟨S8x16x2x8x128x256, .f32⟩
  | 32 => ⟨S8x16x2x8x128x256, .f32⟩
  | 33 => ⟨S16, .i32⟩
  | 34 => ⟨S16x1x1, .i32⟩
  | 35 => ⟨S_, .i32⟩
  | 36 => ⟨S16x1x1, .i32⟩
  | 37 => ⟨S16x1x1, .i32⟩
  | 38 => ⟨S128, .i32⟩
  | 39 => ⟨S1x128x1, .i32⟩
  | 40 => ⟨S16x128x1, .i32⟩
  | 41 => ⟨S16x128x1, .i32⟩
  | 42 => ⟨S16x128x1, .i32⟩
  | 43 => ⟨S_, .i32⟩
  | 44 => ⟨S16x1x1, .i32⟩
  | 45 => ⟨S16x1x1, .i32⟩
  | 46 => ⟨S_, .i32⟩
  | 47 => ⟨S16x1x1, .i32⟩
  | 48 => ⟨S16x1x1, .i32⟩
  | 49 => ⟨S256, .i32⟩
  | 50 => ⟨S1x1x256, .i32⟩
  | 51 => ⟨S16x1x256, .i32⟩
  | 52 => ⟨S16x1x256, .i32⟩
  | 53 => ⟨S16x1x256, .i32⟩
  | 54 => ⟨S16x128x256, .i32⟩
  | 55 => ⟨S16x128x256, .i32⟩
  | 56 => ⟨S16x128x256, .i1⟩
  | 57 => ⟨S_, .i32⟩
  | 58 => ⟨S16x128x1, .i32⟩
  | 59 => ⟨S16x128x1, .i32⟩
  | 60 => ⟨S16x128x256, .i32⟩
  | 61 => ⟨S16x128x256, .i32⟩
  | 62 => ⟨S16x128x256, .i1⟩
  | 63 => ⟨S16x128x256, .i1⟩
  | 64 => ⟨S_, .i32⟩
  | 65 => ⟨S16x1x256, .i32⟩
  | 66 => ⟨S16x1x256, .i1⟩
  | 67 => ⟨S16x128x256, .i1⟩
  | 68 => ⟨S16x128x256, .i1⟩
  | 69 => ⟨S1x16x1x1x128x256, .i1⟩
  | 70 => ⟨S_, .f32⟩
  | 71 => ⟨S_, .f32⟩
  | 72 => ⟨S8x16x2x8x128x256, .i1⟩
  | 73 => ⟨S8x16x2x8x128x256, .f32⟩
  | 74 => ⟨S8x16x2x8x128x256, .f32⟩
  | 75 => ⟨S1x1x2x8x1x1, .f32⟩
  | 76 => ⟨S_, .f32⟩
  | 77 => ⟨S8x16x2x8x128, .f32⟩
  | 78 => ⟨S8x16x2x8x128x1, .f32⟩
  | 79 => ⟨S8x16x2x8x128x1, .f32⟩
  | 80 => ⟨S8x16x2x8x128x1, .f32⟩
  | 81 => ⟨S8x16x2x8x128x256, .f32⟩
  | 82 => ⟨S8x16x2x8x128x256, .f32⟩
  | 83 => ⟨S8x16x2x8x128x256, .f32⟩
  | 84 => ⟨S_, .f32⟩
  | 85 => ⟨S8x16x2x8x128, .f32⟩
  | 86 => ⟨S8x16x2x8x128x1, .f32⟩
  | 87 => ⟨S8x16x2x8x128x1, .f32⟩
  | 88 => ⟨S8x16x2x8x128x1, .f32⟩
  | 89 => ⟨S8x16x2x8x128x1, .f32⟩
  | 90 => ⟨S8x16x2x8x128x1, .f32⟩
  | 91 => ⟨S8x16x2x8x128x256, .f32⟩
  | 92 => ⟨S8x16x2x8x128x256, .f32⟩
  | 93 => ⟨S8x16x2x64x8x128, .f32⟩
  | 94 => ⟨S8x16x128x2x8x64, .f32⟩
  | 95 => ⟨S8x2048x1024, .f32⟩
  | 96 => ⟨S1024, .f32⟩
  | 97 => ⟨S8x2048x1024, .f32⟩
  | 98 => ⟨S_, .f32⟩
  | 99 => ⟨S8x2048, .f32⟩
  | 100 => ⟨S8x2048x1, .f32⟩
  | 101 => ⟨S_, .f32⟩
  | 102 => ⟨S8x2048x1, .f32⟩
  | 103 => ⟨S8x2048x1, .f32⟩
  | 104 => ⟨S_, .f32⟩
  | 105 => ⟨S8x2048x1, .f32⟩
  | 106 => ⟨S8x2048x1, .f32⟩
  | 107 => ⟨S8x2048x1, .f32⟩
  | 108 => ⟨S8x2048x1024, .f32⟩
  | 109 => ⟨S8x2048x1024, .f32⟩
  | 110 => ⟨S1x1x1024, .f32⟩
  | 111 => ⟨S8x2048x1024, .f32⟩
  | 112 => ⟨S8x2048x1024, .f32⟩
  | 113 => ⟨S8x2048x2048, .f32⟩
  | 114 => ⟨S2048x1024, .f32⟩
  | 115 => ⟨S8x2048x1024, .f32⟩
  | 116 => ⟨S8x2048x1024, .f32⟩
  | 117 => ⟨S1024, .f32⟩
  | 118 => ⟨S8x2048x1024, .f32⟩
  | 119 => ⟨S_, .f32⟩
  | 120 => ⟨S8x2048, .f32⟩
  | 121 => ⟨S8x2048x1, .f32⟩
  | 122 => ⟨S_, .f32⟩
  | 123 => ⟨S8x2048x1, .f32⟩
  | 124 => ⟨S8x2048x1, .f32⟩
  | 125 => ⟨S_, .f32⟩
  | 126 => ⟨S8x2048x1, .f32⟩
  | 127 => ⟨S8x2048x1, .f32⟩
  | _ => ⟨S1x16, .f32⟩

abbrev hbmTy0_1 (i : Nat) : BufTy := match i % 128 with
  | 0 => ⟨S8x2048x1, .f32⟩
  | 1 => ⟨S8x2048x1024, .f32⟩
  | 2 => ⟨S8x2048x1024, .f32⟩
  | 3 => ⟨S1x1x1024, .f32⟩
  | 4 => ⟨S8x2048x1024, .f32⟩
  | 5 => ⟨S8x2048x1024, .f32⟩
  | 6 => ⟨S1024x4096, .f32⟩
  | 7 => ⟨S8x2048x4096, .f32⟩
  | 8 => ⟨S_, .f32⟩
  | 9 => ⟨S8x2048x4096, .f32⟩
  | 10 => ⟨S8x2048x4096, .f32⟩
  | 11 => ⟨S8x2048x4096, .f32⟩
  | 12 => ⟨S4096x1024, .f32⟩
  | 13 => ⟨S8x2048x1024, .f32⟩
  | 14 => ⟨S8x2048x1024, .f32⟩
  | 15 => ⟨S8x2048x1024, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x1024, .f32⟩
  | 27 => ⟨S8x2048x1024, .f32⟩
  | 28 => ⟨S1x1x1024, .f32⟩
  | 29 => ⟨S8x2048x1024, .f32⟩
  | 30 => ⟨S8x2048x1024, .f32⟩
  | 31 => ⟨S16384x1024, .f32⟩
  | _ => ⟨S1x16, .f32⟩

abbrev hbmTy (i : Nat) : BufTy := match i / 128 with
  | 0 => hbmTy0_0 i
  | 1 => hbmTy0_1 i
  | _ => ⟨S1x16, .f32⟩

abbrev bufTy : (tb : Table) → Fin (tcTables nBuf tb) → BufTy
  | .hbm, ⟨i, _⟩ => hbmTy i
  | _, _ => ⟨S1x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_1 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_3 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_4 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_5 : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_8 : Ref sig .tc := ⟨.hbm, 98, rfl⟩
abbrev main_v74 : Ref sig .tc := ⟨.hbm, 99, rfl⟩
abbrev main_v75 : Ref sig .tc := ⟨.hbm, 100, rfl⟩
abbrev main_cst_9 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_11 : Ref sig .tc := ⟨.hbm, 119, rfl⟩
abbrev main_v92 : Ref sig .tc := ⟨.hbm, 120, rfl⟩
abbrev main_v93 : Ref sig .tc := ⟨.hbm, 121, rfl⟩
abbrev main_cst_12 : Ref sig .tc := ⟨.hbm, 122, rfl⟩
abbrev main_v94 : Ref sig .tc := ⟨.hbm, 123, rfl⟩
abbrev main_v95 : Ref sig .tc := ⟨.hbm, 124, rfl⟩
abbrev main_cst_13 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_call1_cst : Ref sig .tc := ⟨.hbm, 136, rfl⟩
abbrev main_call1_v0 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_14 : Ref sig .tc := ⟨.hbm, 144, rfl⟩
abbrev main_v112 : Ref sig .tc := ⟨.hbm, 145, rfl⟩
abbrev main_v113 : Ref sig .tc := ⟨.hbm, 146, rfl⟩
abbrev main_cst_15 : Ref sig .tc := ⟨.hbm, 147, rfl⟩
abbrev main_v114 : Ref sig .tc := ⟨.hbm, 148, rfl⟩
abbrev main_v115 : Ref sig .tc := ⟨.hbm, 149, rfl⟩
abbrev main_cst_16 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024 : Shape := ⟨2, ![1, 1024]⟩
abbrev S1x1024x3328 : Shape := ⟨3, ![1, 1024, 3328]⟩
abbrev S1x4x1024 : Shape := ⟨3, ![1, 4, 1024]⟩
abbrev S4x256x512 : Shape := ⟨3, ![4, 256, 512]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x3328 : Shape := ⟨2, ![1024, 3328]⟩
abbrev S4x1024 : Shape := ⟨2, ![4, 1024]⟩
abbrev S2048x1024 : Shape := ⟨2, ![2048, 1024]⟩
abbrev S1024x4096 : Shape := ⟨2, ![1024, 4096]⟩
abbrev S4096x1024 : Shape := ⟨2, ![4096, 1024]⟩
abbrev S8x2048x256 : Shape := ⟨3, ![8, 2048, 256]⟩
abbrev S8x64x1024 : Shape := ⟨3, ![8, 64, 1024]⟩
abbrev S64x1024 : Shape := ⟨2, ![64, 1024]⟩
abbrev S32x4096 : Shape := ⟨2, ![32, 4096]⟩
abbrev S128x1024 : Shape := ⟨2, ![128, 1024]⟩
abbrev S8x64x256 : Shape := ⟨3, ![8, 64, 256]⟩
abbrev S8x512x128 : Shape := ⟨3, ![8, 512, 128]⟩
abbrev S24x1024 : Shape := ⟨2, ![24, 1024]⟩
abbrev S8x1024 : Shape := ⟨2, ![8, 1024]⟩
abbrev S1x64x1024 : Shape := ⟨3, ![1, 64, 1024]⟩
abbrev S64 : Shape := ⟨1, ![64]⟩
abbrev S64x1 : Shape := ⟨2, ![64, 1]⟩
abbrev S64x128 : Shape := ⟨2, ![64, 128]⟩
abbrev S1x64x128 : Shape := ⟨3, ![1, 64, 128]⟩
abbrev S512x1024 : Shape := ⟨2, ![512, 1024]⟩
abbrev S1x512x128 : Shape := ⟨3, ![1, 512, 128]⟩
abbrev S512x128 : Shape := ⟨2, ![512, 128]⟩
abbrev S512x1 : Shape := ⟨2, ![512, 1]⟩
abbrev S1024x256 : Shape := ⟨2, ![1024, 256]⟩
abbrev S512x256 : Shape := ⟨2, ![512, 256]⟩
abbrev S24x256 : Shape := ⟨2, ![24, 256]⟩
abbrev S536x256 : Shape := ⟨2, ![536, 256]⟩
abbrev S1x256 : Shape := ⟨2, ![1, 256]⟩
abbrev S1x256x512 : Shape := ⟨3, ![1, 256, 512]⟩
abbrev S256x512 : Shape := ⟨2, ![256, 512]⟩
abbrev S512x512 : Shape := ⟨2, ![512, 512]⟩
abbrev S8x256 : Shape := ⟨2, ![8, 256]⟩
abbrev S512 : Shape := ⟨1, ![512]⟩
abbrev S1x128 : Shape := ⟨2, ![1, 128]⟩

abbrev nBuf : Space → Nat
  | .hbm => 36
  | .vmem => 34
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3328, .f32⟩
  | .hbm, ⟨3, _⟩ => ⟨S1x4x1024, .f32⟩
  | .hbm, ⟨4, _⟩ => ⟨S1x1024, .f32⟩
  | .hbm, ⟨5, _⟩ => ⟨S4x256x512, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x2048x1024, .f32⟩
  | .hbm, ⟨11, _⟩ => ⟨S1x1024x4096, .f32⟩
  | .hbm, ⟨12, _⟩ => ⟨S1x4096x1024, .f32⟩
  | .hbm, ⟨13, _⟩ => ⟨S1024, .f32⟩
  | .hbm, ⟨14, _⟩ => ⟨S1x1024, .f32⟩
  | .hbm, ⟨15, _⟩ => ⟨S1024x3328, .f32⟩
  | .hbm, ⟨16, _⟩ => ⟨S4x1024, .f32⟩
  | .hbm, ⟨17, _⟩ => ⟨S1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S1024x4096, .f32⟩
  | .hbm, ⟨29, _⟩ => ⟨S4096x1024, .f32⟩
  | .hbm, ⟨30, _⟩ => ⟨S8x2048x1024, .bf16⟩
  | .hbm, ⟨31, _⟩ => ⟨S8x2048x1024, .bf16⟩
  | .hbm, ⟨32, _⟩ => ⟨S8x2048x256, .f32⟩
  | .hbm, ⟨33, _⟩ => ⟨S2048x1024, .bf16⟩
  | .hbm, ⟨34, _⟩ => ⟨S1024x4096, .bf16⟩
  | .hbm, ⟨35, _⟩ => ⟨S4096x1024, .bf16⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S1024x3328, .f32⟩
  | .local _ .vmem, ⟨4, _⟩ => ⟨S4x1024, .f32⟩
  | .local _ .vmem, ⟨5, _⟩ => ⟨S1x1024, .f32⟩
  | .local _ .vmem, ⟨6, _⟩ => ⟨S4x256x512, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S64x1024, .f32⟩
  | .local _ .vmem, ⟨12, _⟩ => ⟨S64x1024, .f32⟩
  | .local _ .vmem, ⟨13, _⟩ => ⟨S32x4096, .f32⟩
  | .local _ .vmem, ⟨14, _⟩ => ⟨S32x4096, .f32⟩
  | .local _ .vmem, ⟨15, _⟩ => ⟨S128x1024, .f32⟩
  | .local _ .vmem, ⟨16, _⟩ => ⟨S128x1024, .f32⟩
  | .local _ .vmem, ⟨17, _⟩ => ⟨S8x64x1024, .bf16⟩
  | .local _ .vmem, ⟨18, _⟩ => ⟨S8x64x1024, .bf16⟩
  | .local _ .vmem, ⟨19, _⟩ => ⟨S8x64x1024, .bf16⟩
  | .local _ .vmem, ⟨20, _⟩ => ⟨S8x64x1024, .bf16⟩
  | .local _ .vmem, ⟨21, _⟩ => ⟨S8x64x256, .f32⟩
  | .local _ .vmem, ⟨22, _⟩ => ⟨S8x64x256, .f32⟩
  | .local _ .vmem, ⟨23, _⟩ => ⟨S64x1024, .bf16⟩
  | .local _ .vmem, ⟨24, _⟩ => ⟨S64x1024, .bf16⟩
  | .local _ .vmem, ⟨25, _⟩ => ⟨S32x4096, .bf16⟩
  | .local _ .vmem, ⟨26, _⟩ => ⟨S32x4096, .bf16⟩
  | .local _ .vmem, ⟨27, _⟩ => ⟨S128x1024, .bf16⟩
  | .local _ .vmem, ⟨28, _⟩ => ⟨S128x1024, .bf16⟩
  | .local _ .vmem, ⟨29, _⟩ => ⟨S1024x3328, .bf16⟩
  | .local _ .vmem, ⟨30, _⟩ => ⟨S8x512x128, .f32⟩
  | .local _ .vmem, ⟨31, _⟩ => ⟨S24x1024, .f32⟩
  | .local _ .vmem, ⟨32, _⟩ => ⟨S8x1024, .f32⟩
  | .local _ .vmem, ⟨33, _⟩ => ⟨S8x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev main_v17_2 : Ref sig .tc := ⟨.hbm, 32, rfl⟩
abbrev main_v17_3 : Ref sig .tc := ⟨.hbm, 33, rfl⟩
abbrev main_v17_4 : Ref sig .tc := ⟨.hbm, 34, rfl⟩
abbrev main_v17_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S8x2048x1024 : Shape := ⟨3, ![8, 2048, 1024]⟩
abbrev S1x1024 : Shape := ⟨2, ![1, 1024]⟩
abbrev S1x1024x3328 : Shape := ⟨3, ![1, 1024, 3328]⟩
abbrev S1x4x1024 : Shape := ⟨3, ![1, 4, 1024]⟩
abbrev S4x256x512 : Shape := ⟨3, ![4, 256, 512]⟩
abbrev S1x2048x1024 : Shape := ⟨3, ![1, 2048, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3328 : Shape := ⟨2, ![1024, 3328]⟩
abbrev S8x2048x3328 : Shape := ⟨3, ![8, 2048, 3328]⟩
abbrev S8x2048x256 : Shape := ⟨3, ![8, 2048, 256]⟩
abbrev S2048x1024 : Shape := ⟨2, ![2048, 1024]⟩
abbrev S1024x4096 : Shape := ⟨2, ![1024, 4096]⟩
abbrev S4096x1024 : Shape := ⟨2, ![4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x3328, .f32⟩
  | .hbm, ⟨3, _⟩ => ⟨S1x4x1024, .f32⟩
  | .hbm, ⟨4, _⟩ => ⟨S1x1024, .f32⟩
  | .hbm, ⟨5, _⟩ => ⟨S4x256x512, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x2048x1024, .f32⟩
  | .hbm, ⟨11, _⟩ => ⟨S1x1024x4096, .f32⟩
  | .hbm, ⟨12, _⟩ => ⟨S1x4096x1024, .f32⟩
  | .hbm, ⟨13, _⟩ => ⟨S1024, .f32⟩
  | .hbm, ⟨14, _⟩ => ⟨S8x2048x1024, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S1x1x1024, .f32⟩
  | .hbm, ⟨28, _⟩ => ⟨S8x2048x1024, .f32⟩
  | .hbm, ⟨29, _⟩ => ⟨S8x2048x1024, .f32⟩
  | .hbm, ⟨30, _⟩ => ⟨S1024x3328, .f32⟩
  | .hbm, ⟨31, _⟩ => ⟨S8x2048x3328, .f32⟩
  | .hbm, ⟨32, _⟩ => ⟨S8x2048x1024, .f32⟩
  | .hbm, ⟨33, _⟩ => ⟨S8x2048x1024, .bf16⟩
  | .hbm, ⟨34, _⟩ => ⟨S8x2048x256, .f32⟩
  | .hbm, ⟨35, _⟩ => ⟨S2048x1024, .f32⟩
  | .hbm, ⟨36, _⟩ => ⟨S2048x1024, .bf16⟩
  | .hbm, ⟨37, _⟩ => ⟨S1024x4096, .f32⟩
  | .hbm, ⟨38, _⟩ => ⟨S1024x4096, .bf16⟩
  | .hbm, ⟨39, _⟩ => ⟨S4096x1024, .f32⟩
  | .hbm, ⟨40, _⟩ => ⟨S4096x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]
-- ==== Proof.Split.lean ====
/-
  The body of `attn_mlp` cut in two: the prologue (the weights' transfers, the carried rows of keys and values) and
  the rest (attention of this tile, output projection and MLP of the previous one). The rest is taken from the printed
  body by definition, so that each of its three branches is run once.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- What the body does after its prologue, as a function of the words and rows the prologue computes. -/
def rest (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg8 : Memref sig .tc .hbm S2048x1024 .bf16) (harg8 : arg8.IsWhole) (arg9 : Memref sig .tc .vmem S1x1024 .f32) (harg9 : arg9.IsWhole) (arg10 : Memref sig .tc .hbm S1024x4096 .bf16) (harg10 : arg10.IsWhole) (arg11 : Memref sig .tc .hbm S4096x1024 .bf16) (harg11 : arg11.IsWhole) (arg12 : Memref sig .tc .vmem S1x1024 .f32) (harg12 : arg12.IsWhole) (arg13 : Memref sig .tc .vmem S512x1024 .f32) (harg13 : arg13.IsWhole) (arg14 : Memref sig .tc .vmem S128x256 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S2048x1024 .bf16) (harg17 : arg17.IsWhole) (arg18 : Memref sig .tc .vmem S1024x4096 .bf16) (harg18 : arg18.IsWhole) (arg19 : Memref sig .tc .vmem S4096x1024 .bf16) (harg19 : arg19.IsWhole) (arg20 : DmaSems sig S3) :
    { k : (Σ' (arg0 : BitVec 32) (v9 : BitVec 32) (v22 : FVec F S640x256 .f32), FVec F S640x128 .f32) → Prog (TpuEff nD τ sig (Elt F) Λ₀ .tc) PUnit //
      cc0_attn_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 = (k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 >>= k) } :=
  by
    refine ⟨?k, ?h⟩
    case h => rw [cc0_attn_mlp_eq_skeleton]; unfold cc0_attn_mlp_skel; rfl

/-- The scratch buffers: the carried rows of keys and values, the attention output of the tile, its normalised form,
    and the three weight matrices. -/
abbrev sc0 : Memref sig .tc .vmem S128x256 .f32 := Memref.whole cc0_scratch0
abbrev sc1 : Memref sig .tc .vmem S512x1024 .f32 := Memref.whole cc0_scratch1
abbrev sc2 : Memref sig .tc .vmem S512x1024 .bf16 := Memref.whole cc0_scratch2
abbrev sc3 : Memref sig .tc .vmem S2048x1024 .bf16 := Memref.whole cc0_scratch3
abbrev sc4 : Memref sig .tc .vmem S1024x4096 .bf16 := Memref.whole cc0_scratch4
abbrev sc5 : Memref sig .tc .vmem S4096x1024 .bf16 := Memref.whole cc0_scratch5
/-- The weights left in HBM. -/
abbrev hb0 : Memref sig .tc .hbm S2048x1024 .bf16 := Memref.whole main_v10
abbrev hb1 : Memref sig .tc .hbm S1024x4096 .bf16 := Memref.whole main_v14
abbrev hb2 : Memref sig .tc .hbm S4096x1024 .bf16 := Memref.whole main_v16

/-- A memref's buffer on core `c`, and the memref's own elements held whole at contents `f`. -/
abbrev MBuf (F : FTy → Type) (c : Dev nD) {sp : Space} {S : Shape} {e : EltTy} (M : Memref sig .tc sp S e) : Type := Buf (Elt F) (M.view.loc (c : Thread nD τ))
abbrev own (c : Dev nD) {sp : Space} {S : Shape} {e : EltTy} (M : Memref sig .tc sp S e) (f : MBuf F c M) : sProp 𝕄 :=
  M.view.loc (c : Thread nD τ) ↦[M.view.set]{fullShare} f
abbrev ownW (c : Dev nD) {sp : Space} {S : Shape} {e : EltTy} (M : Memref sig .tc sp S e) (f : MBuf F c M) : sProp 𝕄 :=
  M.view.loc (c : Thread nD τ) ↦{fullShare} f

end Cert.KernelIdeal.Hand

end
-- ==== Proof.Prologue.lean ====
/-
  The prologue of the body: the weights' transfers, started at the first step and waited for at the second, and the
  rows of keys and values carried from tile to tile.
-/
module

public import proofs.«01_k».proof.Proof.Split
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- The three tests of the prologue: first step, second step, first tile of a sequence. -/
abbrev cond1 (i : grid0.Coords) : BitVec 1 := Scalar.cmpi .ne (Scalar.extui (Scalar.cmpi .eq (BitVec.ofNat 32 (i 0).val) 0#32) : BitVec 32) 0#32
abbrev cond2 (i : grid0.Coords) : BitVec 1 := Scalar.cmpi .ne (Scalar.extui (Scalar.cmpi .eq (BitVec.ofNat 32 (i 0).val) 1#32) : BitVec 32) 0#32
/-- The step's place in its sequence: the remainder modulo four, as the body computes it. -/
abbrev place (i : grid0.Coords) : BitVec 32 :=
  let v0 : BitVec 1 := Scalar.cmpi .eq 4#32 0#32
  let v1 : BitVec 32 := Scalar.select v0 1#32 4#32
  let v2 : BitVec 32 := Scalar.remsi (BitVec.ofNat 32 (i 0).val) v1
  let v3 : BitVec 1 := Scalar.cmpi .ne v2 0#32
  let v4 : BitVec 1 := Scalar.cmpi .slt v2 0#32
  let v5 : BitVec 1 := Scalar.cmpi .slt v1 0#32
  Scalar.select (Scalar.andi (Scalar.xori v4 v5) v3) (Scalar.addi v2 v1) v2
abbrev cond3 (i : grid0.Coords) : BitVec 1 := Scalar.cmpi .ne (Scalar.extui (Scalar.cmpi .eq (place i) 0#32) : BitVec 32) 0#32

/-- A transfer of weights in flight: when it lands, the scratch holds the weights and the HBM buffer is whole again. -/
abbrev fly0 (c : Dev nD) (g : MBuf F c sc3) (h : MBuf F c hb0) : sProp 𝕄 :=
  Transfers.Flight countersEmb (c : Thread nD τ) (SemLoc.dma ⟨15, by decide⟩) default 131072
    iprop((sc3.view.loc (c : Thread nD τ) ↦{fullShare} View.write (Elt F) sc3.view g (ReadAs.same.apply (View.read (Elt F) hb0.view h)) Finset.univ)
      ∗ hb0.view.loc (c : Thread nD τ) ↦[hb0.view.set]{fullShare} h)
/-- The part of the HBM buffer the transfer does not take. -/
abbrev off0 (c : Dev nD) (h : MBuf F c hb0) : sProp 𝕄 :=
  iprop(hb0.view.loc (c : Thread nD τ) ↦[Finset.univ \ hb0.view.set]{fullShare} h)
abbrev fly1 (c : Dev nD) (g : MBuf F c sc4) (h : MBuf F c hb1) : sProp 𝕄 :=
  Transfers.Flight countersEmb (c : Thread nD τ) (SemLoc.dma ⟨16, by decide⟩) default 262144
    iprop((sc4.view.loc (c : Thread nD τ) ↦{fullShare} View.write (Elt F) sc4.view g (ReadAs.same.apply (View.read (Elt F) hb1.view h)) Finset.univ)
      ∗ hb1.view.loc (c : Thread nD τ) ↦[hb1.view.set]{fullShare} h)
/-- The part of the HBM buffer the transfer does not take. -/
abbrev off1 (c : Dev nD) (h : MBuf F c hb1) : sProp 𝕄 :=
  iprop(hb1.view.loc (c : Thread nD τ) ↦[Finset.univ \ hb1.view.set]{fullShare} h)
abbrev fly2 (c : Dev nD) (g : MBuf F c sc5) (h : MBuf F c hb2) : sProp 𝕄 :=
  Transfers.Flight countersEmb (c : Thread nD τ) (SemLoc.dma ⟨17, by decide⟩) default 262144
    iprop((sc5.view.loc (c : Thread nD τ) ↦{fullShare} View.write (Elt F) sc5.view g (ReadAs.same.apply (View.read (Elt F) hb2.view h)) Finset.univ)
      ∗ hb2.view.loc (c : Thread nD τ) ↦[hb2.view.set]{fullShare} h)
/-- The part of the HBM buffer the transfer does not take. -/
abbrev off2 (c : Dev nD) (h : MBuf F c hb2) : sProp 𝕄 :=
  iprop(hb2.view.loc (c : Thread nD τ) ↦[Finset.univ \ hb2.view.set]{fullShare} h)

/-- A step that starts no sequence, after the second. -/
noncomputable def proRun (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : ¬ cond1 i = 1#1) (n2 : ¬ cond2 i = 1#1) (n3 : ¬ cond3 i = 1#1) (f4 : MBuf F c arg4) (g0 : MBuf F c sc0) :
    { L : List (View.Piece (Elt F) S128x256 .f32) × (Σ' (arg0 : BitVec 32) (v9 : BitVec 32) (v22 : FVec F S640x256 .f32), FVec F S640x128 .f32) //
      ∀ (K : (Σ' (arg0 : BitVec 32) (v9 : BitVec 32) (v22 : FVec F S640x256 .f32), FVec F S640x128 .f32) → sProp 𝕄),
        iprop(own c arg4 f4 ∗ ownW c sc0 g0
            ∗ (iprop(own c arg4 f4 ∗ ownW c sc0 (sc0.view.writes (Elt F) g0 L.1)) -∗ K L.2))
          ⊢ wp frame (wpE (defs₀ (F := F)) Variants.none c none) Set.univ
              (k0_part61 (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) K } := by
  refine ⟨⟨?_, ⟨?_, ?_, ?_, ?_⟩⟩, fun  K => ?run⟩
  case run =>
    rw [k0_part61_eq_skeleton]; unfold k0_part61_skel
    unfold own ownW
    iintro ⟨H4, G0, Hk⟩
    sl_exec
    sl_step
    iapply Hk
    isplitl [H4]; · iexact H4
    iexact G0

/-- A step that starts a sequence, after the first. -/
noncomputable def proZeroRun (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : ¬ cond1 i = 1#1) (n2 : ¬ cond2 i = 1#1) (n3 : cond3 i = 1#1) (f4 : MBuf F c arg4)  :
    { L : List (View.Piece (Elt F) S128x256 .f32) × (Σ' (arg0 : BitVec 32) (v9 : BitVec 32) (v22 : FVec F S640x256 .f32), FVec F S640x128 .f32) //
      ∀ (g0 : MBuf F c sc0) (K : (Σ' (arg0 : BitVec 32) (v9 : BitVec 32) (v22 : FVec F S640x256 .f32), FVec F S640x128 .f32) → sProp 𝕄),
        iprop(own c arg4 f4 ∗ ownW c sc0 g0
            ∗ (iprop(own c arg4 f4 ∗ ownW c sc0 (sc0.view.writes (Elt F) g0 L.1)) -∗ K L.2))
          ⊢ wp frame (wpE (defs₀ (F := F)) Variants.none c none) Set.univ
              (k0_part61 (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) K } := by
  refine ⟨⟨?_, ⟨?_, ?_, ?_, ?_⟩⟩, fun g0 K => ?run⟩
  case run =>
    rw [k0_part61_eq_skeleton]; unfold k0_part61_skel
    unfold own ownW
    iintro ⟨H4, G0, Hk⟩
    sl_exec
    sl_step
    iapply Hk
    isplitl [H4]; · iexact H4
    iexact G0

/-- The first step: the three transfers of weights are started. -/
noncomputable def proStartRun (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : cond1 i = 1#1) (n2 : ¬ cond2 i = 1#1) (n3 : cond3 i = 1#1) (f4 : MBuf F c arg4) (h0 : MBuf F c hb0) (h1 : MBuf F c hb1) (h2 : MBuf F c hb2) :
    { L : List (View.Piece (Elt F) S128x256 .f32) × (Σ' (arg0 : BitVec 32) (v9 : BitVec 32) (v22 : FVec F S640x256 .f32), FVec F S640x128 .f32) //
      ∀ (g0 : MBuf F c sc0) (g3 : MBuf F c sc3) (g4 : MBuf F c sc4) (g5 : MBuf F c sc5) (K : (Σ' (arg0 : BitVec 32) (v9 : BitVec 32) (v22 : FVec F S640x256 .f32), FVec F S640x128 .f32) → sProp 𝕄),
        iprop(semVal ((c : Thread nD τ), SemLoc.dma 15) 0 ∗ semVal ((c : Thread nD τ), SemLoc.dma 16) 0 ∗ semVal ((c : Thread nD τ), SemLoc.dma 17) 0 ∗ ownW c hb0 h0 ∗ ownW c hb1 h1 ∗ ownW c hb2 h2 ∗ ownW c sc3 g3 ∗ ownW c sc4 g4 ∗ ownW c sc5 g5 ∗ own c arg4 f4 ∗ ownW c sc0 g0
            ∗ (iprop(fly0 c g3 h0 ∗ fly1 c g4 h1 ∗ fly2 c g5 h2 ∗ off0 c h0 ∗ off1 c h1 ∗ off2 c h2 ∗ own c arg4 f4 ∗ ownW c sc0 (sc0.view.writes (Elt F) g0 L.1)) -∗ K L.2))
          ⊢ wp frame (wpE (defs₀ (F := F)) Variants.none c none) Set.univ
              (k0_part61 (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) K } := by
  refine ⟨⟨?_, ⟨?_, ?_, ?_, ?_⟩⟩, fun g0 g3 g4 g5 K => ?run⟩
  case run =>
    rw [k0_part61_eq_skeleton]; unfold k0_part61_skel
    unfold own ownW
    iintro ⟨S0, S1, S2, B0, B1, B2, G3, G4, G5, H4, G0, Hk⟩
    sl_exec
    sl_step
    iapply Hk
    isplitl [S0]; · iexact S0
    isplitl [S1]; · iexact S1
    isplitl [S2]; · iexact S2
    isplitl [B0]; · iexact B0
    isplitl [B1]; · iexact B1
    isplitl [B2]; · iexact B2
    isplitl [H4]; · iexact H4
    iexact G0

/-- The second step: the weights are waited for. -/
noncomputable def proWaitRun (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : ¬ cond1 i = 1#1) (n2 : cond2 i = 1#1) (n3 : ¬ cond3 i = 1#1) (f4 : MBuf F c arg4) (g0 : MBuf F c sc0) :
    { L : List (View.Piece (Elt F) S128x256 .f32) × (Σ' (arg0 : BitVec 32) (v9 : BitVec 32) (v22 : FVec F S640x256 .f32), FVec F S640x128 .f32) //
      ∀ (h0 : MBuf F c hb0) (h1 : MBuf F c hb1) (h2 : MBuf F c hb2) (g3 : MBuf F c sc3) (g4 : MBuf F c sc4) (g5 : MBuf F c sc5) (W : Waits sig Unit) (K : (Σ' (arg0 : BitVec 32) (v9 : BitVec 32) (v22 : FVec F S640x256 .f32), FVec F S640x128 .f32) → sProp 𝕄),
        iprop(fly0 c g3 h0 ∗ fly1 c g4 h1 ∗ fly2 c g5 h2 ∗ off0 c h0 ∗ off1 c h1 ∗ off2 c h2 ∗ owes (c : Thread nD τ) 0 W ∗ own c arg4 f4 ∗ ownW c sc0 g0
            ∗ (iprop(semVal ((c : Thread nD τ), SemLoc.dma 15) 0 ∗ semVal ((c : Thread nD τ), SemLoc.dma 16) 0 ∗ semVal ((c : Thread nD τ), SemLoc.dma 17) 0 ∗ ownW c hb0 h0 ∗ ownW c hb1 h1 ∗ ownW c hb2 h2 ∗ ownW c sc3 (View.write (Elt F) sc3.view g3 (ReadAs.same.apply (View.read (Elt F) hb0.view h0)) Finset.univ) ∗ ownW c sc4 (View.write (Elt F) sc4.view g4 (ReadAs.same.apply (View.read (Elt F) hb1.view h1)) Finset.univ) ∗ ownW c sc5 (View.write (Elt F) sc5.view g5 (ReadAs.same.apply (View.read (Elt F) hb2.view h2)) Finset.univ) ∗ (∃ W', owes (c : Thread nD τ) 0 W') ∗ own c arg4 f4 ∗ ownW c sc0 (sc0.view.writes (Elt F) g0 L.1)) -∗ K L.2))
          ⊢ wp frame (wpE (defs₀ (F := F)) Variants.none c none) Set.univ
              (k0_part61 (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) K } := by
  refine ⟨⟨?_, ⟨?_, ?_, ?_, ?_⟩⟩, fun h0 h1 h2 g3 g4 g5 W K => ?run⟩
  case run =>
    rw [k0_part61_eq_skeleton]; unfold k0_part61_skel
    unfold own ownW
    iintro ⟨S0, S1, S2, B0, B1, B2, HW, H4, G0, Hk⟩
    sl_exec
    sl_step
    iapply Hk
    isplitl [S0]; · iexact S0
    isplitl [S1]; · iexact S1
    isplitl [S2]; · iexact S2
    isplitl [B0]; · iexact B0
    isplitl [B1]; · iexact B1
    isplitl [B2]; · iexact B2
    isplitl [S0_dst]; · iexact S0_dst
    isplitl [S1_dst]; · iexact S1_dst
    isplitl [S2_dst]; · iexact S2_dst
    isplitl [HW]; · iexists _; iexact HW
    isplitl [H4]; · iexact H4
    iexact G0

/-- A tile of keys and values, read whole. -/
abbrev allKV : Rect S512x256 := Rect.unit (s := S512x256) ![0, 0] S512x256.size inb_S512x256_S512x256_0_0
/-- The carried rows, read whole. -/
abbrev allPrev : Rect S128x256 := Rect.unit (s := S128x256) ![0, 0] S128x256.size inb_S128x256_S128x256_0_0

/-- The rows a tile leaves to the next: its last 128. -/
def carryOf (x4 : Vec F S512x256 .f32) : FVec F S128x256 .f32 := k0_pay336 (View.ld x4 allKV : FVec F S512x256 .f32)

/-- The window of keys and values of a tile, from the carried rows and the tile. -/
def kvOf (x4 : Vec F S512x256 .f32) (prev : FVec F S128x256 .f32) : FVec F S640x256 .f32 :=
  k0_pay335 (View.ld x4 allKV : FVec F S512x256 .f32) prev
/-- Its keys, scaled. -/
def keysScaled (x4 : Vec F S512x256 .f32) (prev : FVec F S128x256 .f32) : FVec F S640x128 .f32 :=
  k0_pay337 (View.ld x4 allKV : FVec F S512x256 .f32) prev
/-- No rows before the first tile of a sequence. -/
def noPrev : FVec F S128x256 .f32 := k0_pay333 (F := F)

theorem read_prev {sp : Space} (v : View sig .tc sp S128x256 .f32) (x : allPrev.shape.Idx → Elt F .f32) :
    v.readCov (Val := Elt F) [⟨allPrev, x⟩] allPrev.toLoadRect = x := View.readCov_cons_toLoadRect v allPrev x []

/-- The carried rows' buffer, last written whole, reads as what was written. -/
theorem prev_piece {sp : Space} (v : View sig .tc sp S128x256 .f32) (f : v.ty.Contents (Elt F)) (x : S128x256.Idx → Elt F .f32)
    (L : List (View.Piece (Elt F) S128x256 .f32)) : v.read (Elt F) (v.writes (Elt F) f (⟨allPrev, x⟩ :: L)) = x := by
  rw [View.read_writes_eq_canon v f _ (View.cover_of_wholeMem _ (View.Piece.wholeMem_here rfl))]
  exact View.canon_cons_unit_lit _ _ _ (by decide)

theorem proRun_carry (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole) (n1 : ¬ cond1 i = 1#1) (n2 : ¬ cond2 i = 1#1) (n3 : ¬ cond3 i = 1#1) (f4 : MBuf F c arg4) (g0 : MBuf F c sc0) (g : MBuf F c sc0) :
    sc0.view.read (Elt F) (sc0.view.writes (Elt F) g (proRun c i arg1 harg1 arg2 harg2 arg3 harg3 arg4 harg4 arg5 harg5 arg6 harg6 arg7 harg7 arg9 harg9 arg12 harg12 arg13 harg13 n1 n2 n3 f4 g0).1.1) = carryOf (arg4.view.read (Elt F) f4) :=
  prev_piece sc0.view g _ _

theorem proRun_ret (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole) (n1 : ¬ cond1 i = 1#1) (n2 : ¬ cond2 i = 1#1) (n3 : ¬ cond3 i = 1#1) (f4 : MBuf F c arg4) (g0 : MBuf F c sc0) :
    (proRun c i arg1 harg1 arg2 harg2 arg3 harg3 arg4 harg4 arg5 harg5 arg6 harg6 arg7 harg7 arg9 harg9 arg12 harg12 arg13 harg13 n1 n2 n3 f4 g0).1.2 = ⟨BitVec.ofNat 32 (i 0).val, place i, kvOf (arg4.view.read (Elt F) f4) (View.ld (sc0.view.read (Elt F) g0) allPrev), keysScaled (arg4.view.read (Elt F) f4) (View.ld (sc0.view.read (Elt F) g0) allPrev)⟩ := by
  rfl

theorem proWaitRun_carry (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole) (n1 : ¬ cond1 i = 1#1) (n2 : cond2 i = 1#1) (n3 : ¬ cond3 i = 1#1) (f4 : MBuf F c arg4) (g0 : MBuf F c sc0) (g : MBuf F c sc0) :
    sc0.view.read (Elt F) (sc0.view.writes (Elt F) g (proWaitRun c i arg1 harg1 arg2 harg2 arg3 harg3 arg4 harg4 arg5 harg5 arg6 harg6 arg7 harg7 arg9 harg9 arg12 harg12 arg13 harg13 n1 n2 n3 f4 g0).1.1) = carryOf (arg4.view.read (Elt F) f4) :=
  prev_piece sc0.view g _ _

theorem proWaitRun_ret (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole) (n1 : ¬ cond1 i = 1#1) (n2 : cond2 i = 1#1) (n3 : ¬ cond3 i = 1#1) (f4 : MBuf F c arg4) (g0 : MBuf F c sc0) :
    (proWaitRun c i arg1 harg1 arg2 harg2 arg3 harg3 arg4 harg4 arg5 harg5 arg6 harg6 arg7 harg7 arg9 harg9 arg12 harg12 arg13 harg13 n1 n2 n3 f4 g0).1.2 = ⟨BitVec.ofNat 32 (i 0).val, place i, kvOf (arg4.view.read (Elt F) f4) (View.ld (sc0.view.read (Elt F) g0) allPrev), keysScaled (arg4.view.read (Elt F) f4) (View.ld (sc0.view.read (Elt F) g0) allPrev)⟩ := by
  rfl

theorem proZeroRun_carry (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole) (n1 : ¬ cond1 i = 1#1) (n2 : ¬ cond2 i = 1#1) (n3 : cond3 i = 1#1) (f4 : MBuf F c arg4) (g : MBuf F c sc0) :
    sc0.view.read (Elt F) (sc0.view.writes (Elt F) g (proZeroRun c i arg1 harg1 arg2 harg2 arg3 harg3 arg4 harg4 arg5 harg5 arg6 harg6 arg7 harg7 arg9 harg9 arg12 harg12 arg13 harg13 n1 n2 n3 f4).1.1) = carryOf (arg4.view.read (Elt F) f4) :=
  prev_piece sc0.view g _ _

theorem proZeroRun_ret (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole) (n1 : ¬ cond1 i = 1#1) (n2 : ¬ cond2 i = 1#1) (n3 : cond3 i = 1#1) (f4 : MBuf F c arg4) :
    (proZeroRun c i arg1 harg1 arg2 harg2 arg3 harg3 arg4 harg4 arg5 harg5 arg6 harg6 arg7 harg7 arg9 harg9 arg12 harg12 arg13 harg13 n1 n2 n3 f4).1.2 = ⟨BitVec.ofNat 32 (i 0).val, place i, kvOf (arg4.view.read (Elt F) f4) noPrev, keysScaled (arg4.view.read (Elt F) f4) noPrev⟩ := by
  unfold noPrev kvOf keysScaled
  rw [← read_prev sc0.view (k0_pay333 (F := F))]
  rfl

theorem proStartRun_carry (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole) (n1 : cond1 i = 1#1) (n2 : ¬ cond2 i = 1#1) (n3 : cond3 i = 1#1) (f4 : MBuf F c arg4) (h0 : MBuf F c hb0) (h1 : MBuf F c hb1) (h2 : MBuf F c hb2) (g : MBuf F c sc0) :
    sc0.view.read (Elt F) (sc0.view.writes (Elt F) g (proStartRun c i arg1 harg1 arg2 harg2 arg3 harg3 arg4 harg4 arg5 harg5 arg6 harg6 arg7 harg7 arg9 harg9 arg12 harg12 arg13 harg13 n1 n2 n3 f4 h0 h1 h2).1.1) = carryOf (arg4.view.read (Elt F) f4) :=
  prev_piece sc0.view g _ _

theorem proStartRun_ret (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole) (n1 : cond1 i = 1#1) (n2 : ¬ cond2 i = 1#1) (n3 : cond3 i = 1#1) (f4 : MBuf F c arg4) (h0 : MBuf F c hb0) (h1 : MBuf F c hb1) (h2 : MBuf F c hb2) :
    (proStartRun c i arg1 harg1 arg2 harg2 arg3 harg3 arg4 harg4 arg5 harg5 arg6 harg6 arg7 harg7 arg9 harg9 arg12 harg12 arg13 harg13 n1 n2 n3 f4 h0 h1 h2).1.2 = ⟨BitVec.ofNat 32 (i 0).val, place i, kvOf (arg4.view.read (Elt F) f4) noPrev, keysScaled (arg4.view.read (Elt F) f4) noPrev⟩ := by
  unfold noPrev kvOf keysScaled
  rw [← read_prev sc0.view (k0_pay333 (F := F))]
  rfl

end Cert.KernelIdeal.Hand

end
-- ==== Proof.Unit.lean ====
/-
  What one unit of the attention computes, for any arithmetic: 128 rows of a tile against a window of 256 rows of keys
  and values, for four query heads at once; and the tile of 512 rows and 16 heads that the units' writes make up.
-/
module

public import proofs.«01_k».proof.Proof.Split
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

theorem blk_inb (i : Fin 4) (b : Fin 8) : ∀ a, (![128 * i.val, 128 * b.val] : Fin 2 → Nat) a + S128x128.size a ≤ S512x1024.size a := by
  revert i b; decide

/-- The block of 128 rows and two heads at block row `i`, block column `b`. -/
abbrev blk (i : Fin 4) (b : Fin 8) : Rect S512x1024 := Rect.unit (s := S512x1024) ![128 * i.val, 128 * b.val] S128x128.size (blk_inb i b)

/-- The block column of group `g` under key head `h`. -/
abbrev bcol (h : Fin 2) (g : Fin 4) : Fin 8 := ⟨4 * h.val + g.val, by omega⟩

/-- The queries of one unit: four blocks of two heads each, one under the other. -/
def qcat (x3 : Vec F S512x1024 .bf16) (i : Fin 4) (h : Fin 2) : FVec F S512x128 .bf16 :=
  concatenate S512x128 0
    [⟨S128x128, shapeCast S128x128 (View.ld x3 (blk i (bcol h 0)) : FVec F S128x128 .bf16) shapeCasts_S128x128_S128x128⟩,
     ⟨S128x128, shapeCast S128x128 (View.ld x3 (blk i (bcol h 1)) : FVec F S128x128 .bf16) shapeCasts_S128x128_S128x128⟩,
     ⟨S128x128, shapeCast S128x128 (View.ld x3 (blk i (bcol h 2)) : FVec F S128x128 .bf16) shapeCasts_S128x128_S128x128⟩,
     ⟨S128x128, shapeCast S128x128 (View.ld x3 (blk i (bcol h 3)) : FVec F S128x128 .bf16) shapeCasts_S128x128_S128x128⟩]
    concatenates_S128x128_S128x128_S128x128_S128x128_S512x128_d0

/-- The window of keys of block row `i`. -/
def kwin (K : FVec F S640x128 .bf16) (i : Fin 4) : FVec F S256x128 .bf16 :=
  match i with
  | 0 => extractStridedSlice S256x128 ![0, 0] K slices_S640x128_o0_0_S256x128
  | 1 => extractStridedSlice S256x128 ![128, 0] K slices_S640x128_o128_0_S256x128
  | 2 => extractStridedSlice S256x128 ![256, 0] K slices_S640x128_o256_0_S256x128
  | 3 => extractStridedSlice S256x128 ![384, 0] K slices_S640x128_o384_0_S256x128

/-- The window of values of block row `i`. -/
def vwin (V : FVec F S640x256 .bf16) (i : Fin 4) : FVec F S256x256 .bf16 :=
  match i with
  | 0 => extractStridedSlice S256x256 ![0, 0] V slices_S640x256_o0_0_S256x256
  | 1 => extractStridedSlice S256x256 ![128, 0] V slices_S640x256_o128_0_S256x256
  | 2 => extractStridedSlice S256x256 ![256, 0] V slices_S640x256_o256_0_S256x256
  | 3 => extractStridedSlice S256x256 ![384, 0] V slices_S640x256_o384_0_S256x256

theorem row_inb (n : Fin 2) : ∀ a, (![n.val, 0, 0] : Fin 3 → Nat) a + S1x512x256.size a ≤ S2x512x256.size a := by
  revert n; decide

/-- One of the two mask tables. -/
def maskRow (x2 : Vec F S2x512x256 .f32) (n : Fin 2) : FVec F S512x256 .f32 :=
  shapeCast S512x256 (View.ld x2 (Rect.unit (s := S2x512x256) ![n.val, 0, 0] S1x512x256.size (row_inb n)) : FVec F S1x512x256 .f32) shapeCasts_S1x512x256_S512x256

/-- The mask of block row `i` of a tile whose first block row has mask `b`. -/
def maskOf (x2 : Vec F S2x512x256 .f32) (b : FVec F S512x256 .f32) (i : Fin 4) : FVec F S512x256 .f32 :=
  match i with
  | 0 => b
  | 1 => maskRow x2 0
  | 2 => maskRow x2 0
  | 3 => maskRow x2 0

theorem sink_inb (n : Fin 16) : ∀ a, (![n.val] : Fin 1 → Nat) a + S1.size a ≤ S16.size a := by
  revert n; decide

/-- The sink of head `n`. -/
def sinkAt (x1 : Vec F S16 .f32) (n : Fin 16) : Elt F .f32 :=
  (View.ld x1 (Rect.unit (s := S16) ![n.val] S1.size (sink_inb n)) : Vec F S1 .f32)
    (Shape.Idx.first (numel1_S1.symm ▸ Nat.one_pos))

/-- The head of group `g`, key head `h`, parity `p`. -/
abbrev hd (h p : Fin 2) (g : Fin 4) : Fin 16 := ⟨8 * h.val + 2 * g.val + p.val, by omega⟩

/-- The sinks of a unit, spread over its rows. -/
def sinkCol (x1 : Vec F S16 .f32) (h p : Fin 2) : FVec F S512x128 .f32 :=
  concatenate S512x128 0
    [⟨S128x128, broadcast S128x128 (sinkAt x1 (hd h p 0))⟩, ⟨S128x128, broadcast S128x128 (sinkAt x1 (hd h p 1))⟩,
     ⟨S128x128, broadcast S128x128 (sinkAt x1 (hd h p 2))⟩, ⟨S128x128, broadcast S128x128 (sinkAt x1 (hd h p 3))⟩]
    concatenates_S128x128_S128x128_S128x128_S128x128_S512x128_d0

/-- The scores of a unit. -/
def scoreOf (q : FVec F S512x128 .bf16) (k : FVec F S256x128 .bf16) (b : FVec F S512x256 .f32) : FVec F S512x256 .f32 :=
  addf (matmul dot_S512x128_S256x128_S512x256_1_1_0_0_n_n none q k (constant S512x256 .f32 0x00000000#32)) b

/-- The largest of a row's scores and its sink. -/
def topOf (s : FVec F S512x256 .f32) (k : FVec F S512x128 .f32) : FVec F S512x128 .f32 :=
  maximumf (broadcastTo S512x128 (shapeCast S512x1 (shapeCast S512x1
    (multiReduction .maximumf [1] S512 s 0xFF800000#32 reduces_S512x256_S512 (.inl rfl) rfl)
    shapeCasts_S512_S512x1) shapeCasts_S512x1_S512x1) broadcasts_S512x1_S512x128) k

/-- The weights before the division. -/
def expOf (s : FVec F S512x256 .f32) (m : FVec F S512x128 .f32) : FVec F S512x256 .f32 :=
  concatenate S512x256 1
    [⟨S512x128, exp (subf (extractStridedSlice S512x128 ![0, 0] s slices_S512x256_o0_0_S512x128) m)⟩,
     ⟨S512x128, exp (subf (extractStridedSlice S512x128 ![0, 128] s slices_S512x256_o0_128_S512x128) m)⟩]
    concatenates_S512x128_S512x128_S512x256_d1

/-- The products of the weights with the values, beside the weights' sums. -/
def mixOf (e : FVec F S512x256 .f32) (v : FVec F S256x256 .bf16) : FVec F S512x256 .f32 :=
  matmul dot_S512x256_S256x256_S512x256_1_0_0_1_n_n none (truncf .bf16 e bitsLt_bf16_f32) v (constant S512x256 .f32 0x00000000#32)

/-- The quotient. -/
def quotOf (o : FVec F S512x256 .f32) (z : FVec F S512x128 .f32) : FVec F S512x128 .f32 :=
  divf (extractStridedSlice S512x128 ![0, 0] o slices_S512x256_o0_0_S512x128)
    (addf (extractStridedSlice S512x128 ![0, 128] o slices_S512x256_o0_128_S512x128) z)

/-- One unit: the softmax of its scores and sink against the window of values. -/
def unitOf (s : FVec F S512x256 .f32) (k : FVec F S512x128 .f32) (v : FVec F S256x256 .bf16) : FVec F S512x128 .f32 :=
  quotOf (mixOf (expOf s (topOf s k)) v) (exp (subf k (topOf s k)))

/-- The keys of key head `h` set into the lanes of parity `p`. -/
def keysOf (w29 : FVec F S640x128 .f32) (h p : Fin 2) : FVec F S640x128 .bf16 :=
  match h, p with
  | 0, 0 => k0_pay343 w29
  | 0, 1 => k0_pay344 w29
  | 1, 0 => k0_pay345 w29
  | 1, 1 => k0_pay346 w29

/-- The values likewise, beside ones. -/
def valsOf (w22 : FVec F S640x256 .f32) (h p : Fin 2) : FVec F S640x256 .bf16 :=
  match h, p with
  | 0, 0 => k0_pay347 w22
  | 0, 1 => k0_pay348 w22
  | 1, 0 => k0_pay349 w22
  | 1, 1 => k0_pay350 w22

/-- The unit of block row `i`, key head `h`, parity `p` of a tile. -/
def unit (w22 : FVec F S640x256 .f32) (w29 : FVec F S640x128 .f32) (x1 : Vec F S16 .f32) (x2 : Vec F S2x512x256 .f32)
    (x3 : Vec F S512x1024 .bf16) (b : FVec F S512x256 .f32) (i : Fin 4) (h p : Fin 2) : FVec F S512x128 .f32 :=
  unitOf (scoreOf (qcat x3 i h) (kwin (keysOf w29 h p) i) (maskOf x2 b i)) (sinkCol x1 h p) (vwin (valsOf w22 h p) i)

/-- The rows of group `g` of a unit. -/
def grp (A : FVec F S512x128 .f32) (g : Fin 4) : FVec F S128x128 .f32 :=
  match g with
  | 0 => extractStridedSlice S128x128 ![0, 0] A slices_S512x128_o0_0_S128x128
  | 1 => extractStridedSlice S128x128 ![128, 0] A slices_S512x128_o128_0_S128x128
  | 2 => extractStridedSlice S128x128 ![256, 0] A slices_S512x128_o256_0_S128x128
  | 3 => extractStridedSlice S128x128 ![384, 0] A slices_S512x128_o384_0_S128x128

/-- The four blocks a unit of even parity stores, the last first, over the pieces `L`. -/
def put (A : FVec F S512x128 .f32) (i : Fin 4) (h : Fin 2) (L : List (View.Piece (Elt F) S512x1024 .f32)) :
    List (View.Piece (Elt F) S512x1024 .f32) :=
  ⟨blk i (bcol h 3), shapeCast S128x128 (grp A 3) shapeCasts_S128x128_S128x128⟩ ::
  ⟨blk i (bcol h 2), shapeCast S128x128 (grp A 2) shapeCasts_S128x128_S128x128⟩ ::
  ⟨blk i (bcol h 1), shapeCast S128x128 (grp A 1) shapeCasts_S128x128_S128x128⟩ ::
  ⟨blk i (bcol h 0), shapeCast S128x128 (grp A 0) shapeCasts_S128x128_S128x128⟩ :: L

/-- A block the unit of odd parity stores: the even unit's with its own added. -/
def both (A B : FVec F S512x128 .f32) (g : Fin 4) : FVec F S128x128 .f32 :=
  shapeCast S128x128 (addf (shapeCast S128x128 (grp A g) shapeCasts_S128x128_S128x128) (grp B g)) shapeCasts_S128x128_S128x128

/-- The first `k` of the four blocks the unit of odd parity stores. -/
def putOdd (A B : FVec F S512x128 .f32) (i : Fin 4) (h : Fin 2) (L : List (View.Piece (Elt F) S512x1024 .f32)) :
    ℕ → List (View.Piece (Elt F) S512x1024 .f32)
  | 0 => put A i h L
  | 1 => ⟨blk i (bcol h 0), both A B 0⟩ :: put A i h L
  | 2 => ⟨blk i (bcol h 1), both A B 1⟩ :: ⟨blk i (bcol h 0), both A B 0⟩ :: put A i h L
  | 3 => ⟨blk i (bcol h 2), both A B 2⟩ :: ⟨blk i (bcol h 1), both A B 1⟩ :: ⟨blk i (bcol h 0), both A B 0⟩ :: put A i h L
  | _ => ⟨blk i (bcol h 3), both A B 3⟩ :: ⟨blk i (bcol h 2), both A B 2⟩ :: ⟨blk i (bcol h 1), both A B 1⟩ :: ⟨blk i (bcol h 0), both A B 0⟩ :: put A i h L

theorem blk_disj (i : Fin 4) (a b : Fin 8) (h : a ≠ b) : LoadRect.disj (blk i a) (blk i b).toLoadRect = true := by
  have : (∀ (i : Fin 4) (a b : Fin 8), a ≠ b → LoadRect.disj (blk i a) (blk i b).toLoadRect = true) := by decide +kernel
  exact this i a b h

/-- What the unit of odd parity reads of its block before storing it: the even unit's. -/
theorem read_odd (v : View sig .tc .vmem S512x1024 .f32) (A B : FVec F S512x128 .f32) (i : Fin 4) (h : Fin 2)
    (L : List (View.Piece (Elt F) S512x1024 .f32)) :
    v.readCov (putOdd A B i h L 0) (blk i (bcol h 0)).toLoadRect = shapeCast S128x128 (grp A 0) shapeCasts_S128x128_S128x128
    ∧ v.readCov (putOdd A B i h L 1) (blk i (bcol h 1)).toLoadRect = shapeCast S128x128 (grp A 1) shapeCasts_S128x128_S128x128
    ∧ v.readCov (putOdd A B i h L 2) (blk i (bcol h 2)).toLoadRect = shapeCast S128x128 (grp A 2) shapeCasts_S128x128_S128x128
    ∧ v.readCov (putOdd A B i h L 3) (blk i (bcol h 3)).toLoadRect = shapeCast S128x128 (grp A 3) shapeCasts_S128x128_S128x128 := by
  have ne : ∀ g g' : Fin 4, g ≠ g' → bcol h g ≠ bcol h g' := fun g g' hg e => hg (Fin.ext (by have := congrArg Fin.val e; simp only at this; omega))
  have sk : ∀ (g g' : Fin 4) (hg : g ≠ g') (w) (L : List (View.Piece (Elt F) S512x1024 .f32)),
      v.readCov (⟨blk i (bcol h g), w⟩ :: L) (blk i (bcol h g')).toLoadRect = v.readCov L (blk i (bcol h g')).toLoadRect :=
    fun g g' hg w L => View.readCov_skip v _ w L _ (blk_disj i _ _ (ne g g' hg))
  refine ⟨?_, ?_, ?_, ?_⟩
  · exact (sk 3 0 (by decide) _ _).trans <| (sk 2 0 (by decide) _ _).trans <| (sk 1 0 (by decide) _ _).trans <|
      View.readCov_cons_toLoadRect v _ _ _
  · exact (sk 0 1 (by decide) _ _).trans <| (sk 3 1 (by decide) _ _).trans <| (sk 2 1 (by decide) _ _).trans <|
      View.readCov_cons_toLoadRect v _ _ _
  · exact (sk 1 2 (by decide) _ _).trans <| (sk 0 2 (by decide) _ _).trans <| (sk 3 2 (by decide) _ _).trans <|
      View.readCov_cons_toLoadRect v _ _ _
  · exact (sk 2 3 (by decide) _ _).trans <| (sk 1 3 (by decide) _ _).trans <| (sk 0 3 (by decide) _ _).trans <|
      View.readCov_cons_toLoadRect v _ _ _
/-- The pieces of the first `k` pairs of units, the last first. -/
def pairList (U : Fin 4 → Fin 2 → Fin 2 → FVec F S512x128 .f32) : ℕ → List (View.Piece (Elt F) S512x1024 .f32)
  | 0 => []
  | k + 1 => putOdd (U ⟨k / 2 % 4, by omega⟩ ⟨k % 2, by omega⟩ 0) (U ⟨k / 2 % 4, by omega⟩ ⟨k % 2, by omega⟩ 1)
      ⟨k / 2 % 4, by omega⟩ ⟨k % 2, by omega⟩ (pairList U k) 4

end Cert.KernelIdeal.Hand

end
-- ==== Proof.Tile.lean ====
/-
  What a grid step computes of its tiles, for any arithmetic: the normalised attention output of a tile of 512 rows, and
  the output projection and MLP of one.
-/
module

public import proofs.«01_k».proof.Proof.Unit
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- A tile of 512 rows, read whole. -/
abbrev all512 : Rect S512x1024 := Rect.unit (s := S512x1024) ![0, 0] S512x1024.size inb_S512x1024_S512x1024_0_0
/-- A row of 1024, read whole. -/
abbrev allRow : Rect S1x1024 := Rect.unit (s := S1x1024) ![0, 0] S1x1024.size inb_S1x1024_S1x1024_0_0

/-- A buffer written whole by one store reads as what was stored. -/
theorem whole_piece {e : EltTy} {sp : Space} (v : View sig .tc sp S512x1024 e) (f : v.ty.Contents (Elt F)) (x : S512x1024.Idx → Elt F e) :
    v.read (Elt F) (v.writes (Elt F) f [⟨all512, x⟩]) = x := by
  rw [View.read_writes_eq_canon v f _ (View.cover_of_wholeMem _ (View.Piece.wholeMem_here rfl))]
  exact View.canon_cons_unit_lit _ _ _ (by decide)

/-- Each row divided by the root of its mean square, times a row of gains. -/
def rmsOf (v : FVec F S512x1024 .f32) (g : Vec F S1x1024 .f32) : FVec F S512x1024 .f32 :=
  mulf (mulf v (broadcastTo S512x1024 (rsqrt (addf (divf
      (shapeCast S512x1 (multiReduction .add [1] S512 (mulf v v) 0x00000000#32 reduces_S512x1024_S512 (.inl rfl) rfl) shapeCasts_S512_S512x1)
      (broadcast S512x1 (Scalar.ofBits .f32 0x44800000#32))) (broadcast S512x1 (Scalar.ofBits .f32 0x358637BD#32))))
      broadcasts_S512x1_S512x1024))
    (broadcastTo S512x1024 (shapeCast S1x1024 (View.ld g allRow : FVec F S1x1024 .f32) shapeCasts_S1x1024_S1x1024) broadcasts_S1x1024_S512x1024)

/-- The attention output of a tile, from its units. -/
def yOf (U : Fin 4 → Fin 2 → Fin 2 → FVec F S512x128 .f32) : FVec F S512x1024 .f32 :=
  View.ld (View.canon (pairList U 8)) all512

/-- Its normalised form. -/
def yaOf (U : Fin 4 → Fin 2 → Fin 2 → FVec F S512x128 .f32) (x5 : Vec F S1x1024 .f32) : FVec F S512x1024 .bf16 :=
  shapeCast S512x1024 (truncf .bf16 (rmsOf (yOf U) x5) bitsLt_bf16_f32) shapeCasts_S512x1024_S512x1024

/-- The stream after the output projection. -/
def residOf (x6 : Vec F S512x1024 .f32) (x7 ya : Vec F S512x1024 .bf16) (wo : Vec F S2048x1024 .bf16) : FVec F S512x1024 .f32 :=
  addf (shapeCast S512x1024 (View.ld x6 all512 : FVec F S512x1024 .f32) shapeCasts_S512x1024_S512x1024)
    (addf
      (matmul dot_S512x1024_S1024x1024_S512x1024_1_0_0_1_n_n none
        (shapeCast S512x1024 (View.ld x7 all512 : FVec F S512x1024 .bf16) shapeCasts_S512x1024_S512x1024)
        (View.ld wo (Rect.unit (s := S2048x1024) ![0, 0] S1024x1024.size inb_S2048x1024_S1024x1024_0_0) : FVec F S1024x1024 .bf16)
        (constant S512x1024 .f32 0x00000000#32))
      (matmul dot_S512x1024_S1024x1024_S512x1024_1_0_0_1_n_n none
        (View.ld ya all512 : FVec F S512x1024 .bf16)
        (View.ld wo (Rect.unit (s := S2048x1024) ![1024, 0] S1024x1024.size inb_S2048x1024_S1024x1024_1024_0) : FVec F S1024x1024 .bf16)
        (constant S512x1024 .f32 0x00000000#32)))

theorem up_inb (k : Fin 8) : ∀ a, (![0, 512 * k.val] : Fin 2 → Nat) a + S1024x512.size a ≤ S1024x4096.size a := by
  revert k; decide
theorem down_inb (k : Fin 8) : ∀ a, (![512 * k.val, 0] : Fin 2 → Nat) a + S512x1024.size a ≤ S4096x1024.size a := by
  revert k; decide

/-- One eighth of the MLP. -/
def eighth (hid : FVec F S512x1024 .bf16) (wu : Vec F S1024x4096 .bf16) (wd : Vec F S4096x1024 .bf16) (k : Fin 8) : FVec F S512x1024 .f32 :=
  let a := matmul dot_S512x1024_S1024x512_S512x512_1_0_0_1_n_n none hid
    (View.ld wu (Rect.unit (s := S1024x4096) ![0, 512 * k.val] S1024x512.size (up_inb k)) : FVec F S1024x512 .bf16)
    (constant S512x512 .f32 0x00000000#32)
  let b := maximumf a (broadcast S512x512 (Scalar.ofBits .f32 0x00000000#32))
  matmul dot_S512x512_S512x1024_S512x1024_1_0_0_1_n_n none (truncf .bf16 (mulf b b) bitsLt_bf16_f32)
    (View.ld wd (Rect.unit (s := S4096x1024) ![512 * k.val, 0] S512x1024.size (down_inb k)) : FVec F S512x1024 .bf16)
    (constant S512x1024 .f32 0x00000000#32)

/-- The MLP: its eighths, in order. -/
def mlpOf (hid : FVec F S512x1024 .bf16) (wu : Vec F S1024x4096 .bf16) (wd : Vec F S4096x1024 .bf16) : FVec F S512x1024 .f32 :=
  addf (addf (addf (addf (addf (addf (addf (eighth hid wu wd 0) (eighth hid wu wd 1)) (eighth hid wu wd 2)) (eighth hid wu wd 3))
    (eighth hid wu wd 4)) (eighth hid wu wd 5)) (eighth hid wu wd 6)) (eighth hid wu wd 7)

/-- The output block of a tile. -/
def outOf (x6 : Vec F S512x1024 .f32) (x7 : Vec F S512x1024 .bf16) (x9 x12 : Vec F S1x1024 .f32) (ya : Vec F S512x1024 .bf16)
    (wo : Vec F S2048x1024 .bf16) (wu : Vec F S1024x4096 .bf16) (wd : Vec F S4096x1024 .bf16) : FVec F S512x1024 .f32 :=
  rmsOf (addf (residOf x6 x7 ya wo) (mlpOf (truncf .bf16 (rmsOf (residOf x6 x7 ya wo) x9) bitsLt_bf16_f32) wu wd)) x12

end Cert.KernelIdeal.Hand

end
-- ==== Proof.AttnBranch.lean ====
/-
  The branch of the first grid step: attention only.
-/
module

public import proofs.«01_k».proof.Proof.Split
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- On the staged operands and scratch at any contents, the branch runs and leaves in the two attention scratches the
    pieces it stores; everything else is unchanged. -/
noncomputable def attnRun (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (h4 : k0_cond4 i = 1#1) (w0 w9 : BitVec 32) (w22 : FVec F S640x256 .f32) (w29 : FVec F S640x128 .f32)
    (f1 : MBuf F c arg1) (f2 : MBuf F c arg2) (f3 : MBuf F c arg3) (f5 : MBuf F c arg5) :
    { L : List (View.Piece (Elt F) S512x1024 .f32) × List (View.Piece (Elt F) S512x1024 .bf16) //
      ∀ (g1 : MBuf F c sc1) (g2 : MBuf F c sc2) (K : PUnit → sProp 𝕄),
        iprop(own c arg1 f1 ∗ own c arg2 f2 ∗ own c arg3 f3 ∗ own c arg5 f5 ∗ ownW c sc1 g1 ∗ ownW c sc2 g2
            ∗ (iprop(own c arg1 f1 ∗ own c arg2 f2 ∗ own c arg3 f3 ∗ own c arg5 f5 ∗ ownW c sc1 (sc1.view.writes (Elt F) g1 L.1) ∗ ownW c sc2 (sc2.view.writes (Elt F) g2 L.2)) -∗ K ⟨⟩))
          ⊢ wp frame (wpE (defs₀ (F := F)) Variants.none c none) Set.univ
              ((rest (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6).1 ⟨w0, w9, w22, w29⟩) K } := by
  refine ⟨⟨?_, ?_⟩, fun g1 g2 K => ?run⟩
  case run =>
    unfold rest
    dsimp only
    unfold own ownW
    iintro ⟨H1, H2, H3, H5, G1, G2, Hk⟩
    sl_exec
    sl_step
    iapply Hk
    isplitl [H1]; · iexact H1
    isplitl [H2]; · iexact H2
    isplitl [H3]; · iexact H3
    isplitl [H5]; · iexact H5
    isplitl [G1]; · iexact G1
    iexact G2

end Cert.KernelIdeal.Hand

end
-- ==== Proof.AttnPieces.lean ====
/-
  The pieces the first branch stores are the units of its tile.
-/
module

public import proofs.«01_k».proof.Proof.Split
public import proofs.«01_k».proof.Proof.Unit
public import proofs.«01_k».proof.Proof.AttnBranch
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section

variable (c : Dev nD) (i : grid0.Coords) (arg1 : Memref sig .tc .smem S16 .f32) (arg2 : Memref sig .tc .vmem S2x512x256 .f32)
  (arg3 : Memref sig .tc .vmem S512x1024 .bf16) (h4 : k0_cond4 i = 1#1)
  (w22 : FVec F S640x256 .f32) (w29 : FVec F S640x128 .f32) (f1 : MBuf F c arg1) (f2 : MBuf F c arg2) (f3 : MBuf F c arg3)

/-- The units of the tile the branch computes. -/
abbrev aU (bi : Fin 4) (h p : Fin 2) : FVec F S512x128 .f32 :=
  unit w22 w29 (arg1.view.read (Elt F) f1) (arg2.view.read (Elt F) f2) (arg3.view.read (Elt F) f3)
    (shapeCast S512x256 (View.ld (arg2.view.read (Elt F) f2) (Rect.unit (s := S2x512x256) (k0_off1 i) S1x512x256.size (k0_off1_inb i h4)) : FVec F S1x512x256 .f32) shapeCasts_S1x512x256_S512x256) bi h p

theorem ag4 : attnRun.sl.G1_4 c i arg1 arg2 arg3 h4 w22 w29 f1 f2 f3 = put (aU c i arg1 arg2 arg3 h4 w22 w29 f1 f2 f3 0 0 0) 0 0 (pairList (aU c i arg1 arg2 arg3 h4 w22 w29 f1 f2 f3) 0) := by
  unfold attnRun.sl.G1_4; rfl

theorem av0_0 : attnRun.sl.v200 c i arg1 arg2 arg3 h4 w22 w29 f1 f2 f3 = shapeCast S128x128 (grp (aU c i arg1 arg2 arg3 h4 w22 w29 f1 f2 f3 0 0 0) 0) shapeCasts_S128x128_S128x128 := by
  unfold attnRun.sl.v200; rw [ag4]; exact (read_odd sc1.view (aU c i arg1 arg2 arg3 h4 w22 w29 f1 f2 f3 0 0 0) (aU c i arg1 arg2 arg3 h4 w22 w29 f1 f2 f3 0 0 1) 0 0 (pairList (aU c i arg1 arg2 arg3 h4 w22 w29 f1 f2 f3) 0)).1

theorem ag5 : attnRun.sl.G1_5 c i arg1 arg2 arg3 h4 w22 w29 f1 f2 f3 = putOdd (aU c i arg1 arg2 arg3 h4 w22 w29 f1 f2 f3 0 0 0) (aU c i arg1 arg2 arg3 h4 w22 w29 f1 f2 f3 0 0 1) 0 0 (pairList (aU c i arg1 arg2 arg3 h4 w22 w29 f1 f2 f3) 0) 1 := by
  unfold attnRun.sl.G1_5; rw [av0_0, ag4]; rfl

theorem av0_1 : attnRun.sl.v206 c i arg1 arg2 arg3 h4 w22 w29 f1 f2 f3 = shapeCast S128x128 (grp (aU c i arg1 arg2 arg3 h4 w22 w29 f1 f2 f3 0 0 0) 1) shapeCasts_S128x128_S128x128 := by
  unfold attnRun.sl.v206; rw [ag5]; exact (read_odd sc1.view (aU c i arg1 arg2 arg3 h4 w22 w29 f1 f2 f3 0 0 0) (aU c i arg1 arg2 arg3 h4 w22 w29 f1 f2 f3 0 0 1) 0 0 (pairList (aU c i arg1 arg2 arg3 h4 w22 w29 f1 f2 f3) 0)).2.1

theorem ag6 : attnRun.sl.G1_6 c i arg1 arg2 arg3 h4 w22 w29 f1 f2 f3 = putOdd (aU c i arg1 arg2 arg3 h4 w22 w29 f1 f2 f3 0 0 0) (aU c i arg1 arg2 arg3 h4 w22 w29 f1 f2 f3 0 0 1) 0 0 (pairList (aU c i arg1 arg2 arg3 h4 w22 w29 f1 f2 f3) 0) 2 := by
  unfold attnRun.sl.G1_6; rw [av0_1, ag5]; rfl

theorem av0_2 : attnRun.sl.v212 c i arg1 arg2 arg3 h4 w22 w29 f1 f2 f3 = shapeCast S128x128 (grp (aU c i arg1 arg2 arg3 h4 w22 w29 f1 f2 f3 0 0 0) 2) shapeCasts_S128x128_S128x128 := by
  unfold attnRun.sl.v212; rw [ag6]; exact (read_odd sc1.view (aU c i arg1 arg2 arg3 h4 w22 w29 f1 f2 f3 0 0 0) (aU c i arg1 arg2 arg3 h4 w22 w29 f1 f2 f3 0 0 1) 0 0 (pairList (aU c i arg1 arg2 arg3 h4 w22 w29 f1 f2 f3) 0)).2.2.1

theorem ag7 : attnRun.sl.G1_7 c i arg1 arg2 arg3 h4 w22 w29 f1 f2 f3 = putOdd (aU c i arg1 arg2 arg3 h4 w22 w29 f1 f2 f3 0 0 0) (aU c i arg1 arg2 arg3 h4 w22 w29 f1 f2 f3 0 0 1) 0 0 (pairList (aU c i arg1 arg2 arg3 h4 w22 w29 f1 f2 f3) 0) 3 := by
  unfold attnRun.sl.G1_7; rw [av0_2, ag6]; rfl

theorem av0_3 : attnRun.sl.v218 c i arg1 arg2 arg3 h4 w22 w29 f1 f2 f3 = shapeCast S128x128 (grp (aU c i arg1 arg2 arg3 h4 w22 w29 f1 f2 f3 0 0 0) 3) shapeCasts_S128x128_S128x128 := by
  unfold attnRun.sl.v218; rw [ag7]; exact (read_odd sc1.view (aU c i arg1 arg2 arg3 h4 w22 w29 f1 f2 f3 0 0 0) (aU c i arg1 arg2 arg3 h4 w22 w29 f1 f2 f3 0 0 1) 0 0 (pairList (aU c i arg1 arg2 arg3 h4 w22 w29 f1 f2 f3) 0)).2.2.2

theorem ag12 : attnRun.sl.G1_12 c i arg1 arg2 arg3 h4 w22 w29 f1 f2 f3 = put (aU c i arg1 arg2 arg3 h4 w22 w29 f1 f2 f3 0 1 0) 0 1 (pairList (aU c i arg1 arg2 arg3 h4 w22 w29 f1 f2 f3) 1) := by
  unfold attnRun.sl.G1_12; rw [av0_3, ag7]; rfl

theorem av1_0 : attnRun.sl.v331 c i arg1 arg2 arg3 h4 w22 w29 f1 f2 f3 = shapeCast S128x128 (grp (aU c i arg1 arg2 arg3 h4 w22 w29 f1 f2 f3 0 1 0) 0) shapeCasts_S128x128_S128x128 := by
  unfold attnRun.sl.v331; rw [ag12]; exact (read_odd sc1.view (aU c i arg1 arg2 arg3 h4 w22 w29 f1 f2 f3 0 1 0) (aU c i arg1 arg2 arg3 h4 w22 w29 f1 f2 f3 0 1 1) 0 1 (pairList (aU c i arg1 arg2 arg3 h4 w22 w29 f1 f2 f3) 1)).1

theorem ag13 : attnRun.sl.G1_13 c i arg1 arg2 arg3 h4 w22 w29 f1 f2 f3 = putOdd (aU c i arg1 arg2 arg3 h4 w22 w29 f1 f2 f3 0 1 0) (aU c i arg1 arg2 arg3 h4 w22 w29 f1 f2 f3 0 1 1) 0 1 (pairList (aU c i arg1 arg2 arg3 h4 w22 w29 f1 f2 f3) 1) 1 := by
  unfold attnRun.sl.G1_13; rw [av1_0, ag12]; rfl

theorem av1_1 : attnRun.sl.v337 c i arg1 arg2 arg3 h4 w22 w29 f1 f2 f3 = shapeCast S128x128 (grp (aU c i arg1 arg2 arg3 h4 w22 w29 f1 f2 f3 0 1 0) 1) shapeCasts_S128x128_S128x128 := by
  unfold attnRun.sl.v337; rw [ag13]; exact (read_odd sc1.view (aU c i arg1 arg2 arg3 h4 w22 w29 f1 f2 f3 0 1 0) (aU c i arg1 arg2 arg3 h4 w22 w29 f1 f2 f3 0 1 1) 0 1 (pairList (aU c i arg1 arg2 arg3 h4 w22 w29 f1 f2 f3) 1)).2.1

theorem ag14 : attnRun.sl.G1_14 c i arg1 arg2 arg3 h4 w22 w29 f1 f2 f3 = putOdd (aU c i arg1 arg2 arg3 h4 w22 w29 f1 f2 f3 0 1 0) (aU c i arg1 arg2 arg3 h4 w22 w29 f1 f2 f3 0 1 1) 0 1 (pairList (aU c i arg1 arg2 arg3 h4 w22 w29 f1 f2 f3) 1) 2 := by
  unfold attnRun.sl.G1_14; rw [av1_1, ag13]; rfl

theorem av1_2 : attnRun.sl.v343 c i arg1 arg2 arg3 h4 w22 w29 f1 f2 f3 = shapeCast S128x128 (grp (aU c i arg1 arg2 arg3 h4 w22 w29 f1 f2 f3 0 1 0) 2) shapeCasts_S128x128_S128x128 := by
  unfold attnRun.sl.v343; rw [ag14]; exact (read_odd sc1.view (aU c i arg1 arg2 arg3 h4 w22 w29 f1 f2 f3 0 1 0) (aU c i arg1 arg2 arg3 h4 w22 w29 f1 f2 f3 0 1 1) 0 1 (pairList (aU c i arg1 arg2 arg3 h4 w22 w29 f1 f2 f3) 1)).2.2.1

theorem ag15 : attnRun.sl.G1_15 c i arg1 arg2 arg3 h4 w22 w29 f1 f2 f3 = putOdd (aU c i arg1 arg2 arg3 h4 w22 w29 f1 f2 f3 0 1 0) (aU c i arg1 arg2 arg3 h4 w22 w29 f1 f2 f3 0 1 1) 0 1 (pairList (aU c i arg1 arg2 arg3 h4 w22 w29 f1 f2 f3) 1) 3 := by
  unfold attnRun.sl.G1_15; rw [av1_2, ag14]; rfl

theorem av1_3 : attnRun.sl.v349 c i arg1 arg2 arg3 h4 w22 w29 f1 f2 f3 = shapeCast S128x128 (grp (aU c i arg1 arg2 arg3 h4 w22 w29 f1 f2 f3 0 1 0) 3) shapeCasts_S128x128_S128x128 := by
  unfold attnRun.sl.v349; rw [ag15]; exact (read_odd sc1.view (aU c i arg1 arg2 arg3 h4 w22 w29 f1 f2 f3 0 1 0) (aU c i arg1 arg2 arg3 h4 w22 w29 f1 f2 f3 0 1 1) 0 1 (pairList (aU c i arg1 arg2 arg3 h4 w22 w29 f1 f2 f3) 1)).2.2.2

theorem ag20 : attnRun.sl.G1_20 c i arg1 arg2 arg3 h4 w22 w29 f1 f2 f3 = put (aU c i arg1 arg2 arg3 h4 w22 w29 f1 f2 f3 1 0 0) 1 0 (pairList (aU c i arg1 arg2 arg3 h4 w22 w29 f1 f2 f3) 2) := by
  unfold attnRun.sl.G1_20; rw [av1_3, ag15]; rfl

theorem av2_0 : attnRun.sl.v459 c i arg1 arg2 arg3 h4 w22 w29 f1 f2 f3 = shapeCast S128x128 (grp (aU c i arg1 arg2 arg3 h4 w22 w29 f1 f2 f3 1 0 0) 0) shapeCasts_S128x128_S128x128 := by
  unfold attnRun.sl.v459; rw [ag20]; exact (read_odd sc1.view (aU c i arg1 arg2 arg3 h4 w22 w29 f1 f2 f3 1 0 0) (aU c i arg1 arg2 arg3 h4 w22 w29 f1 f2 f3 1 0 1) 1 0 (pairList (aU c i arg1 arg2 arg3 h4 w22 w29 f1 f2 f3) 2)).1

theorem ag21 : attnRun.sl.G1_21 c i arg1 arg2 arg3 h4 w22 w29 f1 f2 f3 = putOdd (aU c i arg1 arg2 arg3 h4 w22 w29 f1 f2 f3 1 0 0) (aU c i arg1 arg2 arg3 h4 w22 w29 f1 f2 f3 1 0 1) 1 0 (pairList (aU c i arg1 arg2 arg3 h4 w22 w29 f1 f2 f3) 2) 1 := by
  unfold attnRun.sl.G1_21 attnRun.sl.r_42; rw [av2_0, ag20]; rfl

theorem av2_1 : attnRun.sl.v465 c i arg1 arg2 arg3 h4 w22 w29 f1 f2 f3 = shapeCast S128x128 (grp (aU c i arg1 arg2 arg3 h4 w22 w29 f1 f2 f3 1 0 0) 1) shapeCasts_S128x128_S128x128 := by
  unfold attnRun.sl.v465; rw [ag21]; exact (read_odd sc1.view (aU c i arg1 arg2 arg3 h4 w22 w29 f1 f2 f3 1 0 0) (aU c i arg1 arg2 arg3 h4 w22 w29 f1 f2 f3 1 0 1) 1 0 (pairList (aU c i arg1 arg2 arg3 h4 w22 w29 f1 f2 f3) 2)).2.1

theorem ag22 : attnRun.sl.G1_22 c i arg1 arg2 arg3 h4 w22 w29 f1 f2 f3 = putOdd (aU c i arg1 arg2 arg3 h4 w22 w29 f1 f2 f3 1 0 0) (aU c i arg1 arg2 arg3 h4 w22 w29 f1 f2 f3 1 0 1) 1 0 (pairList (aU c i arg1 arg2 arg3 h4 w22 w29 f1 f2 f3) 2) 2 := by
  unfold attnRun.sl.G1_22; rw [av2_1, ag21]; rfl

theorem av2_2 : attnRun.sl.v471 c i arg1 arg2 arg3 h4 w22 w29 f1 f2 f3 = shapeCast S128x128 (grp (aU c i arg1 arg2 arg3 h4 w22 w29 f1 f2 f3 1 0 0) 2) shapeCasts_S128x128_S128x128 := by
  unfold attnRun.sl.v471; rw [ag22]; exact (read_odd sc1.view (aU c i arg1 arg2 arg3 h4 w22 w29 f1 f2 f3 1 0 0) (aU c i arg1 arg2 arg3 h4 w22 w29 f1 f2 f3 1 0 1) 1 0 (pairList (aU c i arg1 arg2 arg3 h4 w22 w29 f1 f2 f3) 2)).2.2.1

theorem ag23 : attnRun.sl.G1_23 c i arg1 arg2 arg3 h4 w22 w29 f1 f2 f3 = putOdd (aU c i arg1 arg2 arg3 h4 w22 w29 f1 f2 f3 1 0 0) (aU c i arg1 arg2 arg3 h4 w22 w29 f1 f2 f3 1 0 1) 1 0 (pairList (aU c i arg1 arg2 arg3 h4 w22 w29 f1 f2 f3) 2) 3 := by
  unfold attnRun.sl.G1_23; rw [av2_2, ag22]; rfl

theorem av2_3 : attnRun.sl.v477 c i arg1 arg2 arg3 h4 w22 w29 f1 f2 f3 = shapeCast S128x128 (grp (aU c i arg1 arg2 arg3 h4 w22 w29 f1 f2 f3 1 0 0) 3) shapeCasts_S128x128_S128x128 := by
  unfold attnRun.sl.v477; rw [ag23]; exact (read_odd sc1.view (aU c i arg1 arg2 arg3 h4 w22 w29 f1 f2 f3 1 0 0) (aU c i arg1 arg2 arg3 h4 w22 w29 f1 f2 f3 1 0 1) 1 0 (pairList (aU c i arg1 arg2 arg3 h4 w22 w29 f1 f2 f3) 2)).2.2.2

theorem ag28 : attnRun.sl.G1_28 c i arg1 arg2 arg3 h4 w22 w29 f1 f2 f3 = put (aU c i arg1 arg2 arg3 h4 w22 w29 f1 f2 f3 1 1 0) 1 1 (pairList (aU c i arg1 arg2 arg3 h4 w22 w29 f1 f2 f3) 3) := by
  unfold attnRun.sl.G1_28; rw [av2_3, ag23]; rfl

theorem av3_0 : attnRun.sl.v587 c i arg1 arg2 arg3 h4 w22 w29 f1 f2 f3 = shapeCast S128x128 (grp (aU c i arg1 arg2 arg3 h4 w22 w29 f1 f2 f3 1 1 0) 0) shapeCasts_S128x128_S128x128 := by
  unfold attnRun.sl.v587; rw [ag28]; exact (read_odd sc1.view (aU c i arg1 arg2 arg3 h4 w22 w29 f1 f2 f3 1 1 0) (aU c i arg1 arg2 arg3 h4 w22 w29 f1 f2 f3 1 1 1) 1 1 (pairList (aU c i arg1 arg2 arg3 h4 w22 w29 f1 f2 f3) 3)).1

theorem ag29 : attnRun.sl.G1_29 c i arg1 arg2 arg3 h4 w22 w29 f1 f2 f3 = putOdd (aU c i arg1 arg2 arg3 h4 w22 w29 f1 f2 f3 1 1 0) (aU c i arg1 arg2 arg3 h4 w22 w29 f1 f2 f3 1 1 1) 1 1 (pairList (aU c i arg1 arg2 arg3 h4 w22 w29 f1 f2 f3) 3) 1 := by
  unfold attnRun.sl.G1_29; rw [av3_0, ag28]; rfl

theorem av3_1 : attnRun.sl.v593 c i arg1 arg2 arg3 h4 w22 w29 f1 f2 f3 = shapeCast S128x128 (grp (aU c i arg1 arg2 arg3 h4 w22 w29 f1 f2 f3 1 1 0) 1) shapeCasts_S128x128_S128x128 := by
  unfold attnRun.sl.v593; rw [ag29]; exact (read_odd sc1.view (aU c i arg1 arg2 arg3 h4 w22 w29 f1 f2 f3 1 1 0) (aU c i arg1 arg2 arg3 h4 w22 w29 f1 f2 f3 1 1 1) 1 1 (pairList (aU c i arg1 arg2 arg3 h4 w22 w29 f1 f2 f3) 3)).2.1

theorem ag30 : attnRun.sl.G1_30 c i arg1 arg2 arg3 h4 w22 w29 f1 f2 f3 = putOdd (aU c i arg1 arg2 arg3 h4 w22 w29 f1 f2 f3 1 1 0) (aU c i arg1 arg2 arg3 h4 w22 w29 f1 f2 f3 1 1 1) 1 1 (pairList (aU c i arg1 arg2 arg3 h4 w22 w29 f1 f2 f3) 3) 2 := by
  unfold attnRun.sl.G1_30; rw [av3_1, ag29]; rfl

theorem av3_2 : attnRun.sl.v599 c i arg1 arg2 arg3 h4 w22 w29 f1 f2 f3 = shapeCast S128x128 (grp (aU c i arg1 arg2 arg3 h4 w22 w29 f1 f2 f3 1 1 0) 2) shapeCasts_S128x128_S128x128 := by
  unfold attnRun.sl.v599; rw [ag30]; exact (read_odd sc1.view (aU c i arg1 arg2 arg3 h4 w22 w29 f1 f2 f3 1 1 0) (aU c i arg1 arg2 arg3 h4 w22 w29 f1 f2 f3 1 1 1) 1 1 (pairList (aU c i arg1 arg2 arg3 h4 w22 w29 f1 f2 f3) 3)).2.2.1

theorem ag31 : attnRun.sl.G1_31 c i arg1 arg2 arg3 h4 w22 w29 f1 f2 f3 = putOdd (aU c i arg1 arg2 arg3 h4 w22 w29 f1 f2 f3 1 1 0) (aU c i arg1 arg2 arg3 h4 w22 w29 f1 f2 f3 1 1 1) 1 1 (pairList (aU c i arg1 arg2 arg3 h4 w22 w29 f1 f2 f3) 3) 3 := by
  unfold attnRun.sl.G1_31; rw [av3_2, ag30]; rfl

theorem av3_3 : attnRun.sl.v605 c i arg1 arg2 arg3 h4 w22 w29 f1 f2 f3 = shapeCast S128x128 (grp (aU c i arg1 arg2 arg3 h4 w22 w29 f1 f2 f3 1 1 0) 3) shapeCasts_S128x128_S128x128 := by
  unfold attnRun.sl.v605; rw [ag31]; exact (read_odd sc1.view (aU c i arg1 arg2 arg3 h4 w22 w29 f1 f2 f3 1 1 0) (aU c i arg1 arg2 arg3 h4 w22 w29 f1 f2 f3 1 1 1) 1 1 (pairList (aU c i arg1 arg2 arg3 h4 w22 w29 f1 f2 f3) 3)).2.2.2

theorem ag36 : attnRun.sl.G1_36 c i arg1 arg2 arg3 h4 w22 w29 f1 f2 f3 = put (aU c i arg1 arg2 arg3 h4 w22 w29 f1 f2 f3 2 0 0) 2 0 (pairList (aU c i arg1 arg2 arg3 h4 w22 w29 f1 f2 f3) 4) := by
  unfold attnRun.sl.G1_36; rw [av3_3, ag31]; rfl

theorem av4_0 : attnRun.sl.v715 c i arg1 arg2 arg3 h4 w22 w29 f1 f2 f3 = shapeCast S128x128 (grp (aU c i arg1 arg2 arg3 h4 w22 w29 f1 f2 f3 2 0 0) 0) shapeCasts_S128x128_S128x128 := by
  unfold attnRun.sl.v715; rw [ag36]; exact (read_odd sc1.view (aU c i arg1 arg2 arg3 h4 w22 w29 f1 f2 f3 2 0 0) (aU c i arg1 arg2 arg3 h4 w22 w29 f1 f2 f3 2 0 1) 2 0 (pairList (aU c i arg1 arg2 arg3 h4 w22 w29 f1 f2 f3) 4)).1

theorem ag37 : attnRun.sl.G1_37 c i arg1 arg2 arg3 h4 w22 w29 f1 f2 f3 = putOdd (aU c i arg1 arg2 arg3 h4 w22 w29 f1 f2 f3 2 0 0) (aU c i arg1 arg2 arg3 h4 w22 w29 f1 f2 f3 2 0 1) 2 0 (pairList (aU c i arg1 arg2 arg3 h4 w22 w29 f1 f2 f3) 4) 1 := by
  unfold attnRun.sl.G1_37; rw [av4_0, ag36]; rfl

theorem av4_1 : attnRun.sl.v721 c i arg1 arg2 arg3 h4 w22 w29 f1 f2 f3 = shapeCast S128x128 (grp (aU c i arg1 arg2 arg3 h4 w22 w29 f1 f2 f3 2 0 0) 1) shapeCasts_S128x128_S128x128 := by
  unfold attnRun.sl.v721; rw [ag37]; exact (read_odd sc1.view (aU c i arg1 arg2 arg3 h4 w22 w29 f1 f2 f3 2 0 0) (aU c i arg1 arg2 arg3 h4 w22 w29 f1 f2 f3 2 0 1) 2 0 (pairList (aU c i arg1 arg2 arg3 h4 w22 w29 f1 f2 f3) 4)).2.1

theorem ag38 : attnRun.sl.G1_38 c i arg1 arg2 arg3 h4 w22 w29 f1 f2 f3 = putOdd (aU c i arg1 arg2 arg3 h4 w22 w29 f1 f2 f3 2 0 0) (aU c i arg1 arg2 arg3 h4 w22 w29 f1 f2 f3 2 0 1) 2 0 (pairList (aU c i arg1 arg2 arg3 h4 w22 w29 f1 f2 f3) 4) 2 := by
  unfold attnRun.sl.G1_38; rw [av4_1, ag37]; rfl

theorem av4_2 : attnRun.sl.v727 c i arg1 arg2 arg3 h4 w22 w29 f1 f2 f3 = shapeCast S128x128 (grp (aU c i arg1 arg2 arg3 h4 w22 w29 f1 f2 f3 2 0 0) 2) shapeCasts_S128x128_S128x128 := by
  unfold attnRun.sl.v727; rw [ag38]; exact (read_odd sc1.view (aU c i arg1 arg2 arg3 h4 w22 w29 f1 f2 f3 2 0 0) (aU c i arg1 arg2 arg3 h4 w22 w29 f1 f2 f3 2 0 1) 2 0 (pairList (aU c i arg1 arg2 arg3 h4 w22 w29 f1 f2 f3) 4)).2.2.1

theorem ag39 : attnRun.sl.G1_39 c i arg1 arg2 arg3 h4 w22 w29 f1 f2 f3 = putOdd (aU c i arg1 arg2 arg3 h4 w22 w29 f1 f2 f3 2 0 0) (aU c i arg1 arg2 arg3 h4 w22 w29 f1 f2 f3 2 0 1) 2 0 (pairList (aU c i arg1 arg2 arg3 h4 w22 w29 f1 f2 f3) 4) 3 := by
  unfold attnRun.sl.G1_39; rw [av4_2, ag38]; rfl

theorem av4_3 : attnRun.sl.v733 c i arg1 arg2 arg3 h4 w22 w29 f1 f2 f3 = shapeCast S128x128 (grp (aU c i arg1 arg2 arg3 h4 w22 w29 f1 f2 f3 2 0 0) 3) shapeCasts_S128x128_S128x128 := by
  unfold attnRun.sl.v733; rw [ag39]; exact (read_odd sc1.view (aU c i arg1 arg2 arg3 h4 w22 w29 f1 f2 f3 2 0 0) (aU c i arg1 arg2 arg3 h4 w22 w29 f1 f2 f3 2 0 1) 2 0 (pairList (aU c i arg1 arg2 arg3 h4 w22 w29 f1 f2 f3) 4)).2.2.2

theorem ag44 : attnRun.sl.G1_44 c i arg1 arg2 arg3 h4 w22 w29 f1 f2 f3 = put (aU c i arg1 arg2 arg3 h4 w22 w29 f1 f2 f3 2 1 0) 2 1 (pairList (aU c i arg1 arg2 arg3 h4 w22 w29 f1 f2 f3) 5) := by
  unfold attnRun.sl.G1_44 attnRun.sl.r_56; rw [av4_3, ag39]; rfl

theorem av5_0 : attnRun.sl.v843 c i arg1 arg2 arg3 h4 w22 w29 f1 f2 f3 = shapeCast S128x128 (grp (aU c i arg1 arg2 arg3 h4 w22 w29 f1 f2 f3 2 1 0) 0) shapeCasts_S128x128_S128x128 := by
  unfold attnRun.sl.v843; rw [ag44]; exact (read_odd sc1.view (aU c i arg1 arg2 arg3 h4 w22 w29 f1 f2 f3 2 1 0) (aU c i arg1 arg2 arg3 h4 w22 w29 f1 f2 f3 2 1 1) 2 1 (pairList (aU c i arg1 arg2 arg3 h4 w22 w29 f1 f2 f3) 5)).1

theorem ag45 : attnRun.sl.G1_45 c i arg1 arg2 arg3 h4 w22 w29 f1 f2 f3 = putOdd (aU c i arg1 arg2 arg3 h4 w22 w29 f1 f2 f3 2 1 0) (aU c i arg1 arg2 arg3 h4 w22 w29 f1 f2 f3 2 1 1) 2 1 (pairList (aU c i arg1 arg2 arg3 h4 w22 w29 f1 f2 f3) 5) 1 := by
  unfold attnRun.sl.G1_45; rw [av5_0, ag44]; rfl

theorem av5_1 : attnRun.sl.v849 c i arg1 arg2 arg3 h4 w22 w29 f1 f2 f3 = shapeCast S128x128 (grp (aU c i arg1 arg2 arg3 h4 w22 w29 f1 f2 f3 2 1 0) 1) shapeCasts_S128x128_S128x128 := by
  unfold attnRun.sl.v849; rw [ag45]; exact (read_odd sc1.view (aU c i arg1 arg2 arg3 h4 w22 w29 f1 f2 f3 2 1 0) (aU c i arg1 arg2 arg3 h4 w22 w29 f1 f2 f3 2 1 1) 2 1 (pairList (aU c i arg1 arg2 arg3 h4 w22 w29 f1 f2 f3) 5)).2.1

theorem ag46 : attnRun.sl.G1_46 c i arg1 arg2 arg3 h4 w22 w29 f1 f2 f3 = putOdd (aU c i arg1 arg2 arg3 h4 w22 w29 f1 f2 f3 2 1 0) (aU c i arg1 arg2 arg3 h4 w22 w29 f1 f2 f3 2 1 1) 2 1 (pairList (aU c i arg1 arg2 arg3 h4 w22 w29 f1 f2 f3) 5) 2 := by
  unfold attnRun.sl.G1_46; rw [av5_1, ag45]; rfl

theorem av5_2 : attnRun.sl.v855 c i arg1 arg2 arg3 h4 w22 w29 f1 f2 f3 = shapeCast S128x128 (grp (aU c i arg1 arg2 arg3 h4 w22 w29 f1 f2 f3 2 1 0) 2) shapeCasts_S128x128_S128x128 := by
  unfold attnRun.sl.v855; rw [ag46]; exact (read_odd sc1.view (aU c i arg1 arg2 arg3 h4 w22 w29 f1 f2 f3 2 1 0) (aU c i arg1 arg2 arg3 h4 w22 w29 f1 f2 f3 2 1 1) 2 1 (pairList (aU c i arg1 arg2 arg3 h4 w22 w29 f1 f2 f3) 5)).2.2.1

theorem ag47 : attnRun.sl.G1_47 c i arg1 arg2 arg3 h4 w22 w29 f1 f2 f3 = putOdd (aU c i arg1 arg2 arg3 h4 w22 w29 f1 f2 f3 2 1 0) (aU c i arg1 arg2 arg3 h4 w22 w29 f1 f2 f3 2 1 1) 2 1 (pairList (aU c i arg1 arg2 arg3 h4 w22 w29 f1 f2 f3) 5) 3 := by
  unfold attnRun.sl.G1_47; rw [av5_2, ag46]; rfl

theorem av5_3 : attnRun.sl.v861 c i arg1 arg2 arg3 h4 w22 w29 f1 f2 f3 = shapeCast S128x128 (grp (aU c i arg1 arg2 arg3 h4 w22 w29 f1 f2 f3 2 1 0) 3) shapeCasts_S128x128_S128x128 := by
  unfold attnRun.sl.v861; rw [ag47]; exact (read_odd sc1.view (aU c i arg1 arg2 arg3 h4 w22 w29 f1 f2 f3 2 1 0) (aU c i arg1 arg2 arg3 h4 w22 w29 f1 f2 f3 2 1 1) 2 1 (pairList (aU c i arg1 arg2 arg3 h4 w22 w29 f1 f2 f3) 5)).2.2.2

theorem ag52 : attnRun.sl.G1_52 c i arg1 arg2 arg3 h4 w22 w29 f1 f2 f3 = put (aU c i arg1 arg2 arg3 h4 w22 w29 f1 f2 f3 3 0 0) 3 0 (pairList (aU c i arg1 arg2 arg3 h4 w22 w29 f1 f2 f3) 6) := by
  unfold attnRun.sl.G1_52; rw [av5_3, ag47]; rfl

theorem av6_0 : attnRun.sl.v971 c i arg1 arg2 arg3 h4 w22 w29 f1 f2 f3 = shapeCast S128x128 (grp (aU c i arg1 arg2 arg3 h4 w22 w29 f1 f2 f3 3 0 0) 0) shapeCasts_S128x128_S128x128 := by
  unfold attnRun.sl.v971; rw [ag52]; exact (read_odd sc1.view (aU c i arg1 arg2 arg3 h4 w22 w29 f1 f2 f3 3 0 0) (aU c i arg1 arg2 arg3 h4 w22 w29 f1 f2 f3 3 0 1) 3 0 (pairList (aU c i arg1 arg2 arg3 h4 w22 w29 f1 f2 f3) 6)).1

theorem ag53 : attnRun.sl.G1_53 c i arg1 arg2 arg3 h4 w22 w29 f1 f2 f3 = putOdd (aU c i arg1 arg2 arg3 h4 w22 w29 f1 f2 f3 3 0 0) (aU c i arg1 arg2 arg3 h4 w22 w29 f1 f2 f3 3 0 1) 3 0 (pairList (aU c i arg1 arg2 arg3 h4 w22 w29 f1 f2 f3) 6) 1 := by
  unfold attnRun.sl.G1_53 attnRun.sl.r_74; rw [av6_0, ag52]; rfl

theorem av6_1 : attnRun.sl.v977 c i arg1 arg2 arg3 h4 w22 w29 f1 f2 f3 = shapeCast S128x128 (grp (aU c i arg1 arg2 arg3 h4 w22 w29 f1 f2 f3 3 0 0) 1) shapeCasts_S128x128_S128x128 := by
  unfold attnRun.sl.v977; rw [ag53]; exact (read_odd sc1.view (aU c i arg1 arg2 arg3 h4 w22 w29 f1 f2 f3 3 0 0) (aU c i arg1 arg2 arg3 h4 w22 w29 f1 f2 f3 3 0 1) 3 0 (pairList (aU c i arg1 arg2 arg3 h4 w22 w29 f1 f2 f3) 6)).2.1

theorem ag54 : attnRun.sl.G1_54 c i arg1 arg2 arg3 h4 w22 w29 f1 f2 f3 = putOdd (aU c i arg1 arg2 arg3 h4 w22 w29 f1 f2 f3 3 0 0) (aU c i arg1 arg2 arg3 h4 w22 w29 f1 f2 f3 3 0 1) 3 0 (pairList (aU c i arg1 arg2 arg3 h4 w22 w29 f1 f2 f3) 6) 2 := by
  unfold attnRun.sl.G1_54; rw [av6_1, ag53]; rfl

theorem av6_2 : attnRun.sl.v983 c i arg1 arg2 arg3 h4 w22 w29 f1 f2 f3 = shapeCast S128x128 (grp (aU c i arg1 arg2 arg3 h4 w22 w29 f1 f2 f3 3 0 0) 2) shapeCasts_S128x128_S128x128 := by
  unfold attnRun.sl.v983; rw [ag54]; exact (read_odd sc1.view (aU c i arg1 arg2 arg3 h4 w22 w29 f1 f2 f3 3 0 0) (aU c i arg1 arg2 arg3 h4 w22 w29 f1 f2 f3 3 0 1) 3 0 (pairList (aU c i arg1 arg2 arg3 h4 w22 w29 f1 f2 f3) 6)).2.2.1

theorem ag55 : attnRun.sl.G1_55 c i arg1 arg2 arg3 h4 w22 w29 f1 f2 f3 = putOdd (aU c i arg1 arg2 arg3 h4 w22 w29 f1 f2 f3 3 0 0) (aU c i arg1 arg2 arg3 h4 w22 w29 f1 f2 f3 3 0 1) 3 0 (pairList (aU c i arg1 arg2 arg3 h4 w22 w29 f1 f2 f3) 6) 3 := by
  unfold attnRun.sl.G1_55; rw [av6_2, ag54]; rfl

theorem av6_3 : attnRun.sl.v989 c i arg1 arg2 arg3 h4 w22 w29 f1 f2 f3 = shapeCast S128x128 (grp (aU c i arg1 arg2 arg3 h4 w22 w29 f1 f2 f3 3 0 0) 3) shapeCasts_S128x128_S128x128 := by
  unfold attnRun.sl.v989; rw [ag55]; exact (read_odd sc1.view (aU c i arg1 arg2 arg3 h4 w22 w29 f1 f2 f3 3 0 0) (aU c i arg1 arg2 arg3 h4 w22 w29 f1 f2 f3 3 0 1) 3 0 (pairList (aU c i arg1 arg2 arg3 h4 w22 w29 f1 f2 f3) 6)).2.2.2

theorem ag60 : attnRun.sl.G1_60 c i arg1 arg2 arg3 h4 w22 w29 f1 f2 f3 = put (aU c i arg1 arg2 arg3 h4 w22 w29 f1 f2 f3 3 1 0) 3 1 (pairList (aU c i arg1 arg2 arg3 h4 w22 w29 f1 f2 f3) 7) := by
  unfold attnRun.sl.G1_60; rw [av6_3, ag55]; rfl

theorem av7_0 : attnRun.sl.v1085 c i arg1 arg2 arg3 h4 w22 w29 f1 f2 f3 = shapeCast S128x128 (grp (aU c i arg1 arg2 arg3 h4 w22 w29 f1 f2 f3 3 1 0) 0) shapeCasts_S128x128_S128x128 := by
  unfold attnRun.sl.v1085; rw [ag60]; exact (read_odd sc1.view (aU c i arg1 arg2 arg3 h4 w22 w29 f1 f2 f3 3 1 0) (aU c i arg1 arg2 arg3 h4 w22 w29 f1 f2 f3 3 1 1) 3 1 (pairList (aU c i arg1 arg2 arg3 h4 w22 w29 f1 f2 f3) 7)).1

theorem ag61 : attnRun.sl.G1_61 c i arg1 arg2 arg3 h4 w22 w29 f1 f2 f3 = putOdd (aU c i arg1 arg2 arg3 h4 w22 w29 f1 f2 f3 3 1 0) (aU c i arg1 arg2 arg3 h4 w22 w29 f1 f2 f3 3 1 1) 3 1 (pairList (aU c i arg1 arg2 arg3 h4 w22 w29 f1 f2 f3) 7) 1 := by
  unfold attnRun.sl.G1_61; rw [av7_0, ag60]; rfl

theorem av7_1 : attnRun.sl.v1091 c i arg1 arg2 arg3 h4 w22 w29 f1 f2 f3 = shapeCast S128x128 (grp (aU c i arg1 arg2 arg3 h4 w22 w29 f1 f2 f3 3 1 0) 1) shapeCasts_S128x128_S128x128 := by
  unfold attnRun.sl.v1091; rw [ag61]; exact (read_odd sc1.view (aU c i arg1 arg2 arg3 h4 w22 w29 f1 f2 f3 3 1 0) (aU c i arg1 arg2 arg3 h4 w22 w29 f1 f2 f3 3 1 1) 3 1 (pairList (aU c i arg1 arg2 arg3 h4 w22 w29 f1 f2 f3) 7)).2.1

theorem ag62 : attnRun.sl.G1_62 c i arg1 arg2 arg3 h4 w22 w29 f1 f2 f3 = putOdd (aU c i arg1 arg2 arg3 h4 w22 w29 f1 f2 f3 3 1 0) (aU c i arg1 arg2 arg3 h4 w22 w29 f1 f2 f3 3 1 1) 3 1 (pairList (aU c i arg1 arg2 arg3 h4 w22 w29 f1 f2 f3) 7) 2 := by
  unfold attnRun.sl.G1_62 attnRun.sl.r_81; rw [av7_1, ag61]; rfl

theorem av7_2 : attnRun.sl.v1097 c i arg1 arg2 arg3 h4 w22 w29 f1 f2 f3 = shapeCast S128x128 (grp (aU c i arg1 arg2 arg3 h4 w22 w29 f1 f2 f3 3 1 0) 2) shapeCasts_S128x128_S128x128 := by
  unfold attnRun.sl.v1097; rw [ag62]; exact (read_odd sc1.view (aU c i arg1 arg2 arg3 h4 w22 w29 f1 f2 f3 3 1 0) (aU c i arg1 arg2 arg3 h4 w22 w29 f1 f2 f3 3 1 1) 3 1 (pairList (aU c i arg1 arg2 arg3 h4 w22 w29 f1 f2 f3) 7)).2.2.1

theorem ag63 : attnRun.sl.G1_63 c i arg1 arg2 arg3 h4 w22 w29 f1 f2 f3 = putOdd (aU c i arg1 arg2 arg3 h4 w22 w29 f1 f2 f3 3 1 0) (aU c i arg1 arg2 arg3 h4 w22 w29 f1 f2 f3 3 1 1) 3 1 (pairList (aU c i arg1 arg2 arg3 h4 w22 w29 f1 f2 f3) 7) 3 := by
  unfold attnRun.sl.G1_63; rw [av7_2, ag62]; rfl

theorem av7_3 : attnRun.sl.v1103 c i arg1 arg2 arg3 h4 w22 w29 f1 f2 f3 = shapeCast S128x128 (grp (aU c i arg1 arg2 arg3 h4 w22 w29 f1 f2 f3 3 1 0) 3) shapeCasts_S128x128_S128x128 := by
  unfold attnRun.sl.v1103; rw [ag63]; exact (read_odd sc1.view (aU c i arg1 arg2 arg3 h4 w22 w29 f1 f2 f3 3 1 0) (aU c i arg1 arg2 arg3 h4 w22 w29 f1 f2 f3 3 1 1) 3 1 (pairList (aU c i arg1 arg2 arg3 h4 w22 w29 f1 f2 f3) 7)).2.2.2

theorem ag64 : attnRun.sl.G1_64 c i arg1 arg2 arg3 h4 w22 w29 f1 f2 f3 = putOdd (aU c i arg1 arg2 arg3 h4 w22 w29 f1 f2 f3 3 1 0) (aU c i arg1 arg2 arg3 h4 w22 w29 f1 f2 f3 3 1 1) 3 1 (pairList (aU c i arg1 arg2 arg3 h4 w22 w29 f1 f2 f3) 7) 4 := by
  unfold attnRun.sl.G1_64; rw [av7_3, ag63]; rfl

/-- The branch's writes to the attention scratch are the eight pairs of units. -/
theorem alist : attnRun.sl.G1_64 c i arg1 arg2 arg3 h4 w22 w29 f1 f2 f3 = pairList (aU c i arg1 arg2 arg3 h4 w22 w29 f1 f2 f3) 8 := ag64 c i arg1 arg2 arg3 h4 w22 w29 f1 f2 f3

end

end Cert.KernelIdeal.Hand

end
-- ==== Proof.AttnVals.lean ====
/-
  The values the first branch stores.
-/
module

public import proofs.«01_k».proof.Proof.Tile
public import proofs.«01_k».proof.Proof.AttnPieces
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section

variable (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
  (h4 : k0_cond4 i = 1#1) (w0 w9 : BitVec 32) (w22 : FVec F S640x256 .f32) (w29 : FVec F S640x128 .f32) (f1 : MBuf F c arg1) (f2 : MBuf F c arg2) (f3 : MBuf F c arg3) (f5 : MBuf F c arg5)

/-- What it leaves in the second attention scratch. -/
theorem a_ya (g : MBuf F c sc2) : sc2.view.read (Elt F) (sc2.view.writes (Elt F) g (attnRun c i arg1 harg1 arg2 harg2 arg3 harg3 arg4 harg4 arg5 harg5 arg6 harg6 arg7 harg7 arg9 harg9 arg12 harg12 arg13 harg13 h4 w0 w9 w22 w29 f1 f2 f3 f5).1.2) = yaOf (aU c i arg1 arg2 arg3 h4 w22 w29 f1 f2 f3) (arg5.view.read (Elt F) f5) := by
  refine (whole_piece sc2.view g _).trans ?_
  have e : attnRun.sl.v1108 c i arg1 arg2 arg3 h4 w22 w29 f1 f2 f3 = yOf (aU c i arg1 arg2 arg3 h4 w22 w29 f1 f2 f3) := by
    unfold attnRun.sl.v1108; rw [alist]; exact View.readCov_eq_canon' _ _ _
  rw [e]; rfl

end

end Cert.KernelIdeal.Hand

end
-- ==== Proof.MlpBranch.lean ====
/-
  The branch of the last grid step: output projection and MLP only.
-/
module

public import proofs.«01_k».proof.Proof.Split
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- On the staged operands and scratch at any contents, the branch runs and leaves in the output block the piece it
    stores; everything else is unchanged. -/
noncomputable def mlpRun (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (h4 : ¬ k0_cond4 i = 1#1) (h5 : k0_cond5 i = 1#1) (w0 w9 : BitVec 32) (w22 : FVec F S640x256 .f32) (w29 : FVec F S640x128 .f32)
    (f6 : MBuf F c arg6) (f7 : MBuf F c arg7) (f9 : MBuf F c arg9) (f12 : MBuf F c arg12) (g2 : MBuf F c sc2) (g3 : MBuf F c sc3) (g4 : MBuf F c sc4) (g5 : MBuf F c sc5) :
    { L : List (View.Piece (Elt F) S512x1024 .f32) //
      ∀ (f13 : MBuf F c arg13) (K : PUnit → sProp 𝕄),
        iprop(own c arg6 f6 ∗ own c arg7 f7 ∗ own c arg9 f9 ∗ own c arg12 f12 ∗ own c arg13 f13 ∗ ownW c sc2 g2 ∗ ownW c sc3 g3 ∗ ownW c sc4 g4 ∗ ownW c sc5 g5
            ∗ (iprop(own c arg6 f6 ∗ own c arg7 f7 ∗ own c arg9 f9 ∗ own c arg12 f12 ∗ own c arg13 (arg13.view.writes (Elt F) f13 L) ∗ ownW c sc2 g2 ∗ ownW c sc3 g3 ∗ ownW c sc4 g4 ∗ ownW c sc5 g5) -∗ K ⟨⟩))
          ⊢ wp frame (wpE (defs₀ (F := F)) Variants.none c none) Set.univ
              ((rest (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6).1 ⟨w0, w9, w22, w29⟩) K } := by
  refine ⟨?_, fun f13 K => ?run⟩
  case run =>
    unfold rest
    dsimp only
    unfold own ownW
    iintro ⟨H6, H7, H9, H12, H13, G2, G3, G4, G5, Hk⟩
    sl_exec
    sl_step
    iapply Hk
    isplitl [H6]; · iexact H6
    isplitl [H7]; · iexact H7
    isplitl [H9]; · iexact H9
    isplitl [H12]; · iexact H12
    isplitl [H13]; · iexact H13
    isplitl [G2]; · iexact G2
    isplitl [G3]; · iexact G3
    isplitl [G4]; · iexact G4
    iexact G5

end Cert.KernelIdeal.Hand

end
-- ==== Proof.MlpVals.lean ====
/-
  The values the last branch stores.
-/
module

public import proofs.«01_k».proof.Proof.Tile
public import proofs.«01_k».proof.Proof.MlpBranch
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section

variable (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
  (h4 : ¬ k0_cond4 i = 1#1) (h5 : k0_cond5 i = 1#1) (w0 w9 : BitVec 32) (w22 : FVec F S640x256 .f32) (w29 : FVec F S640x128 .f32) (f6 : MBuf F c arg6) (f7 : MBuf F c arg7) (f9 : MBuf F c arg9) (f12 : MBuf F c arg12) (g2 : MBuf F c sc2) (g3 : MBuf F c sc3) (g4 : MBuf F c sc4) (g5 : MBuf F c sc5)

/-- What it leaves in the output block. -/
theorem m_out (f : MBuf F c arg13) : arg13.view.read (Elt F) (arg13.view.writes (Elt F) f (mlpRun c i arg1 harg1 arg2 harg2 arg3 harg3 arg4 harg4 arg5 harg5 arg6 harg6 arg7 harg7 arg9 harg9 arg12 harg12 arg13 harg13 h4 h5 w0 w9 w22 w29 f6 f7 f9 f12 g2 g3 g4 g5).1) = outOf (arg6.view.read (Elt F) f6) (arg7.view.read (Elt F) f7) (arg9.view.read (Elt F) f9) (arg12.view.read (Elt F) f12) (sc2.view.read (Elt F) g2) (sc3.view.read (Elt F) g3) (sc4.view.read (Elt F) g4) (sc5.view.read (Elt F) g5) := by
  refine (whole_piece arg13.view f _).trans ?_
  rfl

end

end Cert.KernelIdeal.Hand

end
-- ==== Proof.BothBranch.lean ====
/-
  The branch of the grid steps in between: attention of this tile, output projection and MLP of the previous one.
-/
module

public import proofs.«01_k».proof.Proof.Split
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- On the staged operands and scratch at any contents, the branch runs and leaves in the output block and in the two
    attention scratches the pieces it stores; everything else is unchanged. -/
noncomputable def bothRun (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (h4 : ¬ k0_cond4 i = 1#1) (h5 : ¬ k0_cond5 i = 1#1) (w0 w9 : BitVec 32) (w22 : FVec F S640x256 .f32) (w29 : FVec F S640x128 .f32)
    (f1 : MBuf F c arg1) (f2 : MBuf F c arg2) (f3 : MBuf F c arg3) (f5 : MBuf F c arg5) (f6 : MBuf F c arg6) (f7 : MBuf F c arg7) (f9 : MBuf F c arg9) (f12 : MBuf F c arg12) (g2 : MBuf F c sc2) (g3 : MBuf F c sc3) (g4 : MBuf F c sc4) (g5 : MBuf F c sc5) :
    { L : List (View.Piece (Elt F) S512x1024 .f32) × List (View.Piece (Elt F) S512x1024 .f32) × List (View.Piece (Elt F) S512x1024 .bf16) //
      ∀ (g1 : MBuf F c sc1) (f13 : MBuf F c arg13) (K : PUnit → sProp 𝕄),
        iprop(own c arg1 f1 ∗ own c arg2 f2 ∗ own c arg3 f3 ∗ own c arg5 f5 ∗ ownW c sc1 g1 ∗ own c arg6 f6 ∗ own c arg7 f7 ∗ own c arg9 f9 ∗ own c arg12 f12 ∗ own c arg13 f13 ∗ ownW c sc2 g2 ∗ ownW c sc3 g3 ∗ ownW c sc4 g4 ∗ ownW c sc5 g5
            ∗ (iprop(own c arg1 f1 ∗ own c arg2 f2 ∗ own c arg3 f3 ∗ own c arg5 f5 ∗ ownW c sc1 (sc1.view.writes (Elt F) g1 L.2.1) ∗ own c arg6 f6 ∗ own c arg7 f7 ∗ own c arg9 f9 ∗ own c arg12 f12 ∗ own c arg13 (arg13.view.writes (Elt F) f13 L.1) ∗ ownW c sc2 (sc2.view.writes (Elt F) g2 L.2.2) ∗ ownW c sc3 g3 ∗ ownW c sc4 g4 ∗ ownW c sc5 g5) -∗ K ⟨⟩))
          ⊢ wp frame (wpE (defs₀ (F := F)) Variants.none c none) Set.univ
              ((rest (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6).1 ⟨w0, w9, w22, w29⟩) K } := by
  refine ⟨⟨?_, ?_, ?_⟩, fun g1 f13 K => ?run⟩
  case run =>
    unfold rest
    dsimp only
    unfold own ownW
    iintro ⟨H1, H2, H3, H5, G1, H6, H7, H9, H12, H13, G2, G3, G4, G5, Hk⟩
    sl_exec
    sl_step
    iapply Hk
    isplitl [H1]; · iexact H1
    isplitl [H2]; · iexact H2
    isplitl [H3]; · iexact H3
    isplitl [H5]; · iexact H5
    isplitl [G1]; · iexact G1
    isplitl [H6]; · iexact H6
    isplitl [H7]; · iexact H7
    isplitl [H9]; · iexact H9
    isplitl [H12]; · iexact H12
    isplitl [H13]; · iexact H13
    isplitl [G2]; · iexact G2
    isplitl [G3]; · iexact G3
    isplitl [G4]; · iexact G4
    iexact G5

end Cert.KernelIdeal.Hand

end
-- ==== Proof.BothPieces.lean ====
/-
  The pieces the branch in between stores are the units of its tile.
-/
module

public import proofs.«01_k».proof.Proof.Split
public import proofs.«01_k».proof.Proof.Unit
public import proofs.«01_k».proof.Proof.BothBranch
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section

variable (c : Dev nD) (i : grid0.Coords) (arg1 : Memref sig .tc .smem S16 .f32) (arg2 : Memref sig .tc .vmem S2x512x256 .f32)
  (arg3 : Memref sig .tc .vmem S512x1024 .bf16) (h4 : ¬ k0_cond4 i = 1#1) (h5 : ¬ k0_cond5 i = 1#1)
  (w22 : FVec F S640x256 .f32) (w29 : FVec F S640x128 .f32) (f1 : MBuf F c arg1) (f2 : MBuf F c arg2) (f3 : MBuf F c arg3)

/-- The units of the tile the branch computes. -/
abbrev bU (bi : Fin 4) (h p : Fin 2) : FVec F S512x128 .f32 :=
  unit w22 w29 (arg1.view.read (Elt F) f1) (arg2.view.read (Elt F) f2) (arg3.view.read (Elt F) f3)
    (shapeCast S512x256 (View.ld (arg2.view.read (Elt F) f2) (Rect.unit (s := S2x512x256) (k0_off2 i) S1x512x256.size (k0_off2_inb i h4 h5)) : FVec F S1x512x256 .f32) shapeCasts_S1x512x256_S512x256) bi h p

theorem bg4 : bothRun.sl.G1_4 c i arg1 arg2 arg3 h4 h5 w22 w29 f1 f2 f3 = put (bU c i arg1 arg2 arg3 h4 h5 w22 w29 f1 f2 f3 0 0 0) 0 0 (pairList (bU c i arg1 arg2 arg3 h4 h5 w22 w29 f1 f2 f3) 0) := by
  unfold bothRun.sl.G1_4; rfl

theorem bv0_0 : bothRun.sl.v235 c i arg1 arg2 arg3 h4 h5 w22 w29 f1 f2 f3 = shapeCast S128x128 (grp (bU c i arg1 arg2 arg3 h4 h5 w22 w29 f1 f2 f3 0 0 0) 0) shapeCasts_S128x128_S128x128 := by
  unfold bothRun.sl.v235; rw [bg4]; exact (read_odd sc1.view (bU c i arg1 arg2 arg3 h4 h5 w22 w29 f1 f2 f3 0 0 0) (bU c i arg1 arg2 arg3 h4 h5 w22 w29 f1 f2 f3 0 0 1) 0 0 (pairList (bU c i arg1 arg2 arg3 h4 h5 w22 w29 f1 f2 f3) 0)).1

theorem bg5 : bothRun.sl.G1_5 c i arg1 arg2 arg3 h4 h5 w22 w29 f1 f2 f3 = putOdd (bU c i arg1 arg2 arg3 h4 h5 w22 w29 f1 f2 f3 0 0 0) (bU c i arg1 arg2 arg3 h4 h5 w22 w29 f1 f2 f3 0 0 1) 0 0 (pairList (bU c i arg1 arg2 arg3 h4 h5 w22 w29 f1 f2 f3) 0) 1 := by
  unfold bothRun.sl.G1_5; rw [bv0_0, bg4]; rfl

theorem bv0_1 : bothRun.sl.v241 c i arg1 arg2 arg3 h4 h5 w22 w29 f1 f2 f3 = shapeCast S128x128 (grp (bU c i arg1 arg2 arg3 h4 h5 w22 w29 f1 f2 f3 0 0 0) 1) shapeCasts_S128x128_S128x128 := by
  unfold bothRun.sl.v241; rw [bg5]; exact (read_odd sc1.view (bU c i arg1 arg2 arg3 h4 h5 w22 w29 f1 f2 f3 0 0 0) (bU c i arg1 arg2 arg3 h4 h5 w22 w29 f1 f2 f3 0 0 1) 0 0 (pairList (bU c i arg1 arg2 arg3 h4 h5 w22 w29 f1 f2 f3) 0)).2.1

theorem bg6 : bothRun.sl.G1_6 c i arg1 arg2 arg3 h4 h5 w22 w29 f1 f2 f3 = putOdd (bU c i arg1 arg2 arg3 h4 h5 w22 w29 f1 f2 f3 0 0 0) (bU c i arg1 arg2 arg3 h4 h5 w22 w29 f1 f2 f3 0 0 1) 0 0 (pairList (bU c i arg1 arg2 arg3 h4 h5 w22 w29 f1 f2 f3) 0) 2 := by
  unfold bothRun.sl.G1_6; rw [bv0_1, bg5]; rfl

theorem bv0_2 : bothRun.sl.v247 c i arg1 arg2 arg3 h4 h5 w22 w29 f1 f2 f3 = shapeCast S128x128 (grp (bU c i arg1 arg2 arg3 h4 h5 w22 w29 f1 f2 f3 0 0 0) 2) shapeCasts_S128x128_S128x128 := by
  unfold bothRun.sl.v247; rw [bg6]; exact (read_odd sc1.view (bU c i arg1 arg2 arg3 h4 h5 w22 w29 f1 f2 f3 0 0 0) (bU c i arg1 arg2 arg3 h4 h5 w22 w29 f1 f2 f3 0 0 1) 0 0 (pairList (bU c i arg1 arg2 arg3 h4 h5 w22 w29 f1 f2 f3) 0)).2.2.1

theorem bg7 : bothRun.sl.G1_7 c i arg1 arg2 arg3 h4 h5 w22 w29 f1 f2 f3 = putOdd (bU c i arg1 arg2 arg3 h4 h5 w22 w29 f1 f2 f3 0 0 0) (bU c i arg1 arg2 arg3 h4 h5 w22 w29 f1 f2 f3 0 0 1) 0 0 (pairList (bU c i arg1 arg2 arg3 h4 h5 w22 w29 f1 f2 f3) 0) 3 := by
  unfold bothRun.sl.G1_7; rw [bv0_2, bg6]; rfl

theorem bv0_3 : bothRun.sl.v253 c i arg1 arg2 arg3 h4 h5 w22 w29 f1 f2 f3 = shapeCast S128x128 (grp (bU c i arg1 arg2 arg3 h4 h5 w22 w29 f1 f2 f3 0 0 0) 3) shapeCasts_S128x128_S128x128 := by
  unfold bothRun.sl.v253; rw [bg7]; exact (read_odd sc1.view (bU c i arg1 arg2 arg3 h4 h5 w22 w29 f1 f2 f3 0 0 0) (bU c i arg1 arg2 arg3 h4 h5 w22 w29 f1 f2 f3 0 0 1) 0 0 (pairList (bU c i arg1 arg2 arg3 h4 h5 w22 w29 f1 f2 f3) 0)).2.2.2

theorem bg12 : bothRun.sl.G1_12 c i arg1 arg2 arg3 h4 h5 w22 w29 f1 f2 f3 = put (bU c i arg1 arg2 arg3 h4 h5 w22 w29 f1 f2 f3 0 1 0) 0 1 (pairList (bU c i arg1 arg2 arg3 h4 h5 w22 w29 f1 f2 f3) 1) := by
  unfold bothRun.sl.G1_12; rw [bv0_3, bg7]; rfl

theorem bv1_0 : bothRun.sl.v374 c i arg1 arg2 arg3 h4 h5 w22 w29 f1 f2 f3 = shapeCast S128x128 (grp (bU c i arg1 arg2 arg3 h4 h5 w22 w29 f1 f2 f3 0 1 0) 0) shapeCasts_S128x128_S128x128 := by
  unfold bothRun.sl.v374; rw [bg12]; exact (read_odd sc1.view (bU c i arg1 arg2 arg3 h4 h5 w22 w29 f1 f2 f3 0 1 0) (bU c i arg1 arg2 arg3 h4 h5 w22 w29 f1 f2 f3 0 1 1) 0 1 (pairList (bU c i arg1 arg2 arg3 h4 h5 w22 w29 f1 f2 f3) 1)).1

theorem bg13 : bothRun.sl.G1_13 c i arg1 arg2 arg3 h4 h5 w22 w29 f1 f2 f3 = putOdd (bU c i arg1 arg2 arg3 h4 h5 w22 w29 f1 f2 f3 0 1 0) (bU c i arg1 arg2 arg3 h4 h5 w22 w29 f1 f2 f3 0 1 1) 0 1 (pairList (bU c i arg1 arg2 arg3 h4 h5 w22 w29 f1 f2 f3) 1) 1 := by
  unfold bothRun.sl.G1_13; rw [bv1_0, bg12]; rfl

theorem bv1_1 : bothRun.sl.v380 c i arg1 arg2 arg3 h4 h5 w22 w29 f1 f2 f3 = shapeCast S128x128 (grp (bU c i arg1 arg2 arg3 h4 h5 w22 w29 f1 f2 f3 0 1 0) 1) shapeCasts_S128x128_S128x128 := by
  unfold bothRun.sl.v380; rw [bg13]; exact (read_odd sc1.view (bU c i arg1 arg2 arg3 h4 h5 w22 w29 f1 f2 f3 0 1 0) (bU c i arg1 arg2 arg3 h4 h5 w22 w29 f1 f2 f3 0 1 1) 0 1 (pairList (bU c i arg1 arg2 arg3 h4 h5 w22 w29 f1 f2 f3) 1)).2.1

theorem bg14 : bothRun.sl.G1_14 c i arg1 arg2 arg3 h4 h5 w22 w29 f1 f2 f3 = putOdd (bU c i arg1 arg2 arg3 h4 h5 w22 w29 f1 f2 f3 0 1 0) (bU c i arg1 arg2 arg3 h4 h5 w22 w29 f1 f2 f3 0 1 1) 0 1 (pairList (bU c i arg1 arg2 arg3 h4 h5 w22 w29 f1 f2 f3) 1) 2 := by
  unfold bothRun.sl.G1_14 bothRun.sl.r_45; rw [bv1_1, bg13]; rfl

theorem bv1_2 : bothRun.sl.v386 c i arg1 arg2 arg3 h4 h5 w22 w29 f1 f2 f3 = shapeCast S128x128 (grp (bU c i arg1 arg2 arg3 h4 h5 w22 w29 f1 f2 f3 0 1 0) 2) shapeCasts_S128x128_S128x128 := by
  unfold bothRun.sl.v386; rw [bg14]; exact (read_odd sc1.view (bU c i arg1 arg2 arg3 h4 h5 w22 w29 f1 f2 f3 0 1 0) (bU c i arg1 arg2 arg3 h4 h5 w22 w29 f1 f2 f3 0 1 1) 0 1 (pairList (bU c i arg1 arg2 arg3 h4 h5 w22 w29 f1 f2 f3) 1)).2.2.1

theorem bg15 : bothRun.sl.G1_15 c i arg1 arg2 arg3 h4 h5 w22 w29 f1 f2 f3 = putOdd (bU c i arg1 arg2 arg3 h4 h5 w22 w29 f1 f2 f3 0 1 0) (bU c i arg1 arg2 arg3 h4 h5 w22 w29 f1 f2 f3 0 1 1) 0 1 (pairList (bU c i arg1 arg2 arg3 h4 h5 w22 w29 f1 f2 f3) 1) 3 := by
  unfold bothRun.sl.G1_15; rw [bv1_2, bg14]; rfl

theorem bv1_3 : bothRun.sl.v392 c i arg1 arg2 arg3 h4 h5 w22 w29 f1 f2 f3 = shapeCast S128x128 (grp (bU c i arg1 arg2 arg3 h4 h5 w22 w29 f1 f2 f3 0 1 0) 3) shapeCasts_S128x128_S128x128 := by
  unfold bothRun.sl.v392; rw [bg15]; exact (read_odd sc1.view (bU c i arg1 arg2 arg3 h4 h5 w22 w29 f1 f2 f3 0 1 0) (bU c i arg1 arg2 arg3 h4 h5 w22 w29 f1 f2 f3 0 1 1) 0 1 (pairList (bU c i arg1 arg2 arg3 h4 h5 w22 w29 f1 f2 f3) 1)).2.2.2

theorem bg20 : bothRun.sl.G1_20 c i arg1 arg2 arg3 h4 h5 w22 w29 f1 f2 f3 = put (bU c i arg1 arg2 arg3 h4 h5 w22 w29 f1 f2 f3 1 0 0) 1 0 (pairList (bU c i arg1 arg2 arg3 h4 h5 w22 w29 f1 f2 f3) 2) := by
  unfold bothRun.sl.G1_20; rw [bv1_3, bg15]; rfl

theorem bv2_0 : bothRun.sl.v511 c i arg1 arg2 arg3 h4 h5 w22 w29 f1 f2 f3 = shapeCast S128x128 (grp (bU c i arg1 arg2 arg3 h4 h5 w22 w29 f1 f2 f3 1 0 0) 0) shapeCasts_S128x128_S128x128 := by
  unfold bothRun.sl.v511; rw [bg20]; exact (read_odd sc1.view (bU c i arg1 arg2 arg3 h4 h5 w22 w29 f1 f2 f3 1 0 0) (bU c i arg1 arg2 arg3 h4 h5 w22 w29 f1 f2 f3 1 0 1) 1 0 (pairList (bU c i arg1 arg2 arg3 h4 h5 w22 w29 f1 f2 f3) 2)).1

theorem bg21 : bothRun.sl.G1_21 c i arg1 arg2 arg3 h4 h5 w22 w29 f1 f2 f3 = putOdd (bU c i arg1 arg2 arg3 h4 h5 w22 w29 f1 f2 f3 1 0 0) (bU c i arg1 arg2 arg3 h4 h5 w22 w29 f1 f2 f3 1 0 1) 1 0 (pairList (bU c i arg1 arg2 arg3 h4 h5 w22 w29 f1 f2 f3) 2) 1 := by
  unfold bothRun.sl.G1_21; rw [bv2_0, bg20]; rfl

theorem bv2_1 : bothRun.sl.v517 c i arg1 arg2 arg3 h4 h5 w22 w29 f1 f2 f3 = shapeCast S128x128 (grp (bU c i arg1 arg2 arg3 h4 h5 w22 w29 f1 f2 f3 1 0 0) 1) shapeCasts_S128x128_S128x128 := by
  unfold bothRun.sl.v517; rw [bg21]; exact (read_odd sc1.view (bU c i arg1 arg2 arg3 h4 h5 w22 w29 f1 f2 f3 1 0 0) (bU c i arg1 arg2 arg3 h4 h5 w22 w29 f1 f2 f3 1 0 1) 1 0 (pairList (bU c i arg1 arg2 arg3 h4 h5 w22 w29 f1 f2 f3) 2)).2.1

theorem bg22 : bothRun.sl.G1_22 c i arg1 arg2 arg3 h4 h5 w22 w29 f1 f2 f3 = putOdd (bU c i arg1 arg2 arg3 h4 h5 w22 w29 f1 f2 f3 1 0 0) (bU c i arg1 arg2 arg3 h4 h5 w22 w29 f1 f2 f3 1 0 1) 1 0 (pairList (bU c i arg1 arg2 arg3 h4 h5 w22 w29 f1 f2 f3) 2) 2 := by
  unfold bothRun.sl.G1_22; rw [bv2_1, bg21]; rfl

theorem bv2_2 : bothRun.sl.v523 c i arg1 arg2 arg3 h4 h5 w22 w29 f1 f2 f3 = shapeCast S128x128 (grp (bU c i arg1 arg2 arg3 h4 h5 w22 w29 f1 f2 f3 1 0 0) 2) shapeCasts_S128x128_S128x128 := by
  unfold bothRun.sl.v523; rw [bg22]; exact (read_odd sc1.view (bU c i arg1 arg2 arg3 h4 h5 w22 w29 f1 f2 f3 1 0 0) (bU c i arg1 arg2 arg3 h4 h5 w22 w29 f1 f2 f3 1 0 1) 1 0 (pairList (bU c i arg1 arg2 arg3 h4 h5 w22 w29 f1 f2 f3) 2)).2.2.1

theorem bg23 : bothRun.sl.G1_23 c i arg1 arg2 arg3 h4 h5 w22 w29 f1 f2 f3 = putOdd (bU c i arg1 arg2 arg3 h4 h5 w22 w29 f1 f2 f3 1 0 0) (bU c i arg1 arg2 arg3 h4 h5 w22 w29 f1 f2 f3 1 0 1) 1 0 (pairList (bU c i arg1 arg2 arg3 h4 h5 w22 w29 f1 f2 f3) 2) 3 := by
  unfold bothRun.sl.G1_23; rw [bv2_2, bg22]; rfl

theorem bv2_3 : bothRun.sl.v529 c i arg1 arg2 arg3 h4 h5 w22 w29 f1 f2 f3 = shapeCast S128x128 (grp (bU c i arg1 arg2 arg3 h4 h5 w22 w29 f1 f2 f3 1 0 0) 3) shapeCasts_S128x128_S128x128 := by
  unfold bothRun.sl.v529; rw [bg23]; exact (read_odd sc1.view (bU c i arg1 arg2 arg3 h4 h5 w22 w29 f1 f2 f3 1 0 0) (bU c i arg1 arg2 arg3 h4 h5 w22 w29 f1 f2 f3 1 0 1) 1 0 (pairList (bU c i arg1 arg2 arg3 h4 h5 w22 w29 f1 f2 f3) 2)).2.2.2

theorem bg28 : bothRun.sl.G1_28 c i arg1 arg2 arg3 h4 h5 w22 w29 f1 f2 f3 = put (bU c i arg1 arg2 arg3 h4 h5 w22 w29 f1 f2 f3 1 1 0) 1 1 (pairList (bU c i arg1 arg2 arg3 h4 h5 w22 w29 f1 f2 f3) 3) := by
  unfold bothRun.sl.G1_28; rw [bv2_3, bg23]; rfl

theorem bv3_0 : bothRun.sl.v648 c i arg1 arg2 arg3 h4 h5 w22 w29 f1 f2 f3 = shapeCast S128x128 (grp (bU c i arg1 arg2 arg3 h4 h5 w22 w29 f1 f2 f3 1 1 0) 0) shapeCasts_S128x128_S128x128 := by
  unfold bothRun.sl.v648; rw [bg28]; exact (read_odd sc1.view (bU c i arg1 arg2 arg3 h4 h5 w22 w29 f1 f2 f3 1 1 0) (bU c i arg1 arg2 arg3 h4 h5 w22 w29 f1 f2 f3 1 1 1) 1 1 (pairList (bU c i arg1 arg2 arg3 h4 h5 w22 w29 f1 f2 f3) 3)).1

theorem bg29 : bothRun.sl.G1_29 c i arg1 arg2 arg3 h4 h5 w22 w29 f1 f2 f3 = putOdd (bU c i arg1 arg2 arg3 h4 h5 w22 w29 f1 f2 f3 1 1 0) (bU c i arg1 arg2 arg3 h4 h5 w22 w29 f1 f2 f3 1 1 1) 1 1 (pairList (bU c i arg1 arg2 arg3 h4 h5 w22 w29 f1 f2 f3) 3) 1 := by
  unfold bothRun.sl.G1_29; rw [bv3_0, bg28]; rfl

theorem bv3_1 : bothRun.sl.v654 c i arg1 arg2 arg3 h4 h5 w22 w29 f1 f2 f3 = shapeCast S128x128 (grp (bU c i arg1 arg2 arg3 h4 h5 w22 w29 f1 f2 f3 1 1 0) 1) shapeCasts_S128x128_S128x128 := by
  unfold bothRun.sl.v654; rw [bg29]; exact (read_odd sc1.view (bU c i arg1 arg2 arg3 h4 h5 w22 w29 f1 f2 f3 1 1 0) (bU c i arg1 arg2 arg3 h4 h5 w22 w29 f1 f2 f3 1 1 1) 1 1 (pairList (bU c i arg1 arg2 arg3 h4 h5 w22 w29 f1 f2 f3) 3)).2.1

theorem bg30 : bothRun.sl.G1_30 c i arg1 arg2 arg3 h4 h5 w22 w29 f1 f2 f3 = putOdd (bU c i arg1 arg2 arg3 h4 h5 w22 w29 f1 f2 f3 1 1 0) (bU c i arg1 arg2 arg3 h4 h5 w22 w29 f1 f2 f3 1 1 1) 1 1 (pairList (bU c i arg1 arg2 arg3 h4 h5 w22 w29 f1 f2 f3) 3) 2 := by
  unfold bothRun.sl.G1_30; rw [bv3_1, bg29]; rfl

theorem bv3_2 : bothRun.sl.v660 c i arg1 arg2 arg3 h4 h5 w22 w29 f1 f2 f3 = shapeCast S128x128 (grp (bU c i arg1 arg2 arg3 h4 h5 w22 w29 f1 f2 f3 1 1 0) 2) shapeCasts_S128x128_S128x128 := by
  unfold bothRun.sl.v660; rw [bg30]; exact (read_odd sc1.view (bU c i arg1 arg2 arg3 h4 h5 w22 w29 f1 f2 f3 1 1 0) (bU c i arg1 arg2 arg3 h4 h5 w22 w29 f1 f2 f3 1 1 1) 1 1 (pairList (bU c i arg1 arg2 arg3 h4 h5 w22 w29 f1 f2 f3) 3)).2.2.1

theorem bg31 : bothRun.sl.G1_31 c i arg1 arg2 arg3 h4 h5 w22 w29 f1 f2 f3 = putOdd (bU c i arg1 arg2 arg3 h4 h5 w22 w29 f1 f2 f3 1 1 0) (bU c i arg1 arg2 arg3 h4 h5 w22 w29 f1 f2 f3 1 1 1) 1 1 (pairList (bU c i arg1 arg2 arg3 h4 h5 w22 w29 f1 f2 f3) 3) 3 := by
  unfold bothRun.sl.G1_31; rw [bv3_2, bg30]; rfl

theorem bv3_3 : bothRun.sl.v666 c i arg1 arg2 arg3 h4 h5 w22 w29 f1 f2 f3 = shapeCast S128x128 (grp (bU c i arg1 arg2 arg3 h4 h5 w22 w29 f1 f2 f3 1 1 0) 3) shapeCasts_S128x128_S128x128 := by
  unfold bothRun.sl.v666; rw [bg31]; exact (read_odd sc1.view (bU c i arg1 arg2 arg3 h4 h5 w22 w29 f1 f2 f3 1 1 0) (bU c i arg1 arg2 arg3 h4 h5 w22 w29 f1 f2 f3 1 1 1) 1 1 (pairList (bU c i arg1 arg2 arg3 h4 h5 w22 w29 f1 f2 f3) 3)).2.2.2

theorem bg36 : bothRun.sl.G1_36 c i arg1 arg2 arg3 h4 h5 w22 w29 f1 f2 f3 = put (bU c i arg1 arg2 arg3 h4 h5 w22 w29 f1 f2 f3 2 0 0) 2 0 (pairList (bU c i arg1 arg2 arg3 h4 h5 w22 w29 f1 f2 f3) 4) := by
  unfold bothRun.sl.G1_36; rw [bv3_3, bg31]; rfl

theorem bv4_0 : bothRun.sl.v785 c i arg1 arg2 arg3 h4 h5 w22 w29 f1 f2 f3 = shapeCast S128x128 (grp (bU c i arg1 arg2 arg3 h4 h5 w22 w29 f1 f2 f3 2 0 0) 0) shapeCasts_S128x128_S128x128 := by
  unfold bothRun.sl.v785; rw [bg36]; exact (read_odd sc1.view (bU c i arg1 arg2 arg3 h4 h5 w22 w29 f1 f2 f3 2 0 0) (bU c i arg1 arg2 arg3 h4 h5 w22 w29 f1 f2 f3 2 0 1) 2 0 (pairList (bU c i arg1 arg2 arg3 h4 h5 w22 w29 f1 f2 f3) 4)).1

theorem bg37 : bothRun.sl.G1_37 c i arg1 arg2 arg3 h4 h5 w22 w29 f1 f2 f3 = putOdd (bU c i arg1 arg2 arg3 h4 h5 w22 w29 f1 f2 f3 2 0 0) (bU c i arg1 arg2 arg3 h4 h5 w22 w29 f1 f2 f3 2 0 1) 2 0 (pairList (bU c i arg1 arg2 arg3 h4 h5 w22 w29 f1 f2 f3) 4) 1 := by
  unfold bothRun.sl.G1_37; rw [bv4_0, bg36]; rfl

theorem bv4_1 : bothRun.sl.v791 c i arg1 arg2 arg3 h4 h5 w22 w29 f1 f2 f3 = shapeCast S128x128 (grp (bU c i arg1 arg2 arg3 h4 h5 w22 w29 f1 f2 f3 2 0 0) 1) shapeCasts_S128x128_S128x128 := by
  unfold bothRun.sl.v791; rw [bg37]; exact (read_odd sc1.view (bU c i arg1 arg2 arg3 h4 h5 w22 w29 f1 f2 f3 2 0 0) (bU c i arg1 arg2 arg3 h4 h5 w22 w29 f1 f2 f3 2 0 1) 2 0 (pairList (bU c i arg1 arg2 arg3 h4 h5 w22 w29 f1 f2 f3) 4)).2.1

theorem bg38 : bothRun.sl.G1_38 c i arg1 arg2 arg3 h4 h5 w22 w29 f1 f2 f3 = putOdd (bU c i arg1 arg2 arg3 h4 h5 w22 w29 f1 f2 f3 2 0 0) (bU c i arg1 arg2 arg3 h4 h5 w22 w29 f1 f2 f3 2 0 1) 2 0 (pairList (bU c i arg1 arg2 arg3 h4 h5 w22 w29 f1 f2 f3) 4) 2 := by
  unfold bothRun.sl.G1_38; rw [bv4_1, bg37]; rfl

theorem bv4_2 : bothRun.sl.v797 c i arg1 arg2 arg3 h4 h5 w22 w29 f1 f2 f3 = shapeCast S128x128 (grp (bU c i arg1 arg2 arg3 h4 h5 w22 w29 f1 f2 f3 2 0 0) 2) shapeCasts_S128x128_S128x128 := by
  unfold bothRun.sl.v797; rw [bg38]; exact (read_odd sc1.view (bU c i arg1 arg2 arg3 h4 h5 w22 w29 f1 f2 f3 2 0 0) (bU c i arg1 arg2 arg3 h4 h5 w22 w29 f1 f2 f3 2 0 1) 2 0 (pairList (bU c i arg1 arg2 arg3 h4 h5 w22 w29 f1 f2 f3) 4)).2.2.1

theorem bg39 : bothRun.sl.G1_39 c i arg1 arg2 arg3 h4 h5 w22 w29 f1 f2 f3 = putOdd (bU c i arg1 arg2 arg3 h4 h5 w22 w29 f1 f2 f3 2 0 0) (bU c i arg1 arg2 arg3 h4 h5 w22 w29 f1 f2 f3 2 0 1) 2 0 (pairList (bU c i arg1 arg2 arg3 h4 h5 w22 w29 f1 f2 f3) 4) 3 := by
  unfold bothRun.sl.G1_39; rw [bv4_2, bg38]; rfl

theorem bv4_3 : bothRun.sl.v803 c i arg1 arg2 arg3 h4 h5 w22 w29 f1 f2 f3 = shapeCast S128x128 (grp (bU c i arg1 arg2 arg3 h4 h5 w22 w29 f1 f2 f3 2 0 0) 3) shapeCasts_S128x128_S128x128 := by
  unfold bothRun.sl.v803; rw [bg39]; exact (read_odd sc1.view (bU c i arg1 arg2 arg3 h4 h5 w22 w29 f1 f2 f3 2 0 0) (bU c i arg1 arg2 arg3 h4 h5 w22 w29 f1 f2 f3 2 0 1) 2 0 (pairList (bU c i arg1 arg2 arg3 h4 h5 w22 w29 f1 f2 f3) 4)).2.2.2

theorem bg44 : bothRun.sl.G1_44 c i arg1 arg2 arg3 h4 h5 w22 w29 f1 f2 f3 = put (bU c i arg1 arg2 arg3 h4 h5 w22 w29 f1 f2 f3 2 1 0) 2 1 (pairList (bU c i arg1 arg2 arg3 h4 h5 w22 w29 f1 f2 f3) 5) := by
  unfold bothRun.sl.G1_44 bothRun.sl.r_73; rw [bv4_3, bg39]; rfl

theorem bv5_0 : bothRun.sl.v922 c i arg1 arg2 arg3 h4 h5 w22 w29 f1 f2 f3 = shapeCast S128x128 (grp (bU c i arg1 arg2 arg3 h4 h5 w22 w29 f1 f2 f3 2 1 0) 0) shapeCasts_S128x128_S128x128 := by
  unfold bothRun.sl.v922; rw [bg44]; exact (read_odd sc1.view (bU c i arg1 arg2 arg3 h4 h5 w22 w29 f1 f2 f3 2 1 0) (bU c i arg1 arg2 arg3 h4 h5 w22 w29 f1 f2 f3 2 1 1) 2 1 (pairList (bU c i arg1 arg2 arg3 h4 h5 w22 w29 f1 f2 f3) 5)).1

theorem bg45 : bothRun.sl.G1_45 c i arg1 arg2 arg3 h4 h5 w22 w29 f1 f2 f3 = putOdd (bU c i arg1 arg2 arg3 h4 h5 w22 w29 f1 f2 f3 2 1 0) (bU c i arg1 arg2 arg3 h4 h5 w22 w29 f1 f2 f3 2 1 1) 2 1 (pairList (bU c i arg1 arg2 arg3 h4 h5 w22 w29 f1 f2 f3) 5) 1 := by
  unfold bothRun.sl.G1_45 bothRun.sl.r_84; rw [bv5_0, bg44]; rfl

theorem bv5_1 : bothRun.sl.v928 c i arg1 arg2 arg3 h4 h5 w22 w29 f1 f2 f3 = shapeCast S128x128 (grp (bU c i arg1 arg2 arg3 h4 h5 w22 w29 f1 f2 f3 2 1 0) 1) shapeCasts_S128x128_S128x128 := by
  unfold bothRun.sl.v928; rw [bg45]; exact (read_odd sc1.view (bU c i arg1 arg2 arg3 h4 h5 w22 w29 f1 f2 f3 2 1 0) (bU c i arg1 arg2 arg3 h4 h5 w22 w29 f1 f2 f3 2 1 1) 2 1 (pairList (bU c i arg1 arg2 arg3 h4 h5 w22 w29 f1 f2 f3) 5)).2.1

theorem bg46 : bothRun.sl.G1_46 c i arg1 arg2 arg3 h4 h5 w22 w29 f1 f2 f3 = putOdd (bU c i arg1 arg2 arg3 h4 h5 w22 w29 f1 f2 f3 2 1 0) (bU c i arg1 arg2 arg3 h4 h5 w22 w29 f1 f2 f3 2 1 1) 2 1 (pairList (bU c i arg1 arg2 arg3 h4 h5 w22 w29 f1 f2 f3) 5) 2 := by
  unfold bothRun.sl.G1_46; rw [bv5_1, bg45]; rfl

theorem bv5_2 : bothRun.sl.v934 c i arg1 arg2 arg3 h4 h5 w22 w29 f1 f2 f3 = shapeCast S128x128 (grp (bU c i arg1 arg2 arg3 h4 h5 w22 w29 f1 f2 f3 2 1 0) 2) shapeCasts_S128x128_S128x128 := by
  unfold bothRun.sl.v934; rw [bg46]; exact (read_odd sc1.view (bU c i arg1 arg2 arg3 h4 h5 w22 w29 f1 f2 f3 2 1 0) (bU c i arg1 arg2 arg3 h4 h5 w22 w29 f1 f2 f3 2 1 1) 2 1 (pairList (bU c i arg1 arg2 arg3 h4 h5 w22 w29 f1 f2 f3) 5)).2.2.1

theorem bg47 : bothRun.sl.G1_47 c i arg1 arg2 arg3 h4 h5 w22 w29 f1 f2 f3 = putOdd (bU c i arg1 arg2 arg3 h4 h5 w22 w29 f1 f2 f3 2 1 0) (bU c i arg1 arg2 arg3 h4 h5 w22 w29 f1 f2 f3 2 1 1) 2 1 (pairList (bU c i arg1 arg2 arg3 h4 h5 w22 w29 f1 f2 f3) 5) 3 := by
  unfold bothRun.sl.G1_47; rw [bv5_2, bg46]; rfl

theorem bv5_3 : bothRun.sl.v940 c i arg1 arg2 arg3 h4 h5 w22 w29 f1 f2 f3 = shapeCast S128x128 (grp (bU c i arg1 arg2 arg3 h4 h5 w22 w29 f1 f2 f3 2 1 0) 3) shapeCasts_S128x128_S128x128 := by
  unfold bothRun.sl.v940; rw [bg47]; exact (read_odd sc1.view (bU c i arg1 arg2 arg3 h4 h5 w22 w29 f1 f2 f3 2 1 0) (bU c i arg1 arg2 arg3 h4 h5 w22 w29 f1 f2 f3 2 1 1) 2 1 (pairList (bU c i arg1 arg2 arg3 h4 h5 w22 w29 f1 f2 f3) 5)).2.2.2

theorem bg52 : bothRun.sl.G1_52 c i arg1 arg2 arg3 h4 h5 w22 w29 f1 f2 f3 = put (bU c i arg1 arg2 arg3 h4 h5 w22 w29 f1 f2 f3 3 0 0) 3 0 (pairList (bU c i arg1 arg2 arg3 h4 h5 w22 w29 f1 f2 f3) 6) := by
  unfold bothRun.sl.G1_52; rw [bv5_3, bg47]; rfl

theorem bv6_0 : bothRun.sl.v1059 c i arg1 arg2 arg3 h4 h5 w22 w29 f1 f2 f3 = shapeCast S128x128 (grp (bU c i arg1 arg2 arg3 h4 h5 w22 w29 f1 f2 f3 3 0 0) 0) shapeCasts_S128x128_S128x128 := by
  unfold bothRun.sl.v1059; rw [bg52]; exact (read_odd sc1.view (bU c i arg1 arg2 arg3 h4 h5 w22 w29 f1 f2 f3 3 0 0) (bU c i arg1 arg2 arg3 h4 h5 w22 w29 f1 f2 f3 3 0 1) 3 0 (pairList (bU c i arg1 arg2 arg3 h4 h5 w22 w29 f1 f2 f3) 6)).1

theorem bg53 : bothRun.sl.G1_53 c i arg1 arg2 arg3 h4 h5 w22 w29 f1 f2 f3 = putOdd (bU c i arg1 arg2 arg3 h4 h5 w22 w29 f1 f2 f3 3 0 0) (bU c i arg1 arg2 arg3 h4 h5 w22 w29 f1 f2 f3 3 0 1) 3 0 (pairList (bU c i arg1 arg2 arg3 h4 h5 w22 w29 f1 f2 f3) 6) 1 := by
  unfold bothRun.sl.G1_53; rw [bv6_0, bg52]; rfl

theorem bv6_1 : bothRun.sl.v1065 c i arg1 arg2 arg3 h4 h5 w22 w29 f1 f2 f3 = shapeCast S128x128 (grp (bU c i arg1 arg2 arg3 h4 h5 w22 w29 f1 f2 f3 3 0 0) 1) shapeCasts_S128x128_S128x128 := by
  unfold bothRun.sl.v1065; rw [bg53]; exact (read_odd sc1.view (bU c i arg1 arg2 arg3 h4 h5 w22 w29 f1 f2 f3 3 0 0) (bU c i arg1 arg2 arg3 h4 h5 w22 w29 f1 f2 f3 3 0 1) 3 0 (pairList (bU c i arg1 arg2 arg3 h4 h5 w22 w29 f1 f2 f3) 6)).2.1

theorem bg54 : bothRun.sl.G1_54 c i arg1 arg2 arg3 h4 h5 w22 w29 f1 f2 f3 = putOdd (bU c i arg1 arg2 arg3 h4 h5 w22 w29 f1 f2 f3 3 0 0) (bU c i arg1 arg2 arg3 h4 h5 w22 w29 f1 f2 f3 3 0 1) 3 0 (pairList (bU c i arg1 arg2 arg3 h4 h5 w22 w29 f1 f2 f3) 6) 2 := by
  unfold bothRun.sl.G1_54; rw [bv6_1, bg53]; rfl

theorem bv6_2 : bothRun.sl.v1071 c i arg1 arg2 arg3 h4 h5 w22 w29 f1 f2 f3 = shapeCast S128x128 (grp (bU c i arg1 arg2 arg3 h4 h5 w22 w29 f1 f2 f3 3 0 0) 2) shapeCasts_S128x128_S128x128 := by
  unfold bothRun.sl.v1071; rw [bg54]; exact (read_odd sc1.view (bU c i arg1 arg2 arg3 h4 h5 w22 w29 f1 f2 f3 3 0 0) (bU c i arg1 arg2 arg3 h4 h5 w22 w29 f1 f2 f3 3 0 1) 3 0 (pairList (bU c i arg1 arg2 arg3 h4 h5 w22 w29 f1 f2 f3) 6)).2.2.1

theorem bg55 : bothRun.sl.G1_55 c i arg1 arg2 arg3 h4 h5 w22 w29 f1 f2 f3 = putOdd (bU c i arg1 arg2 arg3 h4 h5 w22 w29 f1 f2 f3 3 0 0) (bU c i arg1 arg2 arg3 h4 h5 w22 w29 f1 f2 f3 3 0 1) 3 0 (pairList (bU c i arg1 arg2 arg3 h4 h5 w22 w29 f1 f2 f3) 6) 3 := by
  unfold bothRun.sl.G1_55; rw [bv6_2, bg54]; rfl

theorem bv6_3 : bothRun.sl.v1077 c i arg1 arg2 arg3 h4 h5 w22 w29 f1 f2 f3 = shapeCast S128x128 (grp (bU c i arg1 arg2 arg3 h4 h5 w22 w29 f1 f2 f3 3 0 0) 3) shapeCasts_S128x128_S128x128 := by
  unfold bothRun.sl.v1077; rw [bg55]; exact (read_odd sc1.view (bU c i arg1 arg2 arg3 h4 h5 w22 w29 f1 f2 f3 3 0 0) (bU c i arg1 arg2 arg3 h4 h5 w22 w29 f1 f2 f3 3 0 1) 3 0 (pairList (bU c i arg1 arg2 arg3 h4 h5 w22 w29 f1 f2 f3) 6)).2.2.2

theorem bg60 : bothRun.sl.G1_60 c i arg1 arg2 arg3 h4 h5 w22 w29 f1 f2 f3 = put (bU c i arg1 arg2 arg3 h4 h5 w22 w29 f1 f2 f3 3 1 0) 3 1 (pairList (bU c i arg1 arg2 arg3 h4 h5 w22 w29 f1 f2 f3) 7) := by
  unfold bothRun.sl.G1_60 bothRun.sl.r_95; rw [bv6_3, bg55]; rfl

theorem bv7_0 : bothRun.sl.v1182 c i arg1 arg2 arg3 h4 h5 w22 w29 f1 f2 f3 = shapeCast S128x128 (grp (bU c i arg1 arg2 arg3 h4 h5 w22 w29 f1 f2 f3 3 1 0) 0) shapeCasts_S128x128_S128x128 := by
  unfold bothRun.sl.v1182; rw [bg60]; exact (read_odd sc1.view (bU c i arg1 arg2 arg3 h4 h5 w22 w29 f1 f2 f3 3 1 0) (bU c i arg1 arg2 arg3 h4 h5 w22 w29 f1 f2 f3 3 1 1) 3 1 (pairList (bU c i arg1 arg2 arg3 h4 h5 w22 w29 f1 f2 f3) 7)).1

theorem bg61 : bothRun.sl.G1_61 c i arg1 arg2 arg3 h4 h5 w22 w29 f1 f2 f3 = putOdd (bU c i arg1 arg2 arg3 h4 h5 w22 w29 f1 f2 f3 3 1 0) (bU c i arg1 arg2 arg3 h4 h5 w22 w29 f1 f2 f3 3 1 1) 3 1 (pairList (bU c i arg1 arg2 arg3 h4 h5 w22 w29 f1 f2 f3) 7) 1 := by
  unfold bothRun.sl.G1_61; rw [bv7_0, bg60]; rfl

theorem bv7_1 : bothRun.sl.v1188 c i arg1 arg2 arg3 h4 h5 w22 w29 f1 f2 f3 = shapeCast S128x128 (grp (bU c i arg1 arg2 arg3 h4 h5 w22 w29 f1 f2 f3 3 1 0) 1) shapeCasts_S128x128_S128x128 := by
  unfold bothRun.sl.v1188; rw [bg61]; exact (read_odd sc1.view (bU c i arg1 arg2 arg3 h4 h5 w22 w29 f1 f2 f3 3 1 0) (bU c i arg1 arg2 arg3 h4 h5 w22 w29 f1 f2 f3 3 1 1) 3 1 (pairList (bU c i arg1 arg2 arg3 h4 h5 w22 w29 f1 f2 f3) 7)).2.1

theorem bg62 : bothRun.sl.G1_62 c i arg1 arg2 arg3 h4 h5 w22 w29 f1 f2 f3 = putOdd (bU c i arg1 arg2 arg3 h4 h5 w22 w29 f1 f2 f3 3 1 0) (bU c i arg1 arg2 arg3 h4 h5 w22 w29 f1 f2 f3 3 1 1) 3 1 (pairList (bU c i arg1 arg2 arg3 h4 h5 w22 w29 f1 f2 f3) 7) 2 := by
  unfold bothRun.sl.G1_62; rw [bv7_1, bg61]; rfl

theorem bv7_2 : bothRun.sl.v1194 c i arg1 arg2 arg3 h4 h5 w22 w29 f1 f2 f3 = shapeCast S128x128 (grp (bU c i arg1 arg2 arg3 h4 h5 w22 w29 f1 f2 f3 3 1 0) 2) shapeCasts_S128x128_S128x128 := by
  unfold bothRun.sl.v1194; rw [bg62]; exact (read_odd sc1.view (bU c i arg1 arg2 arg3 h4 h5 w22 w29 f1 f2 f3 3 1 0) (bU c i arg1 arg2 arg3 h4 h5 w22 w29 f1 f2 f3 3 1 1) 3 1 (pairList (bU c i arg1 arg2 arg3 h4 h5 w22 w29 f1 f2 f3) 7)).2.2.1

theorem bg63 : bothRun.sl.G1_63 c i arg1 arg2 arg3 h4 h5 w22 w29 f1 f2 f3 = putOdd (bU c i arg1 arg2 arg3 h4 h5 w22 w29 f1 f2 f3 3 1 0) (bU c i arg1 arg2 arg3 h4 h5 w22 w29 f1 f2 f3 3 1 1) 3 1 (pairList (bU c i arg1 arg2 arg3 h4 h5 w22 w29 f1 f2 f3) 7) 3 := by
  unfold bothRun.sl.G1_63 bothRun.sl.r_104; rw [bv7_2, bg62]; rfl

theorem bv7_3 : bothRun.sl.v1200 c i arg1 arg2 arg3 h4 h5 w22 w29 f1 f2 f3 = shapeCast S128x128 (grp (bU c i arg1 arg2 arg3 h4 h5 w22 w29 f1 f2 f3 3 1 0) 3) shapeCasts_S128x128_S128x128 := by
  unfold bothRun.sl.v1200; rw [bg63]; exact (read_odd sc1.view (bU c i arg1 arg2 arg3 h4 h5 w22 w29 f1 f2 f3 3 1 0) (bU c i arg1 arg2 arg3 h4 h5 w22 w29 f1 f2 f3 3 1 1) 3 1 (pairList (bU c i arg1 arg2 arg3 h4 h5 w22 w29 f1 f2 f3) 7)).2.2.2

theorem bg64 : bothRun.sl.G1_64 c i arg1 arg2 arg3 h4 h5 w22 w29 f1 f2 f3 = putOdd (bU c i arg1 arg2 arg3 h4 h5 w22 w29 f1 f2 f3 3 1 0) (bU c i arg1 arg2 arg3 h4 h5 w22 w29 f1 f2 f3 3 1 1) 3 1 (pairList (bU c i arg1 arg2 arg3 h4 h5 w22 w29 f1 f2 f3) 7) 4 := by
  unfold bothRun.sl.G1_64; rw [bv7_3, bg63]; rfl

/-- The branch's writes to the attention scratch are the eight pairs of units. -/
theorem blist : bothRun.sl.G1_64 c i arg1 arg2 arg3 h4 h5 w22 w29 f1 f2 f3 = pairList (bU c i arg1 arg2 arg3 h4 h5 w22 w29 f1 f2 f3) 8 := bg64 c i arg1 arg2 arg3 h4 h5 w22 w29 f1 f2 f3

end

end Cert.KernelIdeal.Hand

end
-- ==== Proof.BothVals.lean ====
/-
  The values the branch in between stores.
-/
module

public import proofs.«01_k».proof.Proof.Tile
public import proofs.«01_k».proof.Proof.BothPieces
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

section

variable (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
  (h4 : ¬ k0_cond4 i = 1#1) (h5 : ¬ k0_cond5 i = 1#1) (w0 w9 : BitVec 32) (w22 : FVec F S640x256 .f32) (w29 : FVec F S640x128 .f32) (f1 : MBuf F c arg1) (f2 : MBuf F c arg2) (f3 : MBuf F c arg3) (f5 : MBuf F c arg5) (f6 : MBuf F c arg6) (f7 : MBuf F c arg7) (f9 : MBuf F c arg9) (f12 : MBuf F c arg12) (g2 : MBuf F c sc2) (g3 : MBuf F c sc3) (g4 : MBuf F c sc4) (g5 : MBuf F c sc5)

/-- What it leaves in the output block. -/
theorem b_out (f : MBuf F c arg13) : arg13.view.read (Elt F) (arg13.view.writes (Elt F) f (bothRun c i arg1 harg1 arg2 harg2 arg3 harg3 arg4 harg4 arg5 harg5 arg6 harg6 arg7 harg7 arg9 harg9 arg12 harg12 arg13 harg13 h4 h5 w0 w9 w22 w29 f1 f2 f3 f5 f6 f7 f9 f12 g2 g3 g4 g5).1.1) = outOf (arg6.view.read (Elt F) f6) (arg7.view.read (Elt F) f7) (arg9.view.read (Elt F) f9) (arg12.view.read (Elt F) f12) (sc2.view.read (Elt F) g2) (sc3.view.read (Elt F) g3) (sc4.view.read (Elt F) g4) (sc5.view.read (Elt F) g5) := by
  refine (whole_piece arg13.view f _).trans ?_
  rfl

/-- What it leaves in the second attention scratch. -/
theorem b_ya (g : MBuf F c sc2) : sc2.view.read (Elt F) (sc2.view.writes (Elt F) g (bothRun c i arg1 harg1 arg2 harg2 arg3 harg3 arg4 harg4 arg5 harg5 arg6 harg6 arg7 harg7 arg9 harg9 arg12 harg12 arg13 harg13 h4 h5 w0 w9 w22 w29 f1 f2 f3 f5 f6 f7 f9 f12 g2 g3 g4 g5).1.2.2) = yaOf (bU c i arg1 arg2 arg3 h4 h5 w22 w29 f1 f2 f3) (arg5.view.read (Elt F) f5) := by
  refine (whole_piece sc2.view g _).trans ?_
  have e : bothRun.sl.v1224 c i arg1 arg2 arg3 h4 h5 w22 w29 f1 f2 f3 = yOf (bU c i arg1 arg2 arg3 h4 h5 w22 w29 f1 f2 f3) := by
    unfold bothRun.sl.v1224; rw [blist]; exact View.readCov_eq_canon' _ _ _
  unfold bothRun.sl.r_106; rw [e]; rfl

end

end Cert.KernelIdeal.Hand

end
-- ==== Proof.Step.lean ====
/-
  The body of the kernel at a step, case by case: the prologue, then the branch taken.
-/
module

public import proofs.«01_k».proof.Proof.Prologue
public import proofs.«01_k».proof.Proof.AttnVals
public import proofs.«01_k».proof.Proof.MlpVals
public import proofs.«01_k».proof.Proof.BothVals
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- A scratch buffer held whole, reading as `X`. -/
abbrev holds (c : Dev nD) {sp : Space} {S : Shape} {e : EltTy} (M : Memref sig .tc sp S e) (X : S.Idx → Elt F e) : sProp 𝕄 :=
  iprop(∃ g : MBuf F c M, ⌜M.view.read (Elt F) g = X⌝ ∗ ownW c M g)
/-- A buffer held whole, at anything. -/
abbrev anyW (c : Dev nD) {sp : Space} {S : Shape} {e : EltTy} (M : Memref sig .tc sp S e) : sProp 𝕄 :=
  iprop(∃ g : MBuf F c M, ownW c M g)

/-- The units of a tile, from the sinks, the mask tables, the queries, the keys and values, the rows carried from the
    tile before, and which of the two tables masks its first block row. -/
def unitsOf (x1 : Vec F S16 .f32) (x2 : Vec F S2x512x256 .f32) (x3 : Vec F S512x1024 .bf16) (x4 : Vec F S512x256 .f32)
    (prev : FVec F S128x256 .f32) (n : Fin 2) (bi : Fin 4) (h p : Fin 2) : FVec F S512x128 .f32 :=
  unit (kvOf x4 prev) (keysScaled x4 prev) x1 x2 x3 (maskRow x2 n) bi h p

theorem maskRow_of (x2 : Vec F S2x512x256 .f32) (o : Fin 3 → ℕ) (ho : ∀ a, o a + S1x512x256.size a ≤ S2x512x256.size a) (n : Fin 2)
    (e : o = ![n.val, 0, 0]) :
    shapeCast S512x256 (View.ld x2 (Rect.unit (s := S2x512x256) o S1x512x256.size ho) : FVec F S1x512x256 .f32) shapeCasts_S1x512x256_S512x256
      = maskRow x2 n := by
  subst e; rfl

/-- What a landed transfer leaves reads as the weights it carried. -/
theorem landed {S : Shape} {e : EltTy} {c : Dev nD} (M : Memref sig .tc .vmem S e) (B : Memref sig .tc .hbm S e) (g : MBuf F c M) (h : MBuf F c B) :
    M.view.read (Elt F) (View.write (Elt F) M.view g (ReadAs.same.apply (View.read (Elt F) B.view h)) Finset.univ) = View.read (Elt F) B.view h := by
  rw [View.read_write_univ]

theorem out_congr (x6 : Vec F S512x1024 .f32) (x7 : Vec F S512x1024 .bf16) (x9 x12 : Vec F S1x1024 .f32) (ya : Vec F S512x1024 .bf16)
    {wo wo' : Vec F S2048x1024 .bf16} {wu wu' : Vec F S1024x4096 .bf16} {wd wd' : Vec F S4096x1024 .bf16} (e : wo = wo') (e' : wu = wu') (e'' : wd = wd') :
    outOf x6 x7 x9 x12 ya wo wu wd = outOf x6 x7 x9 x12 ya wo' wu' wd' := by
  subst e e' e''; rfl

set_option maxHeartbeats 1600000 in
theorem out_landed {c : Dev nD} (x6 : Vec F S512x1024 .f32) (x7 : Vec F S512x1024 .bf16) (x9 x12 : Vec F S1x1024 .f32) (ya : Vec F S512x1024 .bf16)
    (h0 : MBuf F c hb0) (h1 : MBuf F c hb1) (h2 : MBuf F c hb2) (g3 : MBuf F c sc3) (g4 : MBuf F c sc4) (g5 : MBuf F c sc5) :
    outOf x6 x7 x9 x12 ya (sc3.view.read (Elt F) (View.write (Elt F) sc3.view g3 (ReadAs.same.apply (View.read (Elt F) hb0.view h0)) Finset.univ))
        (sc4.view.read (Elt F) (View.write (Elt F) sc4.view g4 (ReadAs.same.apply (View.read (Elt F) hb1.view h1)) Finset.univ))
        (sc5.view.read (Elt F) (View.write (Elt F) sc5.view g5 (ReadAs.same.apply (View.read (Elt F) hb2.view h2)) Finset.univ))
      = outOf x6 x7 x9 x12 ya (View.read (Elt F) hb0.view h0) (View.read (Elt F) hb1.view h1) (View.read (Elt F) hb2.view h2) :=
  out_congr x6 x7 x9 x12 ya (landed sc3 hb0 g3 h0) (landed sc4 hb1 g4 h1) (landed sc5 hb2 g5 h2)

theorem aU_eq (c : Dev nD) (i : grid0.Coords) (arg1 : Memref sig .tc .smem S16 .f32) (arg2 : Memref sig .tc .vmem S2x512x256 .f32) (arg3 : Memref sig .tc .vmem S512x1024 .bf16) (h4 : k0_cond4 i = 1#1) (f1 : MBuf F c arg1) (f2 : MBuf F c arg2) (f3 : MBuf F c arg3)
    (x4 : Vec F S512x256 .f32) (prev : FVec F S128x256 .f32) (n : Fin 2) (hoff : k0_off1 i = ![n.val, 0, 0]) :
    aU c i arg1 arg2 arg3 h4 (kvOf x4 prev) (keysScaled x4 prev) f1 f2 f3
      = unitsOf (arg1.view.read (Elt F) f1) (arg2.view.read (Elt F) f2) (arg3.view.read (Elt F) f3) x4 prev n := by
  funext bi h p; unfold unitsOf; dsimp only [aU]; rw [maskRow_of _ _ _ n hoff]

theorem bU_eq (c : Dev nD) (i : grid0.Coords) (arg1 : Memref sig .tc .smem S16 .f32) (arg2 : Memref sig .tc .vmem S2x512x256 .f32) (arg3 : Memref sig .tc .vmem S512x1024 .bf16) (h4 : ¬ k0_cond4 i = 1#1) (h5 : ¬ k0_cond5 i = 1#1) (f1 : MBuf F c arg1) (f2 : MBuf F c arg2) (f3 : MBuf F c arg3)
    (x4 : Vec F S512x256 .f32) (prev : FVec F S128x256 .f32) (n : Fin 2) (hoff : k0_off2 i = ![n.val, 0, 0]) :
    bU c i arg1 arg2 arg3 h4 h5 (kvOf x4 prev) (keysScaled x4 prev) f1 f2 f3
      = unitsOf (arg1.view.read (Elt F) f1) (arg2.view.read (Elt F) f2) (arg3.view.read (Elt F) f3) x4 prev n := by
  funext bi h p; unfold unitsOf; dsimp only [bU]; rw [maskRow_of _ _ _ n hoff]

set_option maxHeartbeats 1600000 in
/-- The first step: the transfers of weights are started, the first tile attended to. -/
theorem step_start (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : cond1 i = 1#1) (n2 : ¬ cond2 i = 1#1) (n3 : cond3 i = 1#1) (h4 : k0_cond4 i = 1#1) (n : Fin 2) (hoff : k0_off1 i = ![n.val, 0, 0]) (x1 : Vec F S16 .f32) (x2 : Vec F S2x512x256 .f32) (x3 : Vec F S512x1024 .bf16) (x4 : Vec F S512x256 .f32) (x5 : Vec F S1x1024 .f32) (h0 : MBuf F c hb0) (h1 : MBuf F c hb1) (h2 : MBuf F c hb2) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ semVal ((c : Thread nD τ), SemLoc.dma 15) 0 ∗ semVal ((c : Thread nD τ), SemLoc.dma 16) 0 ∗ semVal ((c : Thread nD τ), SemLoc.dma 17) 0 ∗ ownW c hb0 h0 ∗ ownW c hb1 h1 ∗ ownW c hb2 h2 ∗ anyW (F := F) c sc3 ∗ anyW (F := F) c sc4 ∗ anyW (F := F) c sc5 ∗ anyW (F := F) c sc0 ∗ anyW (F := F) c sc1 ∗ anyW (F := F) c sc2)
      ⊢ wp frame (wpE (defs₀ (F := F)) Variants.none c none) Set.univ (cc0_attn_mlp (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ g, fly0 c g h0) ∗ (∃ g, fly1 c g h1) ∗ (∃ g, fly2 c g h2) ∗ off0 c h0 ∗ off1 c h1 ∗ off2 c h2 ∗ holds c sc0 (carryOf x4) ∗ anyW (F := F) c sc1 ∗ holds c sc2 (yaOf (unitsOf x1 x2 x3 x4 noPrev n) x5))) := by
  rw [(rest (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6).2, wp_bind]
  unfold owns
  iintro ⟨⟨%f1, %e1, H1⟩, ⟨%f2, %e2, H2⟩, ⟨%f3, %e3, H3⟩, ⟨%f4, %e4, H4⟩, ⟨%f5, %e5, H5⟩, S0, S1, S2, B0, B1, B2, ⟨%g3, G3⟩, ⟨%g4, G4⟩, ⟨%g5, G5⟩, ⟨%g0, G0⟩, ⟨%g1, G1⟩, ⟨%g2, G2⟩⟩
  subst e1
  subst e2
  subst e3
  subst e4
  subst e5

  iapply ((proStartRun c i arg1 harg1 arg2 harg2 arg3 harg3 arg4 harg4 arg5 harg5 arg6 harg6 arg7 harg7 arg9 harg9 arg12 harg12 arg13 harg13 n1 n2 n3 f4 h0 h1 h2).2 g0 g3 g4 g5 _)
  isplitl [S0]; · iexact S0
  isplitl [S1]; · iexact S1
  isplitl [S2]; · iexact S2
  isplitl [B0]; · iexact B0
  isplitl [B1]; · iexact B1
  isplitl [B2]; · iexact B2
  isplitl [G3]; · iexact G3
  isplitl [G4]; · iexact G4
  isplitl [G5]; · iexact G5
  isplitl [H4]; · iexact H4
  isplitl [G0]; · iexact G0
  iintro ⟨S0, S1, S2, B0, B1, B2, H4, G0⟩
  rw [proStartRun_ret]
  iapply ((attnRun c i arg1 harg1 arg2 harg2 arg3 harg3 arg4 harg4 arg5 harg5 arg6 harg6 arg7 harg7 arg9 harg9 arg12 harg12 arg13 harg13 h4 (BitVec.ofNat 32 (i 0).val) (place i) (kvOf (arg4.view.read (Elt F) f4) noPrev) (keysScaled (arg4.view.read (Elt F) f4) noPrev) f1 f2 f3 f5).2 g1 g2 _)
  isplitl [H1]; · iexact H1
  isplitl [H2]; · iexact H2
  isplitl [H3]; · iexact H3
  isplitl [H5]; · iexact H5
  isplitl [G1]; · iexact G1
  isplitl [G2]; · iexact G2
  iintro ⟨H1, H2, H3, H5, G1, G2⟩
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [S0]
  · iexists _; iexact S0
  isplitl [S1]
  · iexists _; iexact S1
  isplitl [S2]
  · iexists _; iexact S2
  isplitl [B0]; · iexact B0
  isplitl [B1]; · iexact B1
  isplitl [B2]; · iexact B2
  isplitl [G0]
  · iexists _; isplitr; swap; · iexact G0
    ipureintro; exact proStartRun_carry c i arg1 harg1 arg2 harg2 arg3 harg3 arg4 harg4 arg5 harg5 arg6 harg6 arg7 harg7 arg9 harg9 arg12 harg12 arg13 harg13 n1 n2 n3 f4 h0 h1 h2 g0
  isplitl [G1]
  · iexists _; iexact G1
  iexists _; isplitr; swap; · iexact G2
  ipureintro; exact (a_ya c i arg1 harg1 arg2 harg2 arg3 harg3 arg4 harg4 arg5 harg5 arg6 harg6 arg7 harg7 arg9 harg9 arg12 harg12 arg13 harg13 h4 (BitVec.ofNat 32 (i 0).val) (place i) (kvOf (arg4.view.read (Elt F) f4) noPrev) (keysScaled (arg4.view.read (Elt F) f4) noPrev) f1 f2 f3 f5 g2).trans (by rw [aU_eq _ _ _ _ _ _ _ _ _ _ _ n hoff])

set_option maxHeartbeats 1600000 in
/-- The second step: the weights have arrived. -/
theorem step_wait (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : ¬ cond1 i = 1#1) (n2 : cond2 i = 1#1) (n3 : ¬ cond3 i = 1#1) (h4 : ¬ k0_cond4 i = 1#1) (h5 : ¬ k0_cond5 i = 1#1) (n : Fin 2) (hoff : k0_off2 i = ![n.val, 0, 0]) (x1 : Vec F S16 .f32) (x2 : Vec F S2x512x256 .f32) (x3 : Vec F S512x1024 .bf16) (x4 : Vec F S512x256 .f32) (x5 : Vec F S1x1024 .f32) (x6 : Vec F S512x1024 .f32) (x7 : Vec F S512x1024 .bf16) (x9 : Vec F S1x1024 .f32) (x12 : Vec F S1x1024 .f32) (prev : Vec F S128x256 .f32) (xa : Vec F S512x1024 .bf16) (h0 : MBuf F c hb0) (h1 : MBuf F c hb1) (h2 : MBuf F c hb2) (W : Waits sig Unit) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg12 fullShare x12 ∗ (∃ d, owns (c : Thread nD τ) arg13 fullShare d) ∗ holds c sc0 prev ∗ anyW (F := F) c sc1 ∗ holds c sc2 xa ∗ (∃ g, fly0 c g h0) ∗ (∃ g, fly1 c g h1) ∗ (∃ g, fly2 c g h2) ∗ off0 c h0 ∗ off1 c h1 ∗ off2 c h2 ∗ owes (c : Thread nD τ) 0 W)
      ⊢ wp frame (wpE (defs₀ (F := F)) Variants.none c none) Set.univ (cc0_attn_mlp (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg12 fullShare x12 ∗ owns (c : Thread nD τ) arg13 fullShare (outOf x6 x7 x9 x12 xa (hb0.view.read (Elt F) h0) (hb1.view.read (Elt F) h1) (hb2.view.read (Elt F) h2)) ∗ holds c sc0 (carryOf x4) ∗ anyW (F := F) c sc1 ∗ holds c sc2 (yaOf (unitsOf x1 x2 x3 x4 (View.ld prev allPrev) n) x5) ∗ holds c sc3 (hb0.view.read (Elt F) h0) ∗ holds c sc4 (hb1.view.read (Elt F) h1) ∗ holds c sc5 (hb2.view.read (Elt F) h2) ∗ semVal ((c : Thread nD τ), SemLoc.dma 15) 0 ∗ semVal ((c : Thread nD τ), SemLoc.dma 16) 0 ∗ semVal ((c : Thread nD τ), SemLoc.dma 17) 0 ∗ ownW c hb0 h0 ∗ ownW c hb1 h1 ∗ ownW c hb2 h2 ∗ (∃ W', owes (c : Thread nD τ) 0 W'))) := by
  rw [(rest (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6).2, wp_bind]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f12, %e12, H12⟩, ⟨%d13, %f13, -, H13⟩, ⟨%g0, %eg0, G0⟩, ⟨%g1, G1⟩, ⟨%g2, %eg2, G2⟩, ⟨%g3, S0⟩, ⟨%g4, S1⟩, ⟨%g5, S2⟩, B0, B1, B2, HW⟩
  subst e1
  subst e2
  subst e3
  subst e4
  subst e5
  subst e6
  subst e7
  subst e9
  subst e12
  subst eg0
  subst eg2

  iapply ((proWaitRun c i arg1 harg1 arg2 harg2 arg3 harg3 arg4 harg4 arg5 harg5 arg6 harg6 arg7 harg7 arg9 harg9 arg12 harg12 arg13 harg13 n1 n2 n3 f4 g0).2 h0 h1 h2 g3 g4 g5 W _)
  isplitl [S0]; · iexact S0
  isplitl [S1]; · iexact S1
  isplitl [S2]; · iexact S2
  isplitl [B0]; · iexact B0
  isplitl [B1]; · iexact B1
  isplitl [B2]; · iexact B2
  isplitl [HW]; · iexact HW
  isplitl [H4]; · iexact H4
  isplitl [G0]; · iexact G0
  iintro ⟨S0, S1, S2, B0, B1, B2, G3, G4, G5, HW, H4, G0⟩
  rw [proWaitRun_ret]
  iapply ((bothRun c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) (View.ld (sc0.view.read (Elt F) g0) allPrev)) (keysScaled (arg4.view.read (Elt F) f4) (View.ld (sc0.view.read (Elt F) g0) allPrev)) f1 f2 f3 f5 f6 f7 f9 f12 g2 (View.write (Elt F) sc3.view g3 (ReadAs.same.apply (View.read (Elt F) hb0.view h0)) Finset.univ) (View.write (Elt F) sc4.view g4 (ReadAs.same.apply (View.read (Elt F) hb1.view h1)) Finset.univ) (View.write (Elt F) sc5.view g5 (ReadAs.same.apply (View.read (Elt F) hb2.view h2)) Finset.univ)).2 g1 f13 _)
  isplitl [H1]; · iexact H1
  isplitl [H2]; · iexact H2
  isplitl [H3]; · iexact H3
  isplitl [H5]; · iexact H5
  isplitl [G1]; · iexact G1
  isplitl [H6]; · iexact H6
  isplitl [H7]; · iexact H7
  isplitl [H9]; · iexact H9
  isplitl [H12]; · iexact H12
  isplitl [H13]; · iexact H13
  isplitl [G2]; · iexact G2
  isplitl [G3]; · iexact G3
  isplitl [G4]; · iexact G4
  isplitl [G5]; · iexact G5
  iintro ⟨H1, H2, H3, H5, G1, H6, H7, H9, H12, H13, G2, G3, G4, G5⟩
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H9]
  · iexists _; isplitr; · ipureintro; rfl
    iexact H9
  isplitl [H12]
  · iexists _; isplitr; · ipureintro; rfl
    iexact H12
  isplitl [H13]
  · iexists _; isplitr; swap; · iexact H13
    ipureintro; exact (b_out c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) (View.ld (sc0.view.read (Elt F) g0) allPrev)) (keysScaled (arg4.view.read (Elt F) f4) (View.ld (sc0.view.read (Elt F) g0) allPrev)) f1 f2 f3 f5 f6 f7 f9 f12 g2 (View.write (Elt F) sc3.view g3 (ReadAs.same.apply (View.read (Elt F) hb0.view h0)) Finset.univ) (View.write (Elt F) sc4.view g4 (ReadAs.same.apply (View.read (Elt F) hb1.view h1)) Finset.univ) (View.write (Elt F) sc5.view g5 (ReadAs.same.apply (View.read (Elt F) hb2.view h2)) Finset.univ) f13).trans (out_landed _ _ _ _ _ h0 h1 h2 g3 g4 g5)
  isplitl [G0]
  · iexists _; isplitr; swap; · iexact G0
    ipureintro; exact proWaitRun_carry c i arg1 harg1 arg2 harg2 arg3 harg3 arg4 harg4 arg5 harg5 arg6 harg6 arg7 harg7 arg9 harg9 arg12 harg12 arg13 harg13 n1 n2 n3 f4 g0 g0
  isplitl [G1]
  · iexists _; iexact G1
  isplitl [G2]
  · iexists _; isplitr; swap; · iexact G2
    ipureintro; exact (b_ya c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) (View.ld (sc0.view.read (Elt F) g0) allPrev)) (keysScaled (arg4.view.read (Elt F) f4) (View.ld (sc0.view.read (Elt F) g0) allPrev)) f1 f2 f3 f5 f6 f7 f9 f12 g2 (View.write (Elt F) sc3.view g3 (ReadAs.same.apply (View.read (Elt F) hb0.view h0)) Finset.univ) (View.write (Elt F) sc4.view g4 (ReadAs.same.apply (View.read (Elt F) hb1.view h1)) Finset.univ) (View.write (Elt F) sc5.view g5 (ReadAs.same.apply (View.read (Elt F) hb2.view h2)) Finset.univ) g2).trans (by rw [bU_eq _ _ _ _ _ _ _ _ _ _ _ _ n hoff])
  isplitl [G3]
  · iexists _; isplitr; swap; · iexact G3
    ipureintro; exact landed _ _ _ _
  isplitl [G4]
  · iexists _; isplitr; swap; · iexact G4
    ipureintro; exact landed _ _ _ _
  isplitl [G5]
  · iexists _; isplitr; swap; · iexact G5
    ipureintro; exact landed _ _ _ _
  isplitl [S0]; · iexact S0
  isplitl [S1]; · iexact S1
  isplitl [S2]; · iexact S2
  isplitl [B0]; · iexact B0
  isplitl [B1]; · iexact B1
  isplitl [B2]; · iexact B2
  iexact HW

set_option maxHeartbeats 1600000 in
/-- A step within a sequence. -/
theorem step_mid (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : ¬ cond1 i = 1#1) (n2 : ¬ cond2 i = 1#1) (n3 : ¬ cond3 i = 1#1) (h4 : ¬ k0_cond4 i = 1#1) (h5 : ¬ k0_cond5 i = 1#1) (n : Fin 2) (hoff : k0_off2 i = ![n.val, 0, 0]) (x1 : Vec F S16 .f32) (x2 : Vec F S2x512x256 .f32) (x3 : Vec F S512x1024 .bf16) (x4 : Vec F S512x256 .f32) (x5 : Vec F S1x1024 .f32) (x6 : Vec F S512x1024 .f32) (x7 : Vec F S512x1024 .bf16) (x9 : Vec F S1x1024 .f32) (x12 : Vec F S1x1024 .f32) (prev : Vec F S128x256 .f32) (xa : Vec F S512x1024 .bf16) (wo : Vec F S2048x1024 .bf16) (wu : Vec F S1024x4096 .bf16) (wd : Vec F S4096x1024 .bf16) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg12 fullShare x12 ∗ (∃ d, owns (c : Thread nD τ) arg13 fullShare d) ∗ holds c sc0 prev ∗ anyW (F := F) c sc1 ∗ holds c sc2 xa ∗ holds c sc3 wo ∗ holds c sc4 wu ∗ holds c sc5 wd)
      ⊢ wp frame (wpE (defs₀ (F := F)) Variants.none c none) Set.univ (cc0_attn_mlp (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg12 fullShare x12 ∗ owns (c : Thread nD τ) arg13 fullShare (outOf x6 x7 x9 x12 xa wo wu wd) ∗ holds c sc0 (carryOf x4) ∗ anyW (F := F) c sc1 ∗ holds c sc2 (yaOf (unitsOf x1 x2 x3 x4 (View.ld prev allPrev) n) x5) ∗ holds c sc3 wo ∗ holds c sc4 wu ∗ holds c sc5 wd)) := by
  rw [(rest (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6).2, wp_bind]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f12, %e12, H12⟩, ⟨%d13, %f13, -, H13⟩, ⟨%g0, %eg0, G0⟩, ⟨%g1, G1⟩, ⟨%g2, %eg2, G2⟩, ⟨%g3, %eg3, G3⟩, ⟨%g4, %eg4, G4⟩, ⟨%g5, %eg5, G5⟩⟩
  subst e1
  subst e2
  subst e3
  subst e4
  subst e5
  subst e6
  subst e7
  subst e9
  subst e12
  subst eg0
  subst eg2
  subst eg3
  subst eg4
  subst eg5

  iapply ((proRun c i arg1 harg1 arg2 harg2 arg3 harg3 arg4 harg4 arg5 harg5 arg6 harg6 arg7 harg7 arg9 harg9 arg12 harg12 arg13 harg13 n1 n2 n3 f4 g0).2 _)
  isplitl [H4]; · iexact H4
  isplitl [G0]; · iexact G0
  iintro ⟨H4, G0⟩
  rw [proRun_ret]
  iapply ((bothRun c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) (View.ld (sc0.view.read (Elt F) g0) allPrev)) (keysScaled (arg4.view.read (Elt F) f4) (View.ld (sc0.view.read (Elt F) g0) allPrev)) f1 f2 f3 f5 f6 f7 f9 f12 g2 g3 g4 g5).2 g1 f13 _)
  isplitl [H1]; · iexact H1
  isplitl [H2]; · iexact H2
  isplitl [H3]; · iexact H3
  isplitl [H5]; · iexact H5
  isplitl [G1]; · iexact G1
  isplitl [H6]; · iexact H6
  isplitl [H7]; · iexact H7
  isplitl [H9]; · iexact H9
  isplitl [H12]; · iexact H12
  isplitl [H13]; · iexact H13
  isplitl [G2]; · iexact G2
  isplitl [G3]; · iexact G3
  isplitl [G4]; · iexact G4
  isplitl [G5]; · iexact G5
  iintro ⟨H1, H2, H3, H5, G1, H6, H7, H9, H12, H13, G2, G3, G4, G5⟩
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H9]
  · iexists _; isplitr; · ipureintro; rfl
    iexact H9
  isplitl [H12]
  · iexists _; isplitr; · ipureintro; rfl
    iexact H12
  isplitl [H13]
  · iexists _; isplitr; swap; · iexact H13
    ipureintro; exact b_out c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) (View.ld (sc0.view.read (Elt F) g0) allPrev)) (keysScaled (arg4.view.read (Elt F) f4) (View.ld (sc0.view.read (Elt F) g0) allPrev)) f1 f2 f3 f5 f6 f7 f9 f12 g2 g3 g4 g5 f13
  isplitl [G0]
  · iexists _; isplitr; swap; · iexact G0
    ipureintro; exact proRun_carry c i arg1 harg1 arg2 harg2 arg3 harg3 arg4 harg4 arg5 harg5 arg6 harg6 arg7 harg7 arg9 harg9 arg12 harg12 arg13 harg13 n1 n2 n3 f4 g0 g0
  isplitl [G1]
  · iexists _; iexact G1
  isplitl [G2]
  · iexists _; isplitr; swap; · iexact G2
    ipureintro; exact (b_ya c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) (View.ld (sc0.view.read (Elt F) g0) allPrev)) (keysScaled (arg4.view.read (Elt F) f4) (View.ld (sc0.view.read (Elt F) g0) allPrev)) f1 f2 f3 f5 f6 f7 f9 f12 g2 g3 g4 g5 g2).trans (by rw [bU_eq _ _ _ _ _ _ _ _ _ _ _ _ n hoff])
  isplitl [G3]
  · iexists _; isplitr; swap; · iexact G3
    ipureintro; rfl
  isplitl [G4]
  · iexists _; isplitr; swap; · iexact G4
    ipureintro; rfl
  iexists _; isplitr; swap; · iexact G5
  ipureintro; rfl

set_option maxHeartbeats 1600000 in
/-- A step that starts a sequence. -/
theorem step_fresh (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : ¬ cond1 i = 1#1) (n2 : ¬ cond2 i = 1#1) (n3 : cond3 i = 1#1) (h4 : ¬ k0_cond4 i = 1#1) (h5 : ¬ k0_cond5 i = 1#1) (n : Fin 2) (hoff : k0_off2 i = ![n.val, 0, 0]) (x1 : Vec F S16 .f32) (x2 : Vec F S2x512x256 .f32) (x3 : Vec F S512x1024 .bf16) (x4 : Vec F S512x256 .f32) (x5 : Vec F S1x1024 .f32) (x6 : Vec F S512x1024 .f32) (x7 : Vec F S512x1024 .bf16) (x9 : Vec F S1x1024 .f32) (x12 : Vec F S1x1024 .f32)  (xa : Vec F S512x1024 .bf16) (wo : Vec F S2048x1024 .bf16) (wu : Vec F S1024x4096 .bf16) (wd : Vec F S4096x1024 .bf16) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg12 fullShare x12 ∗ (∃ d, owns (c : Thread nD τ) arg13 fullShare d) ∗ anyW (F := F) c sc0 ∗ anyW (F := F) c sc1 ∗ holds c sc2 xa ∗ holds c sc3 wo ∗ holds c sc4 wu ∗ holds c sc5 wd)
      ⊢ wp frame (wpE (defs₀ (F := F)) Variants.none c none) Set.univ (cc0_attn_mlp (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg9 fullShare x9 ∗ owns (c : Thread nD τ) arg12 fullShare x12 ∗ owns (c : Thread nD τ) arg13 fullShare (outOf x6 x7 x9 x12 xa wo wu wd) ∗ holds c sc0 (carryOf x4) ∗ anyW (F := F) c sc1 ∗ holds c sc2 (yaOf (unitsOf x1 x2 x3 x4 noPrev n) x5) ∗ holds c sc3 wo ∗ holds c sc4 wu ∗ holds c sc5 wd)) := by
  rw [(rest (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6).2, wp_bind]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f9, %e9, H9⟩, ⟨%f12, %e12, H12⟩, ⟨%d13, %f13, -, H13⟩, ⟨%g0, G0⟩, ⟨%g1, G1⟩, ⟨%g2, %eg2, G2⟩, ⟨%g3, %eg3, G3⟩, ⟨%g4, %eg4, G4⟩, ⟨%g5, %eg5, G5⟩⟩
  subst e1
  subst e2
  subst e3
  subst e4
  subst e5
  subst e6
  subst e7
  subst e9
  subst e12
  subst eg2
  subst eg3
  subst eg4
  subst eg5

  iapply ((proZeroRun c i arg1 harg1 arg2 harg2 arg3 harg3 arg4 harg4 arg5 harg5 arg6 harg6 arg7 harg7 arg9 harg9 arg12 harg12 arg13 harg13 n1 n2 n3 f4).2 g0 _)
  isplitl [H4]; · iexact H4
  isplitl [G0]; · iexact G0
  iintro ⟨H4, G0⟩
  rw [proZeroRun_ret]
  iapply ((bothRun c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) noPrev) (keysScaled (arg4.view.read (Elt F) f4) noPrev) f1 f2 f3 f5 f6 f7 f9 f12 g2 g3 g4 g5).2 g1 f13 _)
  isplitl [H1]; · iexact H1
  isplitl [H2]; · iexact H2
  isplitl [H3]; · iexact H3
  isplitl [H5]; · iexact H5
  isplitl [G1]; · iexact G1
  isplitl [H6]; · iexact H6
  isplitl [H7]; · iexact H7
  isplitl [H9]; · iexact H9
  isplitl [H12]; · iexact H12
  isplitl [H13]; · iexact H13
  isplitl [G2]; · iexact G2
  isplitl [G3]; · iexact G3
  isplitl [G4]; · iexact G4
  isplitl [G5]; · iexact G5
  iintro ⟨H1, H2, H3, H5, G1, H6, H7, H9, H12, H13, G2, G3, G4, G5⟩
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H9]
  · iexists _; isplitr; · ipureintro; rfl
    iexact H9
  isplitl [H12]
  · iexists _; isplitr; · ipureintro; rfl
    iexact H12
  isplitl [H13]
  · iexists _; isplitr; swap; · iexact H13
    ipureintro; exact b_out c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) noPrev) (keysScaled (arg4.view.read (Elt F) f4) noPrev) f1 f2 f3 f5 f6 f7 f9 f12 g2 g3 g4 g5 f13
  isplitl [G0]
  · iexists _; isplitr; swap; · iexact G0
    ipureintro; exact proZeroRun_carry c i arg1 harg1 arg2 harg2 arg3 harg3 arg4 harg4 arg5 harg5 arg6 harg6 arg7 harg7 arg9 harg9 arg12 harg12 arg13 harg13 n1 n2 n3 f4 g0
  isplitl [G1]
  · iexists _; iexact G1
  isplitl [G2]
  · iexists _; isplitr; swap; · iexact G2
    ipureintro; exact (b_ya c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) noPrev) (keysScaled (arg4.view.read (Elt F) f4) noPrev) f1 f2 f3 f5 f6 f7 f9 f12 g2 g3 g4 g5 g2).trans (by rw [bU_eq _ _ _ _ _ _ _ _ _ _ _ _ n hoff])
  isplitl [G3]
  · iexists _; isplitr; swap; · iexact G3
    ipureintro; rfl
  isplitl [G4]
  · iexists _; isplitr; swap; · iexact G4
    ipureintro; rfl
  iexists _; isplitr; swap; · iexact G5
  ipureintro; rfl

set_option maxHeartbeats 1600000 in
/-- The last step: the last tile is projected and nothing attended to. -/
theorem step_last (c : Dev nD) (i : grid0.Coords) (arg1 : Memref sig .tc .smem S16 .f32) (harg1 : arg1.IsWhole) (arg2 : Memref sig .tc .vmem S2x512x256 .f32) (harg2 : arg2.IsWhole) (arg3 : Memref sig .tc .vmem S512x1024 .bf16) (harg3 : arg3.IsWhole) (arg4 : Memref sig .tc .vmem S512x256 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .bf16) (harg7 : arg7.IsWhole) (arg9 : Memref sig .tc .vmem S1x1024 .f32) (harg9 : arg9.IsWhole) (arg12 : Memref sig .tc .vmem S1x1024 .f32) (harg12 : arg12.IsWhole) (arg13 : Memref sig .tc .vmem S512x1024 .f32) (harg13 : arg13.IsWhole)
    (n1 : ¬ cond1 i = 1#1) (n2 : ¬ cond2 i = 1#1) (n3 : cond3 i = 1#1) (h4 : ¬ k0_cond4 i = 1#1) (h5 : k0_cond5 i = 1#1) (x4 : Vec F S512x256 .f32) (x6 : Vec F S512x1024 .f32) (x7 : Vec F S512x1024 .bf16) (x9 : Vec F S1x1024 .f32) (x12 : Vec F S1x1024 .f32) (xa : Vec F S512x1024 .bf16) (wo : Vec F S2048x1024 .bf16) (wu : Vec F S1024x4096 .bf16) (wd : Vec F S4096x1024 .bf16) :
    iprop(owns (c : Thread nD τ) arg4 fullShare x4 ∗ owns (c : Thread nD τ) arg6 fullShare x6 ∗ owns (c : Thread nD τ) arg7 fullShare x7 ∗ owns (c : Thread nD τ) arg9 fullShare x9 ∗ owns (c : Thread nD τ) arg12 fullShare x12 ∗ (∃ d, owns (c : Thread nD τ) arg13 fullShare d) ∗ anyW (F := F) c sc0 ∗ holds c sc2 xa ∗ holds c sc3 wo ∗ holds c sc4 wu ∗ holds c sc5 wd)
      ⊢ wp frame (wpE (defs₀ (F := F)) Variants.none c none) Set.univ (cc0_attn_mlp (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6) (fun _ => iprop(owns (c : Thread nD τ) arg4 fullShare x4 ∗ owns (c : Thread nD τ) arg6 fullShare x6 ∗ owns (c : Thread nD τ) arg7 fullShare x7 ∗ owns (c : Thread nD τ) arg9 fullShare x9 ∗ owns (c : Thread nD τ) arg12 fullShare x12 ∗ owns (c : Thread nD τ) arg13 fullShare (outOf x6 x7 x9 x12 xa wo wu wd) ∗ holds c sc0 (carryOf x4) ∗ holds c sc2 xa ∗ holds c sc3 wo ∗ holds c sc4 wu ∗ holds c sc5 wd)) := by
  rw [(rest (F := F) i arg1 harg1 arg2 harg2 arg3 harg3 arg4 harg4 arg5 harg5 arg6 harg6 arg7 harg7 hb0 (Memref.isWhole_whole _) arg9 harg9 hb1 (Memref.isWhole_whole _) hb2 (Memref.isWhole_whole _) arg12 harg12 arg13 harg13 sc0 (Memref.isWhole_whole _) sc1 (Memref.isWhole_whole _) sc2 (Memref.isWhole_whole _) sc3 (Memref.isWhole_whole _) sc4 (Memref.isWhole_whole _) sc5 (Memref.isWhole_whole _) cc0_scratch6).2, wp_bind]
  unfold owns
  iintro ⟨⟨%f4, %e4, H4⟩, ⟨%f6, %e6, H6⟩, ⟨%f7, %e7, H7⟩, ⟨%f9, %e9, H9⟩, ⟨%f12, %e12, H12⟩, ⟨%d13, %f13, -, H13⟩, ⟨%g0, G0⟩, ⟨%g2, %eg2, G2⟩, ⟨%g3, %eg3, G3⟩, ⟨%g4, %eg4, G4⟩, ⟨%g5, %eg5, G5⟩⟩
  subst e4
  subst e6
  subst e7
  subst e9
  subst e12
  subst eg2
  subst eg3
  subst eg4
  subst eg5

  iapply ((proZeroRun c i arg1 harg1 arg2 harg2 arg3 harg3 arg4 harg4 arg5 harg5 arg6 harg6 arg7 harg7 arg9 harg9 arg12 harg12 arg13 harg13 n1 n2 n3 f4).2 g0 _)
  isplitl [H4]; · iexact H4
  isplitl [G0]; · iexact G0
  iintro ⟨H4, G0⟩
  rw [proZeroRun_ret]
  iapply ((mlpRun c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) noPrev) (keysScaled (arg4.view.read (Elt F) f4) noPrev) f6 f7 f9 f12 g2 g3 g4 g5).2 f13 _)
  isplitl [H6]; · iexact H6
  isplitl [H7]; · iexact H7
  isplitl [H9]; · iexact H9
  isplitl [H12]; · iexact H12
  isplitl [H13]; · iexact H13
  isplitl [G2]; · iexact G2
  isplitl [G3]; · iexact G3
  isplitl [G4]; · iexact G4
  isplitl [G5]; · iexact G5
  iintro ⟨H6, H7, H9, H12, H13, G2, G3, G4, G5⟩
  isplitl [H4]
  · iexists _; isplitr; · ipureintro; rfl
    iexact H4
  isplitl [H6]
  · iexists _; isplitr; · ipureintro; rfl
    iexact H6
  isplitl [H7]
  · iexists _; isplitr; · ipureintro; rfl
    iexact H7
  isplitl [H9]
  · iexists _; isplitr; · ipureintro; rfl
    iexact H9
  isplitl [H12]
  · iexists _; isplitr; · ipureintro; rfl
    iexact H12
  isplitl [H13]
  · iexists _; isplitr; swap; · iexact H13
    ipureintro; exact m_out c i arg1 harg1 arg2 harg2 arg3 harg3 arg4 harg4 arg5 harg5 arg6 harg6 arg7 harg7 arg9 harg9 arg12 harg12 arg13 harg13 h4 h5 (BitVec.ofNat 32 (i 0).val) (place i) (kvOf (arg4.view.read (Elt F) f4) noPrev) (keysScaled (arg4.view.read (Elt F) f4) noPrev) f6 f7 f9 f12 g2 g3 g4 g5 f13
  isplitl [G0]
  · iexists _; isplitr; swap; · iexact G0
    ipureintro; exact proZeroRun_carry c i arg1 harg1 arg2 harg2 arg3 harg3 arg4 harg4 arg5 harg5 arg6 harg6 arg7 harg7 arg9 harg9 arg12 harg12 arg13 harg13 n1 n2 n3 f4 g0
  isplitl [G2]
  · iexists _; isplitr; swap; · iexact G2
    ipureintro; rfl
  isplitl [G3]
  · iexists _; isplitr; swap; · iexact G3
    ipureintro; rfl
  isplitl [G4]
  · iexists _; isplitr; swap; · iexact G4
    ipureintro; rfl
  iexists _; isplitr; swap; · iexact G5
  ipureintro; rfl

end Cert.KernelIdeal.Hand

end
-- ==== Proof.Launch.lean ====
/-
  The grid: what holds between steps, the body obligation, the run and the frame.
-/
module

public import proofs.«01_k».proof.Proof.Step
public import Idealize.ShloMosaic.Lib.Pipeline.ReadBack
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (l : Loc nD τ sig) → Buf (Elt F) l) (ρ : Dev nD → PrngReg)

set_option maxHeartbeats 800000 in
/-- The program up to the region: the lines of host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-! ## What an input window's buffer holds -/

theorem before_0 {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7 {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8 {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The cells and buffers the body addresses itself -/

abbrev osem0 : Fin 3 → SemLoc sig := fun j => (![SemLoc.dma 15, SemLoc.dma 16, SemLoc.dma 17] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0
          ∗ semVal ((c : Thread nD τ), SemLoc.dma 17) 0) := by
  rw [Pipeline.ownSems0_eq_of_list c osem0 [0, 1, 2] (by decide) (by decide)]; rfl
/-- The weights, as the region finds them. -/
abbrev w0At (c : Dev nD) : MBuf F c hb0 := V m c main_v10
abbrev w1At (c : Dev nD) : MBuf F c hb1 := V m c main_v14
abbrev w2At (c : Dev nD) : MBuf F c hb2 := V m c main_v16
def H0 : Finset (Ref sig .tc) := {main_v10, main_v14, main_v16}
theorem H0_sub : H0 ⊆ Pipeline.restRefs sig spec0 := by decide
theorem hbmPts0_eq (c : Dev nD) :
    (bigSep H0 (fun b => ((c : Thread nD τ).loc b) ↦{fullShare} V m c b) : sProp 𝕄)
      = iprop(ownW c hb0 (w0At m c) ∗ ownW c hb1 (w1At m c) ∗ ownW c hb2 (w2At m c)) := by
  rw [BI.bigSep_eq_bigSepL_of_eq [main_v10, main_v14, main_v16] (by decide) (by decide)]; rfl
theorem PhiD0_eq (c : Dev nD) :
    (Pipeline.ΦD osem0 spec0 H0 (V m) c : sProp 𝕄)
      = iprop(iprop(anyW (F := F) c sc0 ∗ anyW (F := F) c sc1 ∗ anyW (F := F) c sc2 ∗ anyW (F := F) c sc3 ∗ anyW (F := F) c sc4 ∗ anyW (F := F) c sc5)
          ∗ (∃ r, prngReg c r)
          ∗ iprop(semVal ((c : Thread nD τ), SemLoc.dma 15) 0 ∗ semVal ((c : Thread nD τ), SemLoc.dma 16) 0 ∗ semVal ((c : Thread nD τ), SemLoc.dma 17) 0)
          ∗ iprop(ownW c hb0 (w0At m c) ∗ ownW c hb1 (w1At m c) ∗ ownW c hb2 (w2At m c))) := by
  rw [Pipeline.ΦD_eq, scopedRest0_eq, ownSems00_eq, hbmPts0_eq]; try rfl

/-! ## The blocks of a step, and what the steps leave -/

/-- The sinks of step `t`. -/
abbrev in0 (c : Dev nD) (t : Fin cfg0.N) : Vec F S16 .f32 := iblk m c 0 t
/-- The mask tables of step `t`. -/
abbrev in1 (c : Dev nD) (t : Fin cfg0.N) : Vec F S2x512x256 .f32 := iblk m c 1 t
/-- The queries of step `t`. -/
abbrev in2 (c : Dev nD) (t : Fin cfg0.N) : Vec F S512x1024 .bf16 := iblk m c 2 t
/-- The keys and values of step `t`. -/
abbrev in3 (c : Dev nD) (t : Fin cfg0.N) : Vec F S512x256 .f32 := iblk m c 3 t
/-- The first gains of step `t`. -/
abbrev in4 (c : Dev nD) (t : Fin cfg0.N) : Vec F S1x1024 .f32 := iblk m c 4 t
/-- The stream of step `t`. -/
abbrev in5 (c : Dev nD) (t : Fin cfg0.N) : Vec F S512x1024 .f32 := iblk m c 5 t
/-- The recurrent output of step `t`. -/
abbrev in6 (c : Dev nD) (t : Fin cfg0.N) : Vec F S512x1024 .bf16 := iblk m c 6 t
/-- The second gains of step `t`. -/
abbrev in7 (c : Dev nD) (t : Fin cfg0.N) : Vec F S1x1024 .f32 := iblk m c 7 t
/-- The third gains of step `t`. -/
abbrev in8 (c : Dev nD) (t : Fin cfg0.N) : Vec F S1x1024 .f32 := iblk m c 8 t

/-- Step `k`, the last one past the end. -/
def pt (k : ℕ) : Fin cfg0.N := ⟨min k 32, by have : cfg0.N = 33 := N_0; omega⟩
theorem pt_val (t : Fin cfg0.N) : pt t.val = t := Fin.ext (by have : cfg0.N = 33 := N_0; have := t.isLt; simp only [pt]; omega)

/-- The rows of keys and values the step before left: none at the start of a sequence. -/
def prevN (c : Dev nD) (k : ℕ) : FVec F S128x256 .f32 :=
  if k % 4 = 0 then noPrev else View.ld (Val := Elt F) (e' := .f32) (carryOf (in3 m c (pt (k - 1)))) allPrev
/-- The mask table of a tile's first block row: the second at the start of a sequence. -/
def rowN (k : ℕ) : Fin 2 := if k % 4 = 0 then 1 else 0
/-- The normalised attention output of tile `k`. -/
def yaN (c : Dev nD) (k : ℕ) : FVec F S512x1024 .bf16 :=
  yaOf (unitsOf (in0 m c (pt k)) (in1 m c (pt k)) (in2 m c (pt k)) (in3 m c (pt k)) (prevN m c k) (rowN k)) (in4 m c (pt k))
/-- The weights read whole. -/
abbrev woAt (c : Dev nD) : Vec F S2048x1024 .bf16 := hb0.view.read (Elt F) (w0At m c)
abbrev wuAt (c : Dev nD) : Vec F S1024x4096 .bf16 := hb1.view.read (Elt F) (w1At m c)
abbrev wdAt (c : Dev nD) : Vec F S4096x1024 .bf16 := hb2.view.read (Elt F) (w2At m c)
/-- The block step `t` stores, the first step aside. -/
def outAt (c : Dev nD) (t : Fin cfg0.N) : FVec F S512x1024 .f32 :=
  outOf (in5 m c t) (in6 m c t) (in7 m c t) (in8 m c t) (yaN m c (t.val - 1)) (woAt m c) (wuAt m c) (wdAt m c)

theorem yaN_at (c : Dev nD) (t : Fin cfg0.N) (k : ℕ) (h : t.val = k) :
    yaN m c k = yaOf (unitsOf (in0 m c t) (in1 m c t) (in2 m c t) (in3 m c t) (prevN m c k) (rowN k)) (in4 m c t) := by
  subst h; unfold yaN; rw [pt_val]

/-- What holds before step `k`: before the first the scratch buffers at anything; before the second the transfers of
    weights in flight; before the later ones the weights in place. -/
def inv (c : Dev nD) : ℕ → sProp 𝕄
  | 0 => Pipeline.ΦD osem0 spec0 H0 (V m) c
  | 1 => iprop((∃ g, fly0 c g (w0At m c)) ∗ (∃ g, fly1 c g (w1At m c)) ∗ (∃ g, fly2 c g (w2At m c))
      ∗ off0 c (w0At m c) ∗ off1 c (w1At m c) ∗ off2 c (w2At m c)
      ∗ holds c sc0 (carryOf (in3 m c (pt 0))) ∗ anyW (F := F) c sc1 ∗ holds c sc2 (yaN m c 0) ∗ (∃ r, prngReg c r))
  | k + 2 => iprop(semVal ((c : Thread nD τ), SemLoc.dma 15) 0 ∗ semVal ((c : Thread nD τ), SemLoc.dma 16) 0 ∗ semVal ((c : Thread nD τ), SemLoc.dma 17) 0
      ∗ ownW c hb0 (w0At m c) ∗ ownW c hb1 (w1At m c) ∗ ownW c hb2 (w2At m c)
      ∗ holds c sc3 (woAt m c) ∗ holds c sc4 (wuAt m c) ∗ holds c sc5 (wdAt m c)
      ∗ holds c sc0 (carryOf (in3 m c (pt (k + 1)))) ∗ anyW (F := F) c sc1 ∗ holds c sc2 (yaN m c (min (k + 1) 31)) ∗ (∃ r, prngReg c r))

theorem inv_one (c : Dev nD) : inv m c 1 = iprop((∃ g, fly0 c g (w0At m c)) ∗ (∃ g, fly1 c g (w1At m c)) ∗ (∃ g, fly2 c g (w2At m c))
      ∗ off0 c (w0At m c) ∗ off1 c (w1At m c) ∗ off2 c (w2At m c)
      ∗ holds c sc0 (carryOf (in3 m c (pt 0))) ∗ anyW (F := F) c sc1 ∗ holds c sc2 (yaN m c 0) ∗ (∃ r, prngReg c r)) := rfl
theorem inv_later (c : Dev nD) (k : ℕ) : inv m c (k + 2) = iprop(semVal ((c : Thread nD τ), SemLoc.dma 15) 0 ∗ semVal ((c : Thread nD τ), SemLoc.dma 16) 0 ∗ semVal ((c : Thread nD τ), SemLoc.dma 17) 0
      ∗ ownW c hb0 (w0At m c) ∗ ownW c hb1 (w1At m c) ∗ ownW c hb2 (w2At m c)
      ∗ holds c sc3 (woAt m c) ∗ holds c sc4 (wuAt m c) ∗ holds c sc5 (wdAt m c)
      ∗ holds c sc0 (carryOf (in3 m c (pt (k + 1)))) ∗ anyW (F := F) c sc1 ∗ holds c sc2 (yaN m c (min (k + 1) 31)) ∗ (∃ r, prngReg c r)) := rfl

theorem inv_mid (c : Dev nD) (k : ℕ) (hk : k ≤ 30) : inv m c (k + 2) = iprop(semVal ((c : Thread nD τ), SemLoc.dma 15) 0 ∗ semVal ((c : Thread nD τ), SemLoc.dma 16) 0 ∗ semVal ((c : Thread nD τ), SemLoc.dma 17) 0
      ∗ ownW c hb0 (w0At m c) ∗ ownW c hb1 (w1At m c) ∗ ownW c hb2 (w2At m c)
      ∗ holds c sc3 (woAt m c) ∗ holds c sc4 (wuAt m c) ∗ holds c sc5 (wdAt m c)
      ∗ holds c sc0 (carryOf (in3 m c (pt (k + 1)))) ∗ anyW (F := F) c sc1 ∗ holds c sc2 (yaN m c (k + 1)) ∗ (∃ r, prngReg c r)) := by
  rw [inv_later, show min (k + 1) 31 = k + 1 by omega]

/-- The proof data: the arrays as the region finds them, the input blocks left in place, the output block stored. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := inv m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem found_0 (c : Dev nD) (t : Fin cfg0.N) (d) : (dats m 0 c).before 0 t d = iblk m c 0 t :=
  before_0 m (dats m 0 c) (A_eq m c 0) (after_0 m c) t d
theorem after_1 (c : Dev nD) (t : Fin cfg0.N) : (dats m 0 c).after 1 t = iblk m c 1 t := by dsimp only [dats]
theorem found_1 (c : Dev nD) (t : Fin cfg0.N) (d) : (dats m 0 c).before 1 t d = iblk m c 1 t :=
  before_1 m (dats m 0 c) (A_eq m c 1) (after_1 m c) t d
theorem after_2 (c : Dev nD) (t : Fin cfg0.N) : (dats m 0 c).after 2 t = iblk m c 2 t := by dsimp only [dats]
theorem found_2 (c : Dev nD) (t : Fin cfg0.N) (d) : (dats m 0 c).before 2 t d = iblk m c 2 t :=
  before_2 m (dats m 0 c) (A_eq m c 2) (after_2 m c) t d
theorem after_3 (c : Dev nD) (t : Fin cfg0.N) : (dats m 0 c).after 3 t = iblk m c 3 t := by dsimp only [dats]
theorem found_3 (c : Dev nD) (t : Fin cfg0.N) (d) : (dats m 0 c).before 3 t d = iblk m c 3 t :=
  before_3 m (dats m 0 c) (A_eq m c 3) (after_3 m c) t d
theorem after_4 (c : Dev nD) (t : Fin cfg0.N) : (dats m 0 c).after 4 t = iblk m c 4 t := by dsimp only [dats]
theorem found_4 (c : Dev nD) (t : Fin cfg0.N) (d) : (dats m 0 c).before 4 t d = iblk m c 4 t :=
  before_4 m (dats m 0 c) (A_eq m c 4) (after_4 m c) t d
theorem after_5 (c : Dev nD) (t : Fin cfg0.N) : (dats m 0 c).after 5 t = iblk m c 5 t := by dsimp only [dats]
theorem found_5 (c : Dev nD) (t : Fin cfg0.N) (d) : (dats m 0 c).before 5 t d = iblk m c 5 t :=
  before_5 m (dats m 0 c) (A_eq m c 5) (after_5 m c) t d
theorem after_6 (c : Dev nD) (t : Fin cfg0.N) : (dats m 0 c).after 6 t = iblk m c 6 t := by dsimp only [dats]
theorem found_6 (c : Dev nD) (t : Fin cfg0.N) (d) : (dats m 0 c).before 6 t d = iblk m c 6 t :=
  before_6 m (dats m 0 c) (A_eq m c 6) (after_6 m c) t d
theorem after_7 (c : Dev nD) (t : Fin cfg0.N) : (dats m 0 c).after 7 t = iblk m c 7 t := by dsimp only [dats]
theorem found_7 (c : Dev nD) (t : Fin cfg0.N) (d) : (dats m 0 c).before 7 t d = iblk m c 7 t :=
  before_7 m (dats m 0 c) (A_eq m c 7) (after_7 m c) t d
theorem after_8 (c : Dev nD) (t : Fin cfg0.N) : (dats m 0 c).after 8 t = iblk m c 8 t := by dsimp only [dats]
theorem found_8 (c : Dev nD) (t : Fin cfg0.N) (d) : (dats m 0 c).before 8 t d = iblk m c 8 t :=
  before_8 m (dats m 0 c) (A_eq m c 8) (after_8 m c) t d
theorem after_9 (c : Dev nD) (t : Fin cfg0.N) : (dats m 0 c).after 9 t = outAt m c t := by dsimp only [dats]

/-! ## Which case a step is -/

theorem first_case : ∀ t : Fin cfg0.N, t.val = 0 → cond1 (grid0.coords t) = 1#1 ∧ ¬ cond2 (grid0.coords t) = 1#1 ∧ cond3 (grid0.coords t) = 1#1
    ∧ k0_cond4 (grid0.coords t) = 1#1 ∧ k0_off1 (grid0.coords t) = ![(rowN t.val).val, 0, 0]
    ∧ cfg0.idle 9 (cfg0.grid.coords t) = true ∧ (cfg0.win 9).flush t = false := by decide +kernel
theorem second_case : ∀ t : Fin cfg0.N, t.val = 1 → ¬ cond1 (grid0.coords t) = 1#1 ∧ cond2 (grid0.coords t) = 1#1 ∧ ¬ cond3 (grid0.coords t) = 1#1 := by decide +kernel
theorem later_case : ∀ t : Fin cfg0.N, 2 ≤ t.val → ¬ cond1 (grid0.coords t) = 1#1 ∧ ¬ cond2 (grid0.coords t) = 1#1 := by decide +kernel
theorem fresh_case : ∀ t : Fin cfg0.N, t.val % 4 = 0 → cond3 (grid0.coords t) = 1#1 := by decide +kernel
theorem within_case : ∀ t : Fin cfg0.N, ¬ t.val % 4 = 0 → ¬ cond3 (grid0.coords t) = 1#1 := by decide +kernel
theorem both_case : ∀ t : Fin cfg0.N, 1 ≤ t.val → t.val ≤ 31 → ¬ k0_cond4 (grid0.coords t) = 1#1 ∧ ¬ k0_cond5 (grid0.coords t) = 1#1
    ∧ k0_off2 (grid0.coords t) = ![(rowN t.val).val, 0, 0] := by decide +kernel
theorem last_case : ∀ t : Fin cfg0.N, t.val = 32 → ¬ k0_cond4 (grid0.coords t) = 1#1 ∧ k0_cond5 (grid0.coords t) = 1#1 := by decide +kernel
theorem busy_case : ∀ t : Fin cfg0.N, 1 ≤ t.val → cfg0.idle 9 (cfg0.grid.coords t) = false := by decide +kernel

/-! ## The body obligation -/

/-- What the body leaves of the output window's buffer: at the first step what it found. -/
def last9 (c : Dev nD) (t : Fin cfg0.N) : sProp 𝕄 :=
  match cfg0.idle 9 (cfg0.grid.coords t) with
  | true =>
    match (cfg0.win 9).flush t with
    | false => iprop(∃ d, owns (c : Thread nD τ) (st0_9 t) fullShare ((dats m 0 c).before 9 t d))
    | true => owns (c : Thread nD τ) (st0_9 t) fullShare ((dats m 0 c).after 9 t)
  | false => owns (c : Thread nD τ) (st0_9 t) fullShare ((dats m 0 c).after 9 t)

theorem last9_first (c : Dev nD) (t : Fin cfg0.N) (h : t.val = 0) :
    last9 m c t = iprop(∃ d, owns (c : Thread nD τ) (st0_9 t) fullShare ((dats m 0 c).before 9 t d)) := by
  unfold last9; rw [(first_case t h).2.2.2.2.2.1, (first_case t h).2.2.2.2.2.2]
theorem last9_later (c : Dev nD) (t : Fin cfg0.N) (h : 1 ≤ t.val) :
    last9 m c t = owns (c : Thread nD τ) (st0_9 t) fullShare (outAt m c t) := by
  unfold last9; rw [busy_case t h, after_9]

def bodyPre (c : Dev nD) (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
def bodyPost (c : Dev nD) (t : Fin cfg0.N) : sProp 𝕄 :=
  iprop(inv m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ last9 m c t)

theorem holds_any (c : Dev nD) {sp : Space} {S : Shape} {e : EltTy} (M : Memref sig .tc sp S e) (X : S.Idx → Elt F e) :
    holds c M X ⊢ anyW (F := F) c M := by
  iintro ⟨%g, -, H⟩
  iexists g; iexact H

set_option maxHeartbeats 1600000 in
theorem body_first (c : Dev nD) (t : Fin cfg0.N) (h0 : t.val = 0) :
    bodyPre m c t ⊢ wp frame (wpE (defs₀ (F := F)) Variants.none c none) Set.univ (bodyAt0 t) (fun _ => bodyPost m c t) := by
  obtain ⟨n1, n2, n3, h4, ho, -, -⟩ := first_case t h0
  have ey := yaN_at m c t 0 h0
  have ep : pt 0 = t := h0 ▸ pt_val t
  rw [h0] at ho
  unfold bodyPre bodyPost
  rw [last9_first m c t h0, h0]
  simp only [found_0, after_0, found_1, after_1, found_2, after_2, found_3, after_3, found_4, after_4, found_5, after_5, found_6, after_6, found_7, after_7, found_8, after_8]
  unfold Dat.owesAt Pipeline.owesWithin
  rw [show (dats m 0 c).owed t.castSucc = 0 from rfl, show (dats m 0 c).owed t.succ = 0 from rfl]
  unfold bodyAt0
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9⟩
  icases (show inv m c 0 ⊢ _ from Entails.of_eq (PhiD0_eq m c)) $$ HI with ⟨⟨G0, G1, G2, G3, G4, G5⟩, Hg, ⟨S0, S1, S2⟩, ⟨B0, B1, B2⟩⟩
  iapply wp_wand_r
  isplitl [H0 H1 H2 H3 H4 S0 S1 S2 B0 B1 B2 G3 G4 G5 G0 G1 G2]
  · iapply (step_start c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) n1 n2 n3 h4 (rowN 0) ho (in0 m c t) (in1 m c t) (in2 m c t) (in3 m c t) (in4 m c t) (w0At m c) (w1At m c) (w2At m c))
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [B0]; · iexact B0
    isplitl [B1]; · iexact B1
    isplitl [B2]; · iexact B2
    isplitl [G3]; · iexact G3
    isplitl [G4]; · iexact G4
    isplitl [G5]; · iexact G5
    isplitl [G0]; · iexact G0
    isplitl [G1]; · iexact G1
    iexact G2
  iintro %u ⟨H0, H1, H2, H3, H4, S0, S1, S2, B0, B1, B2, G0, G1, G2⟩
  rw [show inv m c (0 + 1) = inv m c 1 from rfl, inv_one, ep, ey]
  unfold prevN; rw [if_pos (by decide : 0 % 4 = 0)]
  isplitl [S0 S1 S2 B0 B1 B2 G0 G1 G2 Hg]
  · isplitl [S0]; · iexact S0
    isplitl [S1]; · iexact S1
    isplitl [S2]; · iexact S2
    isplitl [B0]; · iexact B0
    isplitl [B1]; · iexact B1
    isplitl [B2]; · iexact B2
    isplitl [G0]; · iexact G0
    isplitl [G1]; · iexact G1
    isplitl [G2]; · iexact G2
    iexact Hg
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
theorem body_second (c : Dev nD) (t : Fin cfg0.N) (h1 : t.val = 1) :
    bodyPre m c t ⊢ wp frame (wpE (defs₀ (F := F)) Variants.none c none) Set.univ (bodyAt0 t) (fun _ => bodyPost m c t) := by
  obtain ⟨n1, n2, n3⟩ := second_case t h1
  obtain ⟨h4, h5, ho⟩ := both_case t h1.ge (by omega)
  have ey := yaN_at m c t 1 h1
  have ep : pt 1 = t := h1 ▸ pt_val t
  have eo : outAt m c t = outOf (in5 m c t) (in6 m c t) (in7 m c t) (in8 m c t) (yaN m c 0) (woAt m c) (wuAt m c) (wdAt m c) := by unfold outAt; rw [h1]
  rw [h1] at ho
  unfold bodyPre bodyPost
  rw [last9_later m c t h1.ge, h1]
  simp only [found_0, after_0, found_1, after_1, found_2, after_2, found_3, after_3, found_4, after_4, found_5, after_5, found_6, after_6, found_7, after_7, found_8, after_8]
  unfold Dat.owesAt Pipeline.owesWithin
  rw [show (dats m 0 c).owed t.castSucc = 0 from rfl, show (dats m 0 c).owed t.succ = 0 from rfl]
  unfold bodyAt0
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  icases (show inv m c 1 ⊢ _ from Entails.of_eq (inv_one m c)) $$ HI with ⟨S0, S1, S2, B0, B1, B2, G0, G1, G2, Hg⟩
  iapply wp_wand_r
  isplitl [H0 H1 H2 H3 H4 H5 H6 H7 H8 H9 G0 G1 G2 S0 S1 S2 B0 B1 B2 HW]
  · iapply (step_wait c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) n1 n2 n3 h4 h5 (rowN 1) ho (in0 m c t) (in1 m c t) (in2 m c t) (in3 m c t) (in4 m c t) (in5 m c t) (in6 m c t) (in7 m c t) (in8 m c t) (carryOf (in3 m c (pt 0))) (yaN m c 0) (w0At m c) (w1At m c) (w2At m c) W)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [G0]; · iexact G0
    isplitl [G1]; · iexact G1
    isplitl [G2]; · iexact G2
    isplitl [S0]; · iexact S0
    isplitl [S1]; · iexact S1
    isplitl [S2]; · iexact S2
    isplitl [B0]; · iexact B0
    isplitl [B1]; · iexact B1
    isplitl [B2]; · iexact B2
    iexact HW
  iintro %u ⟨H0, H1, H2, H3, H4, H5, H6, H7, H8, H9, G0, G1, G2, G3, G4, G5, S0, S1, S2, B0, B1, B2, ⟨%W', HW⟩⟩
  rw [show inv m c (1 + 1) = inv m c (0 + 2) from rfl, inv_later, show min (0 + 1) 31 = 1 from rfl, show pt (0 + 1) = pt 1 from rfl, ep, ey, eo]
  unfold prevN; rw [if_neg (by decide : ¬ 1 % 4 = 0)]
  isplitl [S0 S1 S2 B0 B1 B2 G3 G4 G5 G0 G1 G2 Hg]
  · isplitl [S0]; · iexact S0
    isplitl [S1]; · iexact S1
    isplitl [S2]; · iexact S2
    isplitl [B0]; · iexact B0
    isplitl [B1]; · iexact B1
    isplitl [B2]; · iexact B2
    isplitl [G3]; · iexact G3
    isplitl [G4]; · iexact G4
    isplitl [G5]; · iexact G5
    isplitl [G0]; · iexact G0
    isplitl [G1]; · iexact G1
    isplitl [G2]; · iexact G2
    iexact Hg
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
theorem body_within (c : Dev nD) (t : Fin cfg0.N) (k : ℕ) (hk : t.val = k + 2) (hl : k + 2 ≤ 31) (hz : ¬ (k + 2) % 4 = 0) :
    bodyPre m c t ⊢ wp frame (wpE (defs₀ (F := F)) Variants.none c none) Set.univ (bodyAt0 t) (fun _ => bodyPost m c t) := by
  obtain ⟨n1, n2⟩ := later_case t (by omega)
  have n3 := within_case t (by rw [hk]; exact hz)
  obtain ⟨h4, h5, ho⟩ := both_case t (by omega) (by omega)
  have ey := yaN_at m c t (k + 2) hk
  have ep : pt (k + 2) = t := hk ▸ pt_val t
  have eo : outAt m c t = outOf (in5 m c t) (in6 m c t) (in7 m c t) (in8 m c t) (yaN m c (k + 1)) (woAt m c) (wuAt m c) (wdAt m c) := by unfold outAt; rw [hk]; rfl
  rw [hk] at ho
  have em : min (k + 1) 31 = k + 1 := by omega
  have em' : min (k + 1 + 1) 31 = k + 2 := by omega
  unfold bodyPre bodyPost
  rw [last9_later m c t (by omega), hk]
  simp only [found_0, after_0, found_1, after_1, found_2, after_2, found_3, after_3, found_4, after_4, found_5, after_5, found_6, after_6, found_7, after_7, found_8, after_8]
  unfold Dat.owesAt Pipeline.owesWithin
  rw [show (dats m 0 c).owed t.castSucc = 0 from rfl, show (dats m 0 c).owed t.succ = 0 from rfl]
  unfold bodyAt0
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  icases (Entails.of_eq (inv_mid m c k (by omega))) $$ HI with ⟨S0, S1, S2, B0, B1, B2, G3, G4, G5, G0, G1, G2, Hg⟩
  iapply wp_wand_r
  isplitl [H0 H1 H2 H3 H4 H5 H6 H7 H8 H9 G0 G1 G2 G3 G4 G5]
  · iapply (step_mid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) n1 n2 n3 h4 h5 (rowN (k + 2)) ho (in0 m c t) (in1 m c t) (in2 m c t) (in3 m c t) (in4 m c t) (in5 m c t) (in6 m c t) (in7 m c t) (in8 m c t) (carryOf (in3 m c (pt (k + 1)))) (yaN m c (k + 1)) (woAt m c) (wuAt m c) (wdAt m c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [G0]; · iexact G0
    isplitl [G1]; · iexact G1
    isplitl [G2]; · iexact G2
    isplitl [G3]; · iexact G3
    isplitl [G4]; · iexact G4
    iexact G5
  iintro %u ⟨H0, H1, H2, H3, H4, H5, H6, H7, H8, H9, G0, G1, G2, G3, G4, G5⟩
  rw [show inv m c (k + 2 + 1) = inv m c (k + 1 + 2) from rfl, inv_later, em', show pt (k + 1 + 1) = pt (k + 2) from rfl, ep, ey, eo]
  unfold prevN; rw [if_neg hz]
  isplitl [S0 S1 S2 B0 B1 B2 G3 G4 G5 G0 G1 G2 Hg]
  · isplitl [S0]; · iexact S0
    isplitl [S1]; · iexact S1
    isplitl [S2]; · iexact S2
    isplitl [B0]; · iexact B0
    isplitl [B1]; · iexact B1
    isplitl [B2]; · iexact B2
    isplitl [G3]; · iexact G3
    isplitl [G4]; · iexact G4
    isplitl [G5]; · iexact G5
    isplitl [G0]; · iexact G0
    isplitl [G1]; · iexact G1
    isplitl [G2]; · iexact G2
    iexact Hg
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
theorem body_fresh (c : Dev nD) (t : Fin cfg0.N) (k : ℕ) (hk : t.val = k + 2) (hl : k + 2 ≤ 31) (hz : (k + 2) % 4 = 0) :
    bodyPre m c t ⊢ wp frame (wpE (defs₀ (F := F)) Variants.none c none) Set.univ (bodyAt0 t) (fun _ => bodyPost m c t) := by
  obtain ⟨n1, n2⟩ := later_case t (by omega)
  have n3 := fresh_case t (by rw [hk]; exact hz)
  obtain ⟨h4, h5, ho⟩ := both_case t (by omega) (by omega)
  have ey := yaN_at m c t (k + 2) hk
  have ep : pt (k + 2) = t := hk ▸ pt_val t
  have eo : outAt m c t = outOf (in5 m c t) (in6 m c t) (in7 m c t) (in8 m c t) (yaN m c (k + 1)) (woAt m c) (wuAt m c) (wdAt m c) := by unfold outAt; rw [hk]; rfl
  rw [hk] at ho
  have em : min (k + 1) 31 = k + 1 := by omega
  have em' : min (k + 1 + 1) 31 = k + 2 := by omega
  unfold bodyPre bodyPost
  rw [last9_later m c t (by omega), hk]
  simp only [found_0, after_0, found_1, after_1, found_2, after_2, found_3, after_3, found_4, after_4, found_5, after_5, found_6, after_6, found_7, after_7, found_8, after_8]
  unfold Dat.owesAt Pipeline.owesWithin
  rw [show (dats m 0 c).owed t.castSucc = 0 from rfl, show (dats m 0 c).owed t.succ = 0 from rfl]
  unfold bodyAt0
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  icases (Entails.of_eq (inv_mid m c k (by omega))) $$ HI with ⟨S0, S1, S2, B0, B1, B2, G3, G4, G5, G0, G1, G2, Hg⟩
  ihave G0 := (show holds c sc0 (carryOf (in3 m c (pt (k + 1)))) ⊢ anyW (F := F) c sc0 from holds_any c sc0 _) $$ G0
  iapply wp_wand_r
  isplitl [H0 H1 H2 H3 H4 H5 H6 H7 H8 H9 G0 G1 G2 G3 G4 G5]
  · iapply (step_fresh c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) n1 n2 n3 h4 h5 (rowN (k + 2)) ho (in0 m c t) (in1 m c t) (in2 m c t) (in3 m c t) (in4 m c t) (in5 m c t) (in6 m c t) (in7 m c t) (in8 m c t)  (yaN m c (k + 1)) (woAt m c) (wuAt m c) (wdAt m c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [G0]; · iexact G0
    isplitl [G1]; · iexact G1
    isplitl [G2]; · iexact G2
    isplitl [G3]; · iexact G3
    isplitl [G4]; · iexact G4
    iexact G5
  iintro %u ⟨H0, H1, H2, H3, H4, H5, H6, H7, H8, H9, G0, G1, G2, G3, G4, G5⟩
  rw [show inv m c (k + 2 + 1) = inv m c (k + 1 + 2) from rfl, inv_later, em', show pt (k + 1 + 1) = pt (k + 2) from rfl, ep, ey, eo]
  unfold prevN; rw [if_pos hz]
  isplitl [S0 S1 S2 B0 B1 B2 G3 G4 G5 G0 G1 G2 Hg]
  · isplitl [S0]; · iexact S0
    isplitl [S1]; · iexact S1
    isplitl [S2]; · iexact S2
    isplitl [B0]; · iexact B0
    isplitl [B1]; · iexact B1
    isplitl [B2]; · iexact B2
    isplitl [G3]; · iexact G3
    isplitl [G4]; · iexact G4
    isplitl [G5]; · iexact G5
    isplitl [G0]; · iexact G0
    isplitl [G1]; · iexact G1
    isplitl [G2]; · iexact G2
    iexact Hg
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1600000 in
theorem body_last (c : Dev nD) (t : Fin cfg0.N) (hk : t.val = 30 + 2) :
    bodyPre m c t ⊢ wp frame (wpE (defs₀ (F := F)) Variants.none c none) Set.univ (bodyAt0 t) (fun _ => bodyPost m c t) := by
  obtain ⟨n1, n2⟩ := later_case t (by omega)
  have n3 := fresh_case t (by rw [hk])
  obtain ⟨h4, h5⟩ := last_case t hk
  have ep : pt 32 = t := (congrArg pt hk).symm.trans (pt_val t)
  have eo : outAt m c t = outOf (in5 m c t) (in6 m c t) (in7 m c t) (in8 m c t) (yaN m c 31) (woAt m c) (wuAt m c) (wdAt m c) := by unfold outAt; rw [hk]
  unfold bodyPre bodyPost
  rw [last9_later m c t (by omega), hk]
  simp only [found_0, after_0, found_1, after_1, found_2, after_2, found_3, after_3, found_4, after_4, found_5, after_5, found_6, after_6, found_7, after_7, found_8, after_8]
  unfold Dat.owesAt Pipeline.owesWithin
  rw [show (dats m 0 c).owed t.castSucc = 0 from rfl, show (dats m 0 c).owed t.succ = 0 from rfl]
  unfold bodyAt0
  iintro ⟨HI, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  icases (Entails.of_eq (inv_mid m c 30 (by omega))) $$ HI with ⟨S0, S1, S2, B0, B1, B2, G3, G4, G5, G0, G1, G2, Hg⟩
  ihave G0 := (show holds c sc0 (carryOf (in3 m c (pt (30 + 1)))) ⊢ anyW (F := F) c sc0 from holds_any c sc0 _) $$ G0
  iapply wp_wand_r
  isplitl [H3 H5 H6 H7 H8 H9 G0 G2 G3 G4 G5]
  · iapply (step_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) n1 n2 n3 h4 h5 (in3 m c t) (in5 m c t) (in6 m c t) (in7 m c t) (in8 m c t) (yaN m c 31) (woAt m c) (wuAt m c) (wdAt m c))
    isplitl [H3]; · iexact H3
    isplitl [H5]; · iexact H5
    isplitl [H6]; · iexact H6
    isplitl [H7]; · iexact H7
    isplitl [H8]; · iexact H8
    isplitl [H9]; · iexists _; iexact H9
    isplitl [G0]; · iexact G0
    isplitl [G2]; · iexact G2
    isplitl [G3]; · iexact G3
    isplitl [G4]; · iexact G4
    iexact G5
  iintro %u ⟨H3, H5, H6, H7, H8, H9, G0, G2, G3, G4, G5⟩
  rw [show inv m c (30 + 2 + 1) = inv m c (31 + 2) from rfl, inv_later, show min (31 + 1) 31 = 31 from rfl, show pt (31 + 1) = pt 32 from rfl, ep, eo]
  isplitl [S0 S1 S2 B0 B1 B2 G3 G4 G5 G0 G1 G2 Hg]
  · isplitl [S0]; · iexact S0
    isplitl [S1]; · iexact S1
    isplitl [S2]; · iexact S2
    isplitl [B0]; · iexact B0
    isplitl [B1]; · iexact B1
    isplitl [B2]; · iexact B2
    isplitl [G3]; · iexact G3
    isplitl [G4]; · iexact G4
    isplitl [G5]; · iexact G5
    isplitl [G0]; · iexact G0
    isplitl [G1]; · iexact G1
    isplitl [G2]; · iexact G2
    iexact Hg
  isplitl [HW]
  · iexists _; isplitr; swap; · iexact HW
    ipureintro; exact fun _ _ => Or.inl trivial
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound_body (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt N_0
  rcases Nat.lt_or_ge t.val 2 with h | h
  · rcases Nat.lt_or_ge t.val 1 with h' | h'
    · exact body_first m c t (by omega)
    · exact body_second m c t (by omega)
  · obtain ⟨k, hk⟩ : ∃ k, t.val = k + 2 := ⟨t.val - 2, by omega⟩
    by_cases hl : k + 2 ≤ 31
    · by_cases hz : (k + 2) % 4 = 0
      · exact body_fresh m c t k hk hl hz
      · exact body_within m c t k hk hl hz
    · exact body_last m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem inv_last (c : Dev nD) : inv m c (31 + 2) ⊢ Pipeline.ΦD osem0 spec0 H0 (V m) c := by
  rw [PhiD0_eq, inv_later]
  iintro ⟨S0, S1, S2, B0, B1, B2, ⟨%g3, -, G3⟩, ⟨%g4, -, G4⟩, ⟨%g5, -, G5⟩, ⟨%g0, -, G0⟩, G1, ⟨%g2, -, G2⟩, Hg⟩
  isplitl [G0 G1 G2 G3 G4 G5]
  · isplitl [G0]; · iexists _; iexact G0
    isplitl [G1]; · iexact G1
    isplitl [G2]; · iexists _; iexact G2
    isplitl [G3]; · iexists _; iexact G3
    isplitl [G4]; · iexists _; iexact G4
    iexists _; iexact G5
  isplitl [Hg]; · iexact Hg
  isplitl [S0 S1 S2]
  · isplitl [S0]; · iexact S0
    isplitl [S1]; · iexact S1
    iexact S2
  isplitl [B0]; · iexact B0
  isplitl [B1]; · iexact B1
  iexact B2

theorem last_step : (Fin.last cfg0.N).val = 31 + 2 := N_0

theorem inv_out (c : Dev nD) : (dats m 0 c).Φ (Fin.last cfg0.N) ⊢ Pipeline.ΦD osem0 spec0 H0 (V m) c := by
  rw [show (dats m 0 c).Φ (Fin.last cfg0.N) = inv m c (Fin.last cfg0.N).val from rfl, last_step]
  exact inv_last m c

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun c => inv_out m c)

/-- The frame: every run ends, the arguments as they were and every semaphore at rest. -/
theorem frame_args : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

end Cert.KernelIdeal.Hand

end
-- ==== Proof.Same.lean ====
/-
  The two printings of the kernel are the same text: its body, its tables and its main function.
-/
module

public import proofs.«01_k».proof.Proof.Gen.Kernel
public import proofs.«01_k».proof.Proof.Gen.KernelIdeal

@[expose] public section

set_option maxHeartbeats 0
set_option maxRecDepth 65536

noncomputable section

namespace Cert.Proof

open Idealize.ShloMosaic

variable {F : FTy → Type} [FloatOps F]

theorem same_body : Cert.Kernel.cc0_attn_mlp (F := F) = Cert.KernelIdeal.cc0_attn_mlp (F := F) := by
  rfl

theorem same_defs₀ : Cert.Kernel.defs₀ (F := F) = Cert.KernelIdeal.defs₀ (F := F) := by
  unfold Cert.Kernel.defs₀ Cert.KernelIdeal.defs₀
  rw [same_body]
  refine congrArg _ ?_
  funext l x
  match l, x with
  | ⟨0, _⟩, (t, s) => rfl

theorem same_defs : Cert.Kernel.defs (F := F) = Cert.KernelIdeal.defs (F := F) := by
  unfold Cert.Kernel.defs
  rw [same_defs₀]
  rfl

theorem same_main : Cert.Kernel.main (F := F) = Cert.KernelIdeal.main (F := F) := by
  unfold Cert.Kernel.main Cert.KernelIdeal.main
  rfl

end Cert.Proof

end
-- ==== Proof.Spec.lean ====
/-
  What both programs compute, over the extended reals, one row at a time: a row's attention output, its normalisation,
  the output projection, the MLP and the last normalisation.
-/
module

public import Idealize.ShloMosaic.Lib.Pointwise

@[expose] public section

noncomputable section

namespace Cert.KernelIdeal.Hand

open Idealize.ShloMosaic

/-- A row divided by the root of its mean square, times a row of gains. -/
def rmsRow (v g : Fin 1024 → EReal) (c : Fin 1024) : EReal :=
  v c * Ideal.rsqrt (Ideal.div (∑ k : Fin 1024, v k * v k) (Ideal.ofBits .f32 0x44800000#32) + Ideal.ofBits .f32 0x358637BD#32) * g c

/-- The stream after the output projection of a row: `yl` against the first half of the weights, `ya` against the second. -/
def resRow (x yl ya : Fin 1024 → EReal) (wo : Fin 2048 → Fin 1024 → EReal) (c : Fin 1024) : EReal :=
  x c + ((∑ k : Fin 1024, yl k * wo ⟨k.val, by omega⟩ c) + ∑ k : Fin 1024, ya k * wo ⟨1024 + k.val, by omega⟩ c)

/-- A hidden unit of the MLP. -/
def hidRow (h : Fin 1024 → EReal) (wu : Fin 1024 → Fin 4096 → EReal) (f : Fin 4096) : EReal :=
  max (∑ k : Fin 1024, h k * wu k f) 0 * max (∑ k : Fin 1024, h k * wu k f) 0

/-- The MLP of a row. -/
def mlpRow (h : Fin 1024 → EReal) (wu : Fin 1024 → Fin 4096 → EReal) (wd : Fin 4096 → Fin 1024 → EReal) (c : Fin 1024) : EReal :=
  ∑ f : Fin 4096, hidRow h wu f * wd f c

/-- The output row, from the attention output `y` of the row. -/
def outRow (x yl y og gm gf : Fin 1024 → EReal) (wo : Fin 2048 → Fin 1024 → EReal) (wu : Fin 1024 → Fin 4096 → EReal)
    (wd : Fin 4096 → Fin 1024 → EReal) : Fin 1024 → EReal :=
  rmsRow (fun c => resRow x yl (rmsRow y og) wo c + mlpRow (rmsRow (resRow x yl (rmsRow y og) wo) gm) wu wd c) gf

/-- The largest of a row's scores and its sink. -/
def topRow (S : Fin 256 → EReal) (sk : EReal) : EReal := max (Finset.univ.fold max ⊥ S) sk

/-- One lane of a row's attention output: the softmax of its scores and sink against the values. -/
def attRow (S : Fin 256 → EReal) (sk : EReal) (V : Fin 256 → EReal) : EReal :=
  ∑ j : Fin 256, Ideal.div (Ideal.exp (S j - topRow S sk)) ((∑ k : Fin 256, Ideal.exp (S k - topRow S sk)) + Ideal.exp (sk - topRow S sk)) * V j

/-- Row `j` of the window of keys and values of position `t`: zero before the start of the sequence. -/
def kvRow (x2 : Shape.Idx ⟨3, ![8, 2048, 256]⟩ → EReal) (b : Fin 8) (t : Fin 2048) (j : Fin 256) (l : Fin 256) : EReal :=
  if h : 128 * (t.val / 128) + j.val < 128 then 0 else x2 (ix3 b ⟨128 * (t.val / 128) + j.val - 128, by omega⟩ l)

/-- Whether position `t` sees row `j` of its window. -/
abbrev sees (t j : ℕ) : Prop := t % 128 < j ∧ j ≤ t % 128 + 128 ∧ 128 ≤ 128 * (t / 128) + j

/-- The score of head `n` at position `t` against row `j` of its window. -/
def scoreAt (x1 : Shape.Idx ⟨3, ![8, 2048, 1024]⟩ → EReal) (x2 : Shape.Idx ⟨3, ![8, 2048, 256]⟩ → EReal) (b : Fin 8) (t : Fin 2048)
    (n : Fin 16) (j : Fin 256) : EReal :=
  if sees t.val j.val then
    (∑ d : Fin 64, x1 (ix3 b t ⟨64 * n.val + d.val, by omega⟩) * kvRow x2 b t j ⟨64 * (n.val / 8) + d.val, by omega⟩) * Ideal.ofBits .f32 0x3E000000#32
  else ⊥

/-- Lane `d` of head `n` of the attention output at position `t`. -/
def attAt (x0 : Shape.Idx ⟨2, ![1, 16]⟩ → EReal) (x1 : Shape.Idx ⟨3, ![8, 2048, 1024]⟩ → EReal) (x2 : Shape.Idx ⟨3, ![8, 2048, 256]⟩ → EReal)
    (b : Fin 8) (t : Fin 2048) (n : Fin 16) (d : Fin 64) : EReal :=
  attRow (scoreAt x1 x2 b t n) (x0 (ix2 0 n)) fun j => kvRow x2 b t j ⟨128 + 64 * (n.val / 8) + d.val, by omega⟩

end Cert.KernelIdeal.Hand

end
-- ==== Proof.UnitK.lean ====
/-
  What a unit of the attention computes at an index, over the extended reals.
-/
module

public import proofs.«01_k».proof.Proof.Step
public import proofs.«01_k».proof.Proof.Spec

@[expose] public section

set_option maxRecDepth 16384

noncomputable section

namespace Cert.KernelIdeal.Hand

open Cert.KernelIdeal Cert.KernelIdeal.Gen
open Idealize.ShloMosaic

theorem ix2_congr {a b : ℕ} {i i' : Fin a} {j j' : Fin b} (hi : i.val = i'.val) (hj : j.val = j'.val) : ix2 i j = ix2 i' j' := by
  rw [Fin.ext hi, Fin.ext hj]

theorem qcat_apply (x3 : Vec Ideal S512x1024 .bf16) (i : Fin 4) (h : Fin 2) (g : Fin 4) (r l : Fin 128) :
    qcat x3 i h (ix2 (⟨128 * g.val + r.val, by omega⟩ : Fin 512) l)
      = x3 (ix2 (⟨128 * i.val + r.val, by omega⟩ : Fin 512) (⟨128 * (4 * h.val + g.val) + l.val, by omega⟩ : Fin 1024)) := by
  match g with
  | 0 => pointwise [qcat]
  | 1 => pointwise [qcat]
  | 2 =>
    pointwise [qcat]
    rw [dif_neg (by omega), dif_neg (by omega), dif_pos (by omega)]
    exact congrArg x3 (ix2_congr (by simp only; omega) rfl)
  | 3 =>
    pointwise [qcat]
    rw [dif_neg (by omega), dif_neg (by omega), dif_neg (by omega)]
    exact congrArg x3 (ix2_congr (by simp only; omega) rfl)

theorem kwin_apply (K : FVec Ideal S640x128 .bf16) (i : Fin 4) (k : Fin 256) (l : Fin 128) :
    kwin K i (ix2 k l) = K (ix2 (⟨128 * i.val + k.val, by omega⟩ : Fin 640) l) := by
  match i with
  | 0 => pointwise [kwin]
  | 1 => pointwise [kwin]
  | 2 => pointwise [kwin]
  | 3 => pointwise [kwin]

theorem vwin_apply (K : FVec Ideal S640x256 .bf16) (i : Fin 4) (k : Fin 256) (l : Fin 256) :
    vwin K i (ix2 k l) = K (ix2 (⟨128 * i.val + k.val, by omega⟩ : Fin 640) l) := by
  match i with
  | 0 => pointwise [vwin]
  | 1 => pointwise [vwin]
  | 2 => pointwise [vwin]
  | 3 => pointwise [vwin]

theorem maskRow_apply (x2 : Vec Ideal S2x512x256 .f32) (n : Fin 2) (r : Fin 512) (k : Fin 256) :
    maskRow x2 n (ix2 r k) = x2 (ix3 n r k) := by
  match n with
  | 0 => pointwise [maskRow]
  | 1 => pointwise [maskRow]

theorem maskOf_apply (x2 : Vec Ideal S2x512x256 .f32) (n : Fin 2) (i : Fin 4) (r : Fin 512) (k : Fin 256) :
    maskOf x2 (maskRow x2 n) i (ix2 r k) = x2 (ix3 (if i.val = 0 then n else 0) r k) := by
  match i with
  | 0 => exact maskRow_apply x2 n r k
  | 1 => exact maskRow_apply x2 0 r k
  | 2 => exact maskRow_apply x2 0 r k
  | 3 => exact maskRow_apply x2 0 r k

theorem sinkAt_apply (x1 : Vec Ideal S16 .f32) (n : Fin 16) : sinkAt x1 n = x1 (ix1 n) := by
  pointwise [sinkAt]

theorem sinkCol_apply (x1 : Vec Ideal S16 .f32) (h p : Fin 2) (g : Fin 4) (r l : Fin 128) :
    sinkCol x1 h p (ix2 (⟨128 * g.val + r.val, by omega⟩ : Fin 512) l) = x1 (ix1 (hd h p g)) := by
  rw [← sinkAt_apply x1]
  unfold sinkCol
  match g with
  | 0 => generalize sinkAt x1 (hd h p 0) = a; pointwise []
  | 1 => generalize sinkAt x1 (hd h p 1) = a; pointwise []
  | 2 =>
    generalize sinkAt x1 (hd h p 2) = a
    pointwise []
    rw [dif_neg (by omega), dif_neg (by omega), dif_pos (by omega)]
  | 3 =>
    generalize sinkAt x1 (hd h p 3) = a
    pointwise []
    rw [dif_neg (by omega), dif_neg (by omega), dif_neg (by omega)]

theorem scoreOf_apply (q : FVec Ideal S512x128 .bf16) (k : FVec Ideal S256x128 .bf16) (b : FVec Ideal S512x256 .f32) (r : Fin 512) (j : Fin 256) :
    scoreOf q k b (ix2 r j) = (∑ l : Fin 128, q (ix2 r l) * k (ix2 j l)) + b (ix2 r j) := by
  pointwise [scoreOf]

/-- The word of minus infinity. -/
theorem ofBits_bot : Ideal.ofBits .f32 0xFF800000#32 = ⊥ := by
  simp [Ideal.ofBits, Ideal.ieee]

theorem topOf_apply (s : FVec Ideal S512x256 .f32) (k : FVec Ideal S512x128 .f32) (r : Fin 512) (l : Fin 128) :
    topOf s k (ix2 r l) = max (Finset.univ.fold max ⊥ fun j : Fin 256 => s (ix2 r j)) (k (ix2 r l)) := by
  pointwise [topOf]
  rw [ofBits_bot]

theorem expOf_apply (s : FVec Ideal S512x256 .f32) (m : FVec Ideal S512x128 .f32) (r : Fin 512) (T : EReal)
    (hm : ∀ l, m (ix2 r l) = T) (j : Fin 256) : expOf s m (ix2 r j) = Ideal.exp (s (ix2 r j) - T) := by
  pointwise [expOf]
  split
  · rw [hm]
  · rw [hm]
    exact congrArg (fun q => Ideal.exp (s q - T)) (ix2_congr rfl (by simp only; omega))

theorem mixOf_apply (e : FVec Ideal S512x256 .f32) (v : FVec Ideal S256x256 .bf16) (r : Fin 512) (l : Fin 256) :
    mixOf e v (ix2 r l) = ∑ j : Fin 256, e (ix2 r j) * v (ix2 j l) := by
  pointwise [mixOf]

theorem quotOf_apply (o : FVec Ideal S512x256 .f32) (z : FVec Ideal S512x128 .f32) (r : Fin 512) (l : Fin 128) :
    quotOf o z (ix2 r l) = Ideal.div (o (ix2 r ⟨l.val, by omega⟩)) (o (ix2 r ⟨128 + l.val, by omega⟩) + z (ix2 r l)) := by
  pointwise [quotOf]

theorem kvOf_apply (x4 : Vec Ideal S512x256 .f32) (prev : FVec Ideal S128x256 .f32) (j : Fin 640) (l : Fin 256) :
    kvOf x4 prev (ix2 j l) = if h : j.val < 128 then prev (ix2 ⟨j.val, h⟩ l) else x4 (ix2 (⟨j.val - 128, by omega⟩ : Fin 512) l) := by
  pointwise [kvOf, k0_pay335, k0_pay334]

theorem keysScaled_apply (x4 : Vec Ideal S512x256 .f32) (prev : FVec Ideal S128x256 .f32) (j : Fin 640) (l : Fin 128) :
    keysScaled x4 prev (ix2 j l) = kvOf x4 prev (ix2 j ⟨l.val, by omega⟩) * Ideal.ofBits .f32 0x3E000000#32 := by
  unfold kvOf keysScaled k0_pay337
  generalize k0_pay335 (View.ld x4 allKV) prev = Y
  pointwise []

theorem lane_lt {n : ℕ} (h : n < 64) : IntOp.cmpi .slt (BitVec.ofNat 32 n) 64#32 = 1#1 := by
  have : ∀ n < 64, IntOp.cmpi .slt (BitVec.ofNat 32 n) 64#32 = 1#1 := by decide
  exact this n h
theorem lane_ge (d : Fin 64) : IntOp.cmpi .slt (BitVec.ofNat 32 (64 + d.val)) 64#32 = 0#1 := by
  revert d; decide
theorem not_one : IntOp.xori (1#1 : BitVec 1) 1#1 = 0#1 := by decide
theorem not_zero : IntOp.xori (0#1 : BitVec 1) 1#1 = 1#1 := by decide
theorem pick_one (a b : EReal) : Scalar.select (1#1 : BitVec 1) a b = a := rfl
theorem pick_zero (a b : EReal) : Scalar.select (0#1 : BitVec 1) a b = b := rfl

theorem keysOf_apply (w : FVec Ideal S640x128 .f32) (h p : Fin 2) (j : Fin 640) (p' : Fin 2) (d : Fin 64) :
    keysOf w h p (ix2 j (⟨64 * p'.val + d.val, by omega⟩ : Fin 128))
      = if p' = p then w (ix2 j (⟨64 * h.val + d.val, by omega⟩ : Fin 128)) else 0 := by
  match h, p, p' with
  | 0, 0, 0 =>
    pointwise [keysOf, k0_pay343, k0_pay341, k0_pay339]
    simp only [lane_lt d.isLt, lane_ge d, not_one, not_zero, pick_one, pick_zero]
    all_goals exact congrArg w (ix2_congr rfl (by simp only; omega))
  | 0, 0, 1 =>
    pointwise [keysOf, k0_pay343, k0_pay341, k0_pay339]
    simp only [lane_lt d.isLt, lane_ge d, not_one, not_zero, pick_one, pick_zero]
    all_goals exact congrArg w (ix2_congr rfl (by simp only; omega))
  | 0, 1, 0 =>
    pointwise [keysOf, k0_pay344, k0_pay341, k0_pay339]
    simp only [lane_lt d.isLt, lane_ge d, not_one, not_zero, pick_one, pick_zero]
    all_goals exact congrArg w (ix2_congr rfl (by simp only; omega))
  | 0, 1, 1 =>
    pointwise [keysOf, k0_pay344, k0_pay341, k0_pay339]
    simp only [lane_lt d.isLt, lane_ge d, not_one, not_zero, pick_one, pick_zero]
    all_goals exact congrArg w (ix2_congr rfl (by simp only; omega))
  | 1, 0, 0 =>
    pointwise [keysOf, k0_pay345, k0_pay341, k0_pay339]
    simp only [lane_lt d.isLt, lane_ge d, not_one, not_zero, pick_one, pick_zero]
    all_goals exact congrArg w (ix2_congr rfl (by simp only; omega))
  | 1, 0, 1 =>
    pointwise [keysOf, k0_pay345, k0_pay341, k0_pay339]
    simp only [lane_lt d.isLt, lane_ge d, not_one, not_zero, pick_one, pick_zero]
    all_goals exact congrArg w (ix2_congr rfl (by simp only; omega))
  | 1, 1, 0 =>
    pointwise [keysOf, k0_pay346, k0_pay341, k0_pay339]
    simp only [lane_lt d.isLt, lane_ge d, not_one, not_zero, pick_one, pick_zero]
    all_goals exact congrArg w (ix2_congr rfl (by simp only; omega))
  | 1, 1, 1 =>
    pointwise [keysOf, k0_pay346, k0_pay341, k0_pay339]
    simp only [lane_lt d.isLt, lane_ge d, not_one, not_zero, pick_one, pick_zero]
    all_goals exact congrArg w (ix2_congr rfl (by simp only; omega))

theorem valsOf_apply (w : FVec Ideal S640x256 .f32) (h p : Fin 2) (j : Fin 640) (p' : Fin 2) (d : Fin 64) :
    valsOf w h p (ix2 j (⟨64 * p'.val + d.val, by omega⟩ : Fin 256))
      = if p' = p then w (ix2 j (⟨128 + 64 * h.val + d.val, by omega⟩ : Fin 256)) else 0 := by
  match h, p, p' with
  | 0, 0, 0 =>
    pointwise [valsOf, k0_pay347, k0_pay341, k0_pay340, k0_pay338, k0_pay342]
    rw [dif_pos (by omega)]
    simp only [lane_lt d.isLt, lane_ge d, not_one, not_zero, pick_one, pick_zero]
    all_goals exact congrArg w (ix2_congr rfl (by simp only; omega))
  | 0, 0, 1 =>
    pointwise [valsOf, k0_pay347, k0_pay341, k0_pay340, k0_pay338, k0_pay342]
    rw [dif_pos (by omega)]
    simp only [lane_lt d.isLt, lane_ge d, not_one, not_zero, pick_one, pick_zero]
    all_goals exact congrArg w (ix2_congr rfl (by simp only; omega))
  | 0, 1, 0 =>
    pointwise [valsOf, k0_pay348, k0_pay341, k0_pay340, k0_pay338, k0_pay342]
    rw [dif_pos (by omega)]
    simp only [lane_lt d.isLt, lane_ge d, not_one, not_zero, pick_one, pick_zero]
    all_goals exact congrArg w (ix2_congr rfl (by simp only; omega))
  | 0, 1, 1 =>
    pointwise [valsOf, k0_pay348, k0_pay341, k0_pay340, k0_pay338, k0_pay342]
    rw [dif_pos (by omega)]
    simp only [lane_lt d.isLt, lane_ge d, not_one, not_zero, pick_one, pick_zero]
    all_goals exact congrArg w (ix2_congr rfl (by simp only; omega))
  | 1, 0, 0 =>
    pointwise [valsOf, k0_pay349, k0_pay341, k0_pay340, k0_pay338, k0_pay342]
    rw [dif_pos (by omega)]
    simp only [lane_lt d.isLt, lane_ge d, not_one, not_zero, pick_one, pick_zero]
    all_goals exact congrArg w (ix2_congr rfl (by simp only; omega))
  | 1, 0, 1 =>
    pointwise [valsOf, k0_pay349, k0_pay341, k0_pay340, k0_pay338, k0_pay342]
    rw [dif_pos (by omega)]
    simp only [lane_lt d.isLt, lane_ge d, not_one, not_zero, pick_one, pick_zero]
    all_goals exact congrArg w (ix2_congr rfl (by simp only; omega))
  | 1, 1, 0 =>
    pointwise [valsOf, k0_pay350, k0_pay341, k0_pay340, k0_pay338, k0_pay342]
    rw [dif_pos (by omega)]
    simp only [lane_lt d.isLt, lane_ge d, not_one, not_zero, pick_one, pick_zero]
    all_goals exact congrArg w (ix2_congr rfl (by simp only; omega))
  | 1, 1, 1 =>
    pointwise [valsOf, k0_pay350, k0_pay341, k0_pay340, k0_pay338, k0_pay342]
    rw [dif_pos (by omega)]
    simp only [lane_lt d.isLt, lane_ge d, not_one, not_zero, pick_one, pick_zero]
    all_goals exact congrArg w (ix2_congr rfl (by simp only; omega))

theorem valsOf_ones (w : FVec Ideal S640x256 .f32) (h p : Fin 2) (j : Fin 640) (l : Fin 128) :
    valsOf w h p (ix2 j (⟨128 + l.val, by omega⟩ : Fin 256)) = 1 := by
  match h, p with
  | 0, 0 => pointwise [valsOf, k0_pay347, k0_pay341, k0_pay340, k0_pay338, k0_pay342]
  | 0, 1 => pointwise [valsOf, k0_pay348, k0_pay341, k0_pay340, k0_pay338, k0_pay342]
  | 1, 0 => pointwise [valsOf, k0_pay349, k0_pay341, k0_pay340, k0_pay338, k0_pay342]
  | 1, 1 => pointwise [valsOf, k0_pay350, k0_pay341, k0_pay340, k0_pay338, k0_pay342]

theorem grp_apply (A : FVec Ideal S512x128 .f32) (g : Fin 4) (r l : Fin 128) :
    grp A g (ix2 r l) = A (ix2 (⟨128 * g.val + r.val, by omega⟩ : Fin 512) l) := by
  match g with
  | 0 => pointwise [grp]
  | 1 => pointwise [grp]
  | 2 => pointwise [grp]
  | 3 => pointwise [grp]

theorem both_apply (A B : FVec Ideal S512x128 .f32) (g : Fin 4) (r l : Fin 128) :
    both A B g (ix2 r l) = A (ix2 (⟨128 * g.val + r.val, by omega⟩ : Fin 512) l) + B (ix2 (⟨128 * g.val + r.val, by omega⟩ : Fin 512) l) := by
  rw [← grp_apply A, ← grp_apply B]
  unfold both
  generalize grp A g = a, grp B g = b
  pointwise []

end Cert.KernelIdeal.Hand

end
-- ==== Proof.Reads.lean ====
/-
  What the launch finds in the buffers the kernel reads, by the arguments: reshapes of the queries, the keys and values,
  the stream and the gains.
-/
module

public import proofs.«01_k».proof.Proof.Launch
public import proofs.«01_k».proof.Proof.UnitK
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (l : Loc nD τ sig) → Buf (Elt Ideal) l) (c : Dev nD)

theorem v0_at (R : Fin 16384) (k : Fin 1024) : (V m c main_v0 : S16384x1024.Idx → EReal) (ix2 R k)
    = (m (c, main_arg4) : S8x2048x1024.Idx → EReal) (ix3 ⟨R.val / 2048, by omega⟩ ⟨R.val % 2048, by omega⟩ k) := by
  unfold V
  after_reads_at

theorem v3_at (n : Fin 16) : (V m c main_v3 : S16.Idx → EReal) (ix1 n) = (m (c, main_arg0) : S1x16.Idx → EReal) (ix2 0 n) := by
  unfold V
  after_reads_at

theorem v4_at (R : Fin 16384) (k : Fin 1024) : (V m c main_v4 : S16384x1024.Idx → EReal) (ix2 R k)
    = (m (c, main_arg1) : S8x2048x1024.Idx → EReal) (ix3 ⟨R.val / 2048, by omega⟩ ⟨R.val % 2048, by omega⟩ k) := by
  unfold V
  after_reads_at

theorem v5_at (R : Fin 16384) (k : Fin 256) : (V m c main_v5 : S16384x256.Idx → EReal) (ix2 R k)
    = (m (c, main_arg2) : S8x2048x256.Idx → EReal) (ix3 ⟨R.val / 2048, by omega⟩ ⟨R.val % 2048, by omega⟩ k) := by
  unfold V
  after_reads_at

theorem v7_at (k : Fin 1024) : (V m c main_v7 : S1x1024.Idx → EReal) (ix2 0 k) = (m (c, main_arg3) : S1x1024.Idx → EReal) (ix2 0 k) := by
  unfold V
  after_reads_at

theorem v8_at (R : Fin 16384) (k : Fin 1024) : (V m c main_v8 : S16384x1024.Idx → EReal) (ix2 R k)
    = (m (c, main_arg5) : S8x2048x1024.Idx → EReal) (ix3 ⟨R.val / 2048, by omega⟩ ⟨R.val % 2048, by omega⟩ k) := by
  unfold V
  after_reads_at

theorem v10_at (a : Fin 2048) (k : Fin 1024) : (V m c main_v10 : S2048x1024.Idx → EReal) (ix2 a k)
    = (m (c, main_arg6) : S1x2048x1024.Idx → EReal) (ix3 0 a k) := by
  unfold V
  after_reads_at

theorem v12_at (k : Fin 1024) : (V m c main_v12 : S1x1024.Idx → EReal) (ix2 0 k) = (m (c, main_arg7) : S1x1024.Idx → EReal) (ix2 0 k) := by
  unfold V
  after_reads_at

theorem v14_at (a : Fin 1024) (k : Fin 4096) : (V m c main_v14 : S1024x4096.Idx → EReal) (ix2 a k)
    = (m (c, main_arg8) : S1x1024x4096.Idx → EReal) (ix3 0 a k) := by
  unfold V
  after_reads_at

theorem v16_at (a : Fin 4096) (k : Fin 1024) : (V m c main_v16 : S4096x1024.Idx → EReal) (ix2 a k)
    = (m (c, main_arg9) : S1x4096x1024.Idx → EReal) (ix3 0 a k) := by
  unfold V
  after_reads_at

theorem v17_at (k : Fin 1024) : (V m c main_v17 : S1x1024.Idx → EReal) (ix2 0 k) = (m (c, main_arg10) : S1024.Idx → EReal) (ix1 k) := by
  unfold V
  after_reads_at

end Cert.KernelIdeal.Hand

end
-- ==== Proof.Mask.lean ====
/-
  The two mask tables the kernel reads, at an index.
-/
module

public import proofs.«01_k».proof.Proof.Launch
public import proofs.«01_k».proof.Proof.UnitK
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (l : Loc nD τ sig) → Buf (Elt Ideal) l) (c : Dev nD)

theorem cat0 (A B : FVec Ideal S1x512x256 .f32) (r : Fin 512) (j : Fin 256) :
    concatenate S2x512x256 0 [⟨S1x512x256, A⟩, ⟨S1x512x256, B⟩] concatenates_S1x512x256_S1x512x256_S2x512x256_d0 (ix3 0 r j) = A (ix3 0 r j) := by
  pointwise []

theorem cat1 (A B : FVec Ideal S1x512x256 .f32) (r : Fin 512) (j : Fin 256) :
    concatenate S2x512x256 0 [⟨S1x512x256, A⟩, ⟨S1x512x256, B⟩] concatenates_S1x512x256_S1x512x256_S2x512x256_d0 (ix3 1 r j) = B (ix3 0 r j) := by
  pointwise []

theorem sel128 : Scalar.select (IntOp.cmpi .eq (128#32 : BitVec 32) 0#32) (1#32 : BitVec 32) 128#32 = 128#32 := by decide

/-- The remainder by 128, with the sign of the divisor, of a row's number. -/
theorem rem_word (r : Fin 512) :
    Scalar.select (IntOp.andi (IntOp.cmpi .ne (IntOp.cmpi .slt (IntOp.remsi ArithUnit.host (BitVec.ofNat 32 r.val) 128#32) 0#32) (IntOp.cmpi .slt 128#32 0#32))
        (IntOp.cmpi .ne (IntOp.remsi ArithUnit.host (BitVec.ofNat 32 r.val) 128#32) 0#32))
      (IntOp.addi (IntOp.remsi ArithUnit.host (BitVec.ofNat 32 r.val) 128#32) 128#32) (IntOp.remsi ArithUnit.host (BitVec.ofNat 32 r.val) 128#32)
      = (BitVec.ofNat 32 (r.val % 128) : BitVec 32) := by
  revert r
  decide +kernel

theorem band_word (q j : ℕ) (hq : q < 128) (hj : j < 256) :
    IntOp.andi (IntOp.cmpi .sgt (BitVec.ofNat 32 j) (BitVec.ofNat 32 q)) (IntOp.cmpi .sle (BitVec.ofNat 32 j) (IntOp.addi (BitVec.ofNat 32 q) 128#32))
      = if q < j ∧ j ≤ q + 128 then 1#1 else 0#1 := by
  have hx : (BitVec.ofNat 32 j).toInt = (j : ℤ) := by
    simp only [BitVec.toInt_eq_toNat_cond, BitVec.toNat_ofNat]
    split <;> omega
  have hy : (BitVec.ofNat 32 q).toInt = (q : ℤ) := by
    simp only [BitVec.toInt_eq_toNat_cond, BitVec.toNat_ofNat]
    split <;> omega
  have hz : (IntOp.addi (BitVec.ofNat 32 q) 128#32).toInt = (q : ℤ) + 128 := by
    simp only [IntOp.addi, BitVec.toInt_eq_toNat_cond, BitVec.toNat_add, BitVec.toNat_ofNat]
    split <;> omega
  have key : ∀ a b : Bool, IntOp.andi (BitVec.ofBool a) (BitVec.ofBool b) = if (a && b) = true then 1#1 else 0#1 := by decide
  rw [WordCmp.cmpi_sle_eq, WordCmp.cmpi_sgt_eq, hx, hy, hz, key]
  simp only [Bool.and_eq_true, decide_eq_true_eq]
  exact if_congr (by omega) rfl rfl

theorem late_word (j : ℕ) (hj : j < 256) : IntOp.cmpi .sge (BitVec.ofNat 32 j) 128#32 = if 128 ≤ j then 1#1 else 0#1 := by
  have hx : (BitVec.ofNat 32 j).toInt = (j : ℤ) := by
    simp only [BitVec.toInt_eq_toNat_cond, BitVec.toNat_ofNat]
    split <;> omega
  have key : ∀ a : Bool, BitVec.ofBool a = if a = true then 1#1 else 0#1 := by decide
  rw [WordCmp.cmpi_sge_eq, hx, show (128#32 : BitVec 32).toInt = 128 from rfl, key]
  simp only [decide_eq_true_eq]
  exact if_congr (by omega) rfl rfl

theorem v34_at0 (r : Fin 512) (j : Fin 256) : (V m c main_v34 : S2x512x256.Idx → EReal) (ix3 0 r j)
    = (if r.val % 128 < j.val ∧ j.val ≤ r.val % 128 + 128 then 0 else ⊥ : EReal) := by
  unfold V
  after_reads_simp
  generalize hA : StableHlo.upto _ _ 64 (Proc.tc.devRef main_v31) = A
  generalize StableHlo.upto _ _ 64 (Proc.tc.devRef main_v32) = B
  refine (cat0 A B r j).trans ?_
  rw [← hA]
  clear hA A B
  after_reads_at
  have hc : (id (constantI S_ 32 128#32 : (⟨S_, .i32⟩ : BufTy).Contents (Elt Ideal))) ix0 = (128#32 : BitVec 32) := rfl
  simp only [hc, sel128, rem_word, ofBits_bot]
  rw [band_word _ _ (by omega) (by omega)]
  by_cases h : r.val % 128 < j.val ∧ j.val ≤ r.val % 128 + 128
  · rw [if_pos h, if_pos h]; rfl
  · rw [if_neg h, if_neg h]; rfl

theorem v34_at1 (r : Fin 512) (j : Fin 256) : (V m c main_v34 : S2x512x256.Idx → EReal) (ix3 1 r j)
    = (if r.val % 128 < j.val ∧ j.val ≤ r.val % 128 + 128 ∧ 128 ≤ j.val then 0 else ⊥ : EReal) := by
  unfold V
  after_reads_simp
  generalize hA : StableHlo.upto _ _ 64 (Proc.tc.devRef main_v32) = A
  generalize StableHlo.upto _ _ 64 (Proc.tc.devRef main_v31) = B
  refine (cat1 B A r j).trans ?_
  rw [← hA]
  clear hA A B
  after_reads_at
  have hc : (id (constantI S_ 32 128#32 : (⟨S_, .i32⟩ : BufTy).Contents (Elt Ideal))) ix0 = (128#32 : BitVec 32) := rfl
  simp only [hc, sel128, rem_word, ofBits_bot]
  rw [band_word _ _ (by omega) (by omega), late_word _ (by omega)]
  by_cases h : r.val % 128 < j.val ∧ j.val ≤ r.val % 128 + 128
  · by_cases h' : 128 ≤ j.val
    · rw [if_pos h, if_pos h', if_pos ⟨h.1, h.2, h'⟩]; rfl
    · rw [if_pos h, if_neg h', if_neg fun e => h' e.2.2]; rfl
  · rw [if_neg h, if_neg fun e : r.val % 128 < j.val ∧ j.val ≤ r.val % 128 + 128 ∧ 128 ≤ j.val => h ⟨e.1, e.2.1⟩]
    by_cases h' : 128 ≤ j.val
    · rw [if_pos h']; rfl
    · rw [if_neg h']; rfl

end Cert.KernelIdeal.Hand

end
-- ==== Proof.Blocks.lean ====
/-
  The blocks the kernel reads at a step, by the arguments.
-/
module

public import proofs.«01_k».proof.Proof.Launch
public import proofs.«01_k».proof.Proof.UnitK
public import proofs.«01_k».proof.Proof.Reads
public import proofs.«01_k».proof.Proof.Mask
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (l : Loc nD τ sig) → Buf (Elt Ideal) l) (c : Dev nD)

/-- The tile whose attention a step does; the tile whose output it writes. -/
abbrev att (t : Fin cfg0.N) : ℕ := min t.val 31
abbrev wrt (t : Fin cfg0.N) : ℕ := t.val - 1

theorem idx_0 : ∀ t : Fin cfg0.N, win0_0.index t = ![0] := by decide +kernel
theorem idx_1 : ∀ t : Fin cfg0.N, win0_1.index t = ![0, 0, 0] := by decide +kernel
theorem idx_2 : ∀ t : Fin cfg0.N, win0_2.index t = ![att t, 0] := by decide +kernel
theorem idx_3 : ∀ t : Fin cfg0.N, win0_3.index t = ![att t, 0] := by decide +kernel
theorem idx_4 : ∀ t : Fin cfg0.N, win0_4.index t = ![0, 0] := by decide +kernel
theorem idx_5 : ∀ t : Fin cfg0.N, win0_5.index t = ![wrt t, 0] := by decide +kernel
theorem idx_6 : ∀ t : Fin cfg0.N, win0_6.index t = ![wrt t, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![wrt t, 0] := by decide +kernel

theorem att_le (t : Fin cfg0.N) : att t ≤ 31 := min_le_right _ _
theorem wrt_le (t : Fin cfg0.N) : wrt t ≤ 31 := by have : cfg0.N = 33 := N_0; have := t.isLt; unfold wrt; omega

theorem in0_at (t : Fin cfg0.N) (n : Fin 16) : in0 m c t (ix1 n) = (m (c, main_arg0) : S1x16.Idx → EReal) (ix2 0 n) := by
  refine Eq.trans ?_ (v3_at m c n)
  unfold in0
  blk_simp [iblk]
  refine congrArg (V m c main_v3 : S16.Idx → EReal) ?_
  blk_ext [idx_0]

theorem in1_at (t : Fin cfg0.N) (n : Fin 2) (r : Fin 512) (j : Fin 256) : in1 m c t (ix3 n r j) = (V m c main_v34 : S2x512x256.Idx → EReal) (ix3 n r j) := by
  unfold in1
  blk_simp [iblk]
  refine congrArg (V m c main_v34 : S2x512x256.Idx → EReal) ?_
  blk_ext [idx_1]

theorem in2_at (t : Fin cfg0.N) (r : Fin 512) (k : Fin 1024) : in2 m c t (ix2 r k)
    = (m (c, main_arg1) : S8x2048x1024.Idx → EReal) (ix3 ⟨(512 * att t + r.val) / 2048, by have := att_le t; omega⟩ ⟨(512 * att t + r.val) % 2048, by omega⟩ k) := by
  refine Eq.trans ?_ (v4_at m c ⟨512 * att t + r.val, by have := att_le t; omega⟩ k)
  unfold in2
  blk_simp [iblk]
  refine congrArg (V m c main_v4 : S16384x1024.Idx → EReal) ?_
  blk_ext [idx_2]

theorem in3_at (t : Fin cfg0.N) (r : Fin 512) (k : Fin 256) : in3 m c t (ix2 r k)
    = (m (c, main_arg2) : S8x2048x256.Idx → EReal) (ix3 ⟨(512 * att t + r.val) / 2048, by have := att_le t; omega⟩ ⟨(512 * att t + r.val) % 2048, by omega⟩ k) := by
  refine Eq.trans ?_ (v5_at m c ⟨512 * att t + r.val, by have := att_le t; omega⟩ k)
  unfold in3
  blk_simp [iblk]
  refine congrArg (V m c main_v5 : S16384x256.Idx → EReal) ?_
  blk_ext [idx_3]

theorem in4_at (t : Fin cfg0.N) (k : Fin 1024) : in4 m c t (ix2 0 k) = (m (c, main_arg3) : S1x1024.Idx → EReal) (ix2 0 k) := by
  refine Eq.trans ?_ (v7_at m c k)
  unfold in4
  blk_simp [iblk]
  refine congrArg (V m c main_v7 : S1x1024.Idx → EReal) ?_
  blk_ext [idx_4]

theorem in5_at (t : Fin cfg0.N) (r : Fin 512) (k : Fin 1024) : in5 m c t (ix2 r k)
    = (m (c, main_arg4) : S8x2048x1024.Idx → EReal) (ix3 ⟨(512 * wrt t + r.val) / 2048, by have := wrt_le t; omega⟩ ⟨(512 * wrt t + r.val) % 2048, by omega⟩ k) := by
  refine Eq.trans ?_ (v0_at m c ⟨512 * wrt t + r.val, by have := wrt_le t; omega⟩ k)
  unfold in5
  blk_simp [iblk]
  refine congrArg (V m c main_v0 : S16384x1024.Idx → EReal) ?_
  blk_ext [idx_5]

theorem in6_at (t : Fin cfg0.N) (r : Fin 512) (k : Fin 1024) : in6 m c t (ix2 r k)
    = (m (c, main_arg5) : S8x2048x1024.Idx → EReal) (ix3 ⟨(512 * wrt t + r.val) / 2048, by have := wrt_le t; omega⟩ ⟨(512 * wrt t + r.val) % 2048, by omega⟩ k) := by
  refine Eq.trans ?_ (v8_at m c ⟨512 * wrt t + r.val, by have := wrt_le t; omega⟩ k)
  unfold in6
  blk_simp [iblk]
  refine congrArg (V m c main_v8 : S16384x1024.Idx → EReal) ?_
  blk_ext [idx_6]

theorem in7_at (t : Fin cfg0.N) (k : Fin 1024) : in7 m c t (ix2 0 k) = (m (c, main_arg7) : S1x1024.Idx → EReal) (ix2 0 k) := by
  refine Eq.trans ?_ (v12_at m c k)
  unfold in7
  blk_simp [iblk]
  refine congrArg (V m c main_v12 : S1x1024.Idx → EReal) ?_
  blk_ext [idx_7]

theorem in8_at (t : Fin cfg0.N) (k : Fin 1024) : in8 m c t (ix2 0 k) = (m (c, main_arg10) : S1024.Idx → EReal) (ix1 k) := by
  refine Eq.trans ?_ (v17_at m c k)
  unfold in8
  blk_simp [iblk]
  refine congrArg (V m c main_v17 : S1x1024.Idx → EReal) ?_
  blk_ext [idx_8]

theorem wo_at (a : Fin 2048) (k : Fin 1024) : woAt m c (ix2 a k) = (m (c, main_arg6) : S1x2048x1024.Idx → EReal) (ix3 0 a k) :=
  v10_at m c a k

theorem wu_at (a : Fin 1024) (k : Fin 4096) : wuAt m c (ix2 a k) = (m (c, main_arg8) : S1x1024x4096.Idx → EReal) (ix3 0 a k) :=
  v14_at m c a k

theorem wd_at (a : Fin 4096) (k : Fin 1024) : wdAt m c (ix2 a k) = (m (c, main_arg9) : S1x4096x1024.Idx → EReal) (ix3 0 a k) :=
  v16_at m c a k

end Cert.KernelIdeal.Hand

end
-- ==== Proof.Soft.lean ====
/-
  The softmax of a row with a sink, over the extended reals: dividing the weighted sum by the weights' total is the sum of
  the divided weights.
-/
module

public import proofs.«01_k».proof.Proof.Spec

@[expose] public section

noncomputable section

namespace Cert.KernelIdeal.Hand

open Idealize.ShloMosaic

/-- A value that is a real number. -/
def IsReal (x : EReal) : Prop := ∃ a : ℝ, x = (a : EReal)

theorem real_sum {ι : Type} (s : Finset ι) (f : ι → ℝ) : ((∑ i ∈ s, f i : ℝ) : EReal) = ∑ i ∈ s, (f i : EReal) := by
  classical
  induction s using Finset.induction with
  | empty => simp
  | insert a s h ih => rw [Finset.sum_insert h, Finset.sum_insert h, EReal.coe_add, ih]

theorem fold_real {ι : Type} (s : Finset ι) (S : ι → EReal) (hS : ∀ j, S j = ⊥ ∨ IsReal (S j)) :
    s.fold max ⊥ S = ⊥ ∨ IsReal (s.fold max ⊥ S) := by
  classical
  induction s using Finset.induction with
  | empty => exact .inl rfl
  | insert a s h ih =>
    rw [Finset.fold_insert h]
    rcases max_choice (S a) (s.fold max ⊥ S) with e | e <;> rw [e]
    · exact hS a
    · exact ih

theorem top_real (S : Fin 256 → EReal) (sk : EReal) (hS : ∀ j, S j = ⊥ ∨ IsReal (S j)) (hk : IsReal sk) : IsReal (topRow S sk) := by
  unfold topRow
  rcases fold_real Finset.univ S hS with e | e
  · rw [e, max_eq_right bot_le]; exact hk
  · rcases max_choice (Finset.univ.fold max ⊥ S) sk with e' | e' <;> rw [e'] <;> assumption

theorem exp_coe (a : ℝ) : Ideal.exp (a : EReal) = ((Real.exp a : ℝ) : EReal) := rfl

theorem exp_bot : Ideal.exp ⊥ = 0 := rfl

theorem exp_real (x : EReal) (t : ℝ) (hx : x = ⊥ ∨ IsReal x) : ∃ a : ℝ, 0 ≤ a ∧ Ideal.exp (x - (t : EReal)) = (a : EReal) := by
  rcases hx with rfl | ⟨a, rfl⟩
  · exact ⟨0, le_rfl, by rw [EReal.bot_sub, exp_bot]; rfl⟩
  · exact ⟨Real.exp (a - t), (Real.exp_pos _).le, by rw [← EReal.coe_sub, exp_coe]⟩

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The weighted sum of a row's values divided by the weights' total is the row's attention output. -/
theorem soft_row (S V : Fin 256 → EReal) (sk : EReal) (hS : ∀ j, S j = ⊥ ∨ IsReal (S j)) (hk : IsReal sk) (hV : ∀ j, IsReal (V j)) :
    Ideal.div (∑ j, Ideal.exp (S j - topRow S sk) * V j) ((∑ j, Ideal.exp (S j - topRow S sk) * 1) + Ideal.exp (sk - topRow S sk))
      = attRow S sk V := by
  obtain ⟨t, ht⟩ := top_real S sk hS hk
  unfold attRow
  rw [ht]
  choose e e0 he using fun j => exp_real (S j) t (hS j)
  choose v hv using hV
  obtain ⟨k, rfl⟩ := hk
  have hz : Ideal.exp ((k : EReal) - (t : EReal)) = ((Real.exp (k - t) : ℝ) : EReal) := by
    rw [← EReal.coe_sub, exp_coe]
  have hd : (∑ j, e j) + Real.exp (k - t) ≠ 0 :=
    (add_pos_of_nonneg_of_pos (Finset.sum_nonneg fun j _ => e0 j) (Real.exp_pos _)).ne'
  simp only [he, hv, hz, mul_one, ← EReal.coe_mul, ← real_sum, ← EReal.coe_add, div_real _ _ hd]
  refine congrArg _ ?_
  rw [Finset.sum_div]
  exact Finset.sum_congr rfl fun j _ => by ring

/-- A scaled product of two rows. -/
theorem scale_sum {n : ℕ} (q k : Fin n → EReal) (c : ℝ) (hq : ∀ l, IsReal (q l)) (hk : ∀ l, IsReal (k l)) :
    ∑ l, q l * (k l * (c : EReal)) = (∑ l, q l * k l) * (c : EReal) := by
  choose a ha using hq
  choose b hb using hk
  simp only [ha, hb, ← EReal.coe_mul, ← real_sum]
  refine congrArg _ ?_
  rw [Finset.sum_mul]
  exact Finset.sum_congr rfl fun l _ => by ring

theorem sum_mul_real {n : ℕ} (q k : Fin n → EReal) (hq : ∀ l, IsReal (q l)) (hk : ∀ l, IsReal (k l)) : IsReal (∑ l, q l * k l) := by
  choose a ha using hq
  choose b hb using hk
  exact ⟨∑ l, a l * b l, by simp only [ha, hb, ← EReal.coe_mul, ← real_sum]⟩

theorem attRow_zero (S : Fin 256 → EReal) (sk : EReal) : attRow S sk (fun _ => 0) = 0 := by
  unfold attRow
  simp

end Cert.KernelIdeal.Hand

end
-- ==== Proof.UnitVal.lean ====
/-
  A unit of the attention, over the extended reals: its lanes are the attention outputs of the heads of its parity, and
  zero in the lanes of the other.
-/
module

public import proofs.«01_k».proof.Proof.UnitK
public import proofs.«01_k».proof.Proof.Soft

@[expose] public section

set_option maxRecDepth 16384

noncomputable section

namespace Cert.KernelIdeal.Hand

open Cert.KernelIdeal Cert.KernelIdeal.Gen
open Idealize.ShloMosaic

/-- The scale of the scores. -/
theorem scale_real : Ideal.ofBits .f32 0x3E000000#32 = ((1 / 8 : ℝ) : EReal) := by
  simp [Ideal.ofBits, Ideal.ieee, -EReal.coe_mul]
  norm_num

/-- A sum over 128 lanes whose terms vanish in the lanes of the other parity. -/
theorem sum_parity (f : Fin 128 → EReal) (p : Fin 2) (u : Fin 64 → EReal)
    (h : ∀ (p' : Fin 2) (d : Fin 64), f ⟨64 * p'.val + d.val, by omega⟩ = if p' = p then u d else 0) : ∑ l, f l = ∑ d, u d := by
  rw [Fin.sum_univ_two_halves 64 64 rfl f]
  have h0 : ∀ d : Fin 64, f ⟨d.val, by omega⟩ = if (0 : Fin 2) = p then u d else 0 := fun d =>
    (congrArg f (Fin.ext (by simp))).trans (h 0 d)
  have h1 : ∀ d : Fin 64, f ⟨64 + d.val, by omega⟩ = if (1 : Fin 2) = p then u d else 0 := fun d =>
    (congrArg f (Fin.ext (by simp))).trans (h 1 d)
  simp only [h0, h1]
  match p with
  | 0 => simp
  | 1 => simp

section
variable (x1 : Vec Ideal S16 .f32) (x2 : Vec Ideal S2x512x256 .f32) (x3 : Vec Ideal S512x1024 .bf16) (x4 : Vec Ideal S512x256 .f32)
  (prev : FVec Ideal S128x256 .f32)

/-- The score of a row of a unit against row `j` of its window. -/
def unitScore (n : Fin 2) (i : Fin 4) (h p : Fin 2) (g : Fin 4) (r : Fin 128) (j : Fin 256) : EReal :=
  (∑ d : Fin 64, x3 (ix2 (⟨128 * i.val + r.val, by omega⟩ : Fin 512) (⟨128 * (4 * h.val + g.val) + (64 * p.val + d.val), by omega⟩ : Fin 1024))
      * kvOf x4 prev (ix2 (⟨128 * i.val + j.val, by omega⟩ : Fin 640) (⟨64 * h.val + d.val, by omega⟩ : Fin 256))) * Ideal.ofBits .f32 0x3E000000#32
    + x2 (ix3 (if i.val = 0 then n else 0) (⟨128 * g.val + r.val, by omega⟩ : Fin 512) j)

theorem score_unit (hq : ∀ a, IsReal (x3 a)) (hk : ∀ a, IsReal (kvOf x4 prev a)) (n : Fin 2) (i : Fin 4) (h p : Fin 2) (g : Fin 4)
    (r : Fin 128) (j : Fin 256) :
    scoreOf (qcat x3 i h) (kwin (keysOf (keysScaled x4 prev) h p) i) (maskOf x2 (maskRow x2 n) i) (ix2 (⟨128 * g.val + r.val, by omega⟩ : Fin 512) j)
      = unitScore x2 x3 x4 prev n i h p g r j := by
  rw [scoreOf_apply, maskOf_apply]
  unfold unitScore
  refine congrArg (· + _) ?_
  rw [scale_real, ← scale_sum _ _ _ (fun d => hq _) (fun d => hk _), ← scale_real]
  refine sum_parity _ p _ fun p' d => ?_
  rw [kwin_apply, keysOf_apply, qcat_apply, keysScaled_apply]
  split
  · next e => subst e; rfl
  · rw [mul_zero]

/-- A lane of a unit. -/
theorem unit_apply (hq : ∀ a, IsReal (x3 a)) (hk : ∀ a, IsReal (kvOf x4 prev a)) (hs : ∀ a, IsReal (x1 a))
    (hm : ∀ a, x2 a = 0 ∨ x2 a = ⊥) (n : Fin 2) (i : Fin 4) (h p : Fin 2) (g : Fin 4) (r : Fin 128) (p' : Fin 2) (d : Fin 64) :
    unit (kvOf x4 prev) (keysScaled x4 prev) x1 x2 x3 (maskRow x2 n) i h p
        (ix2 (⟨128 * g.val + r.val, by omega⟩ : Fin 512) (⟨64 * p'.val + d.val, by omega⟩ : Fin 128))
      = if p' = p then attRow (unitScore x2 x3 x4 prev n i h p g r) (x1 (ix1 (hd h p g)))
          fun j => kvOf x4 prev (ix2 (⟨128 * i.val + j.val, by omega⟩ : Fin 640) (⟨128 + 64 * h.val + d.val, by omega⟩ : Fin 256))
        else 0 := by
  have hS : ∀ j, unitScore x2 x3 x4 prev n i h p g r j = ⊥ ∨ IsReal (unitScore x2 x3 x4 prev n i h p g r j) := by
    intro j
    unfold unitScore
    rw [scale_real]
    obtain ⟨a, ha⟩ := sum_mul_real (fun d : Fin 64 => x3 (ix2 (⟨128 * i.val + r.val, by omega⟩ : Fin 512) (⟨128 * (4 * h.val + g.val) + (64 * p.val + d.val), by omega⟩ : Fin 1024)))
      (fun d : Fin 64 => kvOf x4 prev (ix2 (⟨128 * i.val + j.val, by omega⟩ : Fin 640) (⟨64 * h.val + d.val, by omega⟩ : Fin 256))) (fun d => hq _) (fun d => hk _)
    rw [ha]
    rcases hm (ix3 (if i.val = 0 then n else 0) (⟨128 * g.val + r.val, by omega⟩ : Fin 512) j) with e | e <;> rw [e]
    · exact .inr ⟨a * (1 / 8), by rw [add_zero, EReal.coe_mul]⟩
    · exact .inl (EReal.add_bot _)
  have hT : ∀ l : Fin 128, topOf (scoreOf (qcat x3 i h) (kwin (keysOf (keysScaled x4 prev) h p) i) (maskOf x2 (maskRow x2 n) i)) (sinkCol x1 h p)
      (ix2 (⟨128 * g.val + r.val, by omega⟩ : Fin 512) l) = topRow (unitScore x2 x3 x4 prev n i h p g r) (x1 (ix1 (hd h p g))) := by
    intro l
    rw [topOf_apply, sinkCol_apply]
    unfold topRow
    simp only [score_unit x2 x3 x4 prev hq hk]
  have hE : ∀ (V : FVec Ideal S256x256 .bf16) (l : Fin 256), mixOf (expOf (scoreOf (qcat x3 i h) (kwin (keysOf (keysScaled x4 prev) h p) i) (maskOf x2 (maskRow x2 n) i))
        (topOf (scoreOf (qcat x3 i h) (kwin (keysOf (keysScaled x4 prev) h p) i) (maskOf x2 (maskRow x2 n) i)) (sinkCol x1 h p))) V
        (ix2 (⟨128 * g.val + r.val, by omega⟩ : Fin 512) l)
      = ∑ j : Fin 256, Ideal.exp (unitScore x2 x3 x4 prev n i h p g r j - topRow (unitScore x2 x3 x4 prev n i h p g r) (x1 (ix1 (hd h p g)))) * V (ix2 j l) := by
    intro V l
    rw [mixOf_apply]
    refine Finset.sum_congr rfl fun j _ => ?_
    rw [expOf_apply _ _ _ _ hT, score_unit x2 x3 x4 prev hq hk]
  have hZ : ∀ l : Fin 128, exp (subf (sinkCol x1 h p) (topOf (scoreOf (qcat x3 i h) (kwin (keysOf (keysScaled x4 prev) h p) i) (maskOf x2 (maskRow x2 n) i)) (sinkCol x1 h p)))
      (ix2 (⟨128 * g.val + r.val, by omega⟩ : Fin 512) l)
      = Ideal.exp (x1 (ix1 (hd h p g)) - topRow (unitScore x2 x3 x4 prev n i h p g r) (x1 (ix1 (hd h p g)))) := by
    intro l
    exact (congrArg₂ (fun a b => Ideal.exp (a - b)) (sinkCol_apply x1 h p g r l) (hT l))
  unfold unit unitOf
  rw [quotOf_apply, hE, hE, hZ]
  have h1 : ∀ j : Fin 256, vwin (valsOf (kvOf x4 prev) h p) i (ix2 j (⟨128 + (64 * p'.val + d.val), by omega⟩ : Fin 256)) = 1 := fun j =>
    (vwin_apply _ _ _ _).trans (valsOf_ones (kvOf x4 prev) h p _ ⟨64 * p'.val + d.val, by omega⟩)
  have hv : ∀ j : Fin 256, vwin (valsOf (kvOf x4 prev) h p) i (ix2 j (⟨64 * p'.val + d.val, by omega⟩ : Fin 256))
      = if p' = p then kvOf x4 prev (ix2 (⟨128 * i.val + j.val, by omega⟩ : Fin 640) (⟨128 + 64 * h.val + d.val, by omega⟩ : Fin 256)) else 0 := fun j =>
    (vwin_apply _ _ _ _).trans (valsOf_apply (kvOf x4 prev) h p _ p' d)
  simp only [h1, hv]
  by_cases e : p' = p
  · simp only [if_pos e]
    exact soft_row _ _ _ hS (hs _) fun j => hk _
  · simp only [if_neg e]
    exact (soft_row _ (fun _ => 0) _ hS (hs _) fun j => ⟨0, rfl⟩).trans (attRow_zero _ _)

end

end Cert.KernelIdeal.Hand

end
-- ==== Proof.YVal.lean ====
/-
  The attention output of a tile at an index: the two units of its block row and key head, added.
-/
module

public import proofs.«01_k».proof.Proof.UnitVal

@[expose] public section

set_option maxRecDepth 16384

noncomputable section

namespace Cert.KernelIdeal.Hand

open Cert.KernelIdeal Cert.KernelIdeal.Gen
open Idealize.ShloMosaic

theorem blk_emb (i : Fin 4) (b : Fin 8) (r l : Fin 128) :
    (blk i b).emb (ix2 r l : S128x128.Idx) = (ix2 (⟨128 * i.val + r.val, by omega⟩ : Fin 512) (⟨128 * b.val + l.val, by omega⟩ : Fin 1024) : S512x1024.Idx) := by
  funext a
  match a with
  | 0 => exact Fin.ext (by show 128 * i.val + 1 * r.val = 128 * i.val + r.val; rw [one_mul])
  | 1 => exact Fin.ext (by show 128 * b.val + 1 * l.val = 128 * b.val + l.val; rw [one_mul])

theorem blk_apart (i i' : Fin 4) (b b' : Fin 8) (h : i ≠ i' ∨ b ≠ b') : LoadRect.disj (blk i b) (blk i' b').toLoadRect = true := by
  have : ∀ (i i' : Fin 4) (b b' : Fin 8), (i ≠ i' ∨ b ≠ b') → LoadRect.disj (blk i b) (blk i' b').toLoadRect = true := by decide +kernel
  exact this i i' b b' h

theorem skip_blk (i i' : Fin 4) (b b' : Fin 8) (h : i ≠ i' ∨ b ≠ b') (w : FVec Ideal S128x128 .f32)
    (L : List (View.Piece (Elt Ideal) S512x1024 .f32)) (j : S128x128.Idx) :
    View.canon (⟨blk i b, w⟩ :: L) ((blk i' b').emb j) = View.canon L ((blk i' b').emb j) :=
  View.canon_cons_of_not_mem _ L (LoadRect.idx_not_mem_of_disj (blk_apart i i' b b' h) j)

theorem hit_blk (i : Fin 4) (b : Fin 8) (w : FVec Ideal S128x128 .f32) (L : List (View.Piece (Elt Ideal) S512x1024 .f32)) (j : S128x128.Idx) :
    View.canon (⟨blk i b, w⟩ :: L) ((blk i b).emb j) = w j :=
  View.canon_cons_emb (blk i b) w L j

theorem bcol_ne (h : Fin 2) (g g' : Fin 4) (e : g ≠ g') : bcol h g ≠ bcol h g' := fun c =>
  e (Fin.ext (by have := congrArg Fin.val c; simp only at this; omega))

theorem putOdd_hit (A B : FVec Ideal S512x128 .f32) (i : Fin 4) (h : Fin 2) (L : List (View.Piece (Elt Ideal) S512x1024 .f32)) (g : Fin 4)
    (j : S128x128.Idx) : View.canon (putOdd A B i h L 4) ((blk i (bcol h g)).emb j) = both A B g j := by
  unfold putOdd
  match g with
  | 3 => exact hit_blk _ _ _ _ j
  | 2 =>
    refine (skip_blk _ _ _ _ (.inr (bcol_ne h _ _ (by decide))) _ _ j).trans ?_
    exact hit_blk _ _ _ _ j
  | 1 =>
    refine (skip_blk _ _ _ _ (.inr (bcol_ne h _ _ (by decide))) _ _ j).trans ?_
    refine (skip_blk _ _ _ _ (.inr (bcol_ne h _ _ (by decide))) _ _ j).trans ?_
    exact hit_blk _ _ _ _ j
  | 0 =>
    refine (skip_blk _ _ _ _ (.inr (bcol_ne h _ _ (by decide))) _ _ j).trans ?_
    refine (skip_blk _ _ _ _ (.inr (bcol_ne h _ _ (by decide))) _ _ j).trans ?_
    refine (skip_blk _ _ _ _ (.inr (bcol_ne h _ _ (by decide))) _ _ j).trans ?_
    exact hit_blk _ _ _ _ j

theorem putOdd_miss (A B : FVec Ideal S512x128 .f32) (i i' : Fin 4) (h h' : Fin 2) (ne : i ≠ i' ∨ h ≠ h')
    (L : List (View.Piece (Elt Ideal) S512x1024 .f32)) (g : Fin 4) (j : S128x128.Idx) :
    View.canon (putOdd A B i h L 4) ((blk i' (bcol h' g)).emb j) = View.canon L ((blk i' (bcol h' g)).emb j) := by
  have ap : ∀ g' : Fin 4, i ≠ i' ∨ bcol h g' ≠ bcol h' g := fun g' => ne.imp_right fun hn c =>
    hn (Fin.ext (by have := congrArg Fin.val c; simp only at this; omega))
  unfold putOdd put
  refine (skip_blk _ _ _ _ (ap 3) _ _ j).trans ?_
  refine (skip_blk _ _ _ _ (ap 2) _ _ j).trans ?_
  refine (skip_blk _ _ _ _ (ap 1) _ _ j).trans ?_
  refine (skip_blk _ _ _ _ (ap 0) _ _ j).trans ?_
  refine (skip_blk _ _ _ _ (ap 3) _ _ j).trans ?_
  refine (skip_blk _ _ _ _ (ap 2) _ _ j).trans ?_
  refine (skip_blk _ _ _ _ (ap 1) _ _ j).trans ?_
  exact skip_blk _ _ _ _ (ap 0) _ _ j

theorem pairList_at (U : Fin 4 → Fin 2 → Fin 2 → FVec Ideal S512x128 .f32) (i : Fin 4) (h : Fin 2) (g : Fin 4) (j : S128x128.Idx) :
    ∀ k, 2 * i.val + h.val < k → k ≤ 8 → View.canon (pairList U k) ((blk i (bcol h g)).emb j) = both (U i h 0) (U i h 1) g j
  | 0, hk, _ => absurd hk (by omega)
  | k + 1, hk, h8 => by
    rw [pairList]
    by_cases e : k = 2 * i.val + h.val
    · have ei : (⟨k / 2 % 4, by omega⟩ : Fin 4) = i := Fin.ext (by simp only; omega)
      have eh : (⟨k % 2, by omega⟩ : Fin 2) = h := Fin.ext (by simp only; omega)
      rw [ei, eh]
      exact putOdd_hit _ _ _ _ _ _ _
    · rw [putOdd_miss]
      · exact pairList_at U i h g j k (by omega) (by omega)
      · by_cases ei : k / 2 = i.val
        · exact .inr fun c => by have := congrArg Fin.val c; simp only at this; omega
        · exact .inl fun c => by have := congrArg Fin.val c; simp only at this; omega

theorem whole_emb (y : S512x1024.Idx) : all512.toLoadRect.idx y = y := by
  funext a
  match a with
  | 0 => exact Fin.ext (by show 0 + 1 * (y 0).val = _; omega)
  | 1 => exact Fin.ext (by show 0 + 1 * (y 1).val = _; omega)

theorem yOf_apply (U : Fin 4 → Fin 2 → Fin 2 → FVec Ideal S512x128 .f32) (i : Fin 4) (h : Fin 2) (g : Fin 4) (r l : Fin 128) :
    yOf U (ix2 (⟨128 * i.val + r.val, by omega⟩ : Fin 512) (⟨128 * (4 * h.val + g.val) + l.val, by omega⟩ : Fin 1024))
      = U i h 0 (ix2 (⟨128 * g.val + r.val, by omega⟩ : Fin 512) l) + U i h 1 (ix2 (⟨128 * g.val + r.val, by omega⟩ : Fin 512) l) := by
  have e : yOf U (ix2 (⟨128 * i.val + r.val, by omega⟩ : Fin 512) (⟨128 * (4 * h.val + g.val) + l.val, by omega⟩ : Fin 1024))
      = View.canon (pairList U 8) ((blk i (bcol h g)).emb (ix2 r l : S128x128.Idx)) := by
    rw [blk_emb]
    exact congrArg (View.canon (pairList U 8)) (whole_emb _)
  rw [e, pairList_at U i h g _ 8 (by omega) le_rfl, both_apply]

end Cert.KernelIdeal.Hand

end
-- ==== Proof.AttK.lean ====
/-
  The attention output of a tile, by the arguments: the window of keys and values, the scores, the heads.
-/
module

public import proofs.«01_k».proof.Proof.Launch
public import proofs.«01_k».proof.Proof.UnitK
public import proofs.«01_k».proof.Proof.Blocks
public import proofs.«01_k».proof.Proof.YVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (l : Loc nD τ sig) → Buf (Elt Ideal) l) (c : Dev nD)

/-- The arguments the attention reads. -/
abbrev sinks : S1x16.Idx → EReal := m (c, main_arg0)
abbrev queries : S8x2048x1024.Idx → EReal := m (c, main_arg1)
abbrev keysVals : S8x2048x256.Idx → EReal := m (c, main_arg2)

theorem ix3_congr' {n0 n1 n2 : ℕ} {a a' : Fin n0} {b b' : Fin n1} {d d' : Fin n2} (ha : a.val = a'.val) (hb : b.val = b'.val) (hd : d.val = d'.val) :
    ix3 a b d = ix3 a' b' d' := by rw [Fin.ext ha, Fin.ext hb, Fin.ext hd]

theorem carryOf_apply (x4 : Vec Ideal S512x256 .f32) (j : Fin 128) (l : Fin 256) :
    View.ld (Val := Elt Ideal) (e' := .f32) (carryOf x4) allPrev (ix2 j l) = x4 (ix2 (⟨384 + j.val, by omega⟩ : Fin 512) l) := by
  pointwise [carryOf, k0_pay336, k0_pay334]

theorem noPrev_apply (j : Fin 128) (l : Fin 256) : noPrev (F := Ideal) (ix2 j l) = 0 := by
  pointwise [noPrev, k0_pay333]

theorem att_pt (k : ℕ) (hk : k < 32) : att (pt k) = k := by
  show min (min k 32) 31 = k
  omega

/-- A row of the window of keys and values of a block row. -/
theorem kv_at (k : ℕ) (hk : k < 32) (i : Fin 4) (j : Fin 256) (l : Fin 256) (b : Fin 8) (t : Fin 2048) (hb : b.val = k / 4)
    (ht : t.val / 128 = 4 * (k % 4) + i.val) :
    kvOf (in3 m c (pt k)) (prevN m c k) (ix2 (⟨128 * i.val + j.val, by omega⟩ : Fin 640) l) = kvRow (keysVals m c) b t j l := by
  rw [kvOf_apply]
  unfold kvRow
  by_cases h : 128 * i.val + j.val < 128
  · rw [dif_pos (show (⟨128 * i.val + j.val, by omega⟩ : Fin 640).val < 128 from h)]
    unfold prevN
    by_cases hz : k % 4 = 0
    · rw [if_pos hz, dif_pos (by omega)]
      exact noPrev_apply _ _
    · rw [if_neg hz, dif_neg (by omega), carryOf_apply, in3_at]
      refine congrArg (keysVals m c) (ix3_congr' ?_ ?_ rfl) <;> simp only [att_pt (k - 1) (by omega)] <;> omega
  · rw [dif_neg (show ¬ (⟨128 * i.val + j.val, by omega⟩ : Fin 640).val < 128 from h), dif_neg (by omega), in3_at]
    refine congrArg (keysVals m c) (ix3_congr' ?_ ?_ rfl) <;> simp only [att_pt k hk] <;> omega

theorem q_at (k : ℕ) (hk : k < 32) (i : Fin 4) (r : Fin 128) (l : Fin 1024) (b : Fin 8) (t : Fin 2048) (hb : b.val = k / 4)
    (ht : t.val = 512 * (k % 4) + 128 * i.val + r.val) :
    in2 m c (pt k) (ix2 (⟨128 * i.val + r.val, by omega⟩ : Fin 512) l) = queries m c (ix3 b t l) := by
  rw [in2_at]
  refine congrArg (queries m c) (ix3_congr' ?_ ?_ rfl) <;> simp only [att_pt k hk] <;> omega

theorem mask_at (k : ℕ) (i : Fin 4) (g : Fin 4) (r : Fin 128) (j : Fin 256) (t : Fin 2048)
    (ht : t.val = 512 * (k % 4) + 128 * i.val + r.val) :
    in1 m c (pt k) (ix3 (if i.val = 0 then rowN k else 0) (⟨128 * g.val + r.val, by omega⟩ : Fin 512) j)
      = (if sees t.val j.val then 0 else ⊥ : EReal) := by
  rw [in1_at]
  by_cases h : i.val = 0 ∧ k % 4 = 0
  · rw [if_pos h.1, rowN, if_pos h.2, v34_at1]
    exact if_congr (by unfold sees; simp only; omega) rfl rfl
  · have e : (if i.val = 0 then rowN k else 0) = 0 := by
      by_cases h0 : i.val = 0
      · rw [if_pos h0, rowN, if_neg fun hz => h ⟨h0, hz⟩]
      · rw [if_neg h0]
    rw [e, v34_at0]
    exact if_congr (by unfold sees; simp only; omega) rfl rfl

theorem mask_vals (t : Fin cfg0.N) (a : S2x512x256.Idx) : in1 m c t a = 0 ∨ in1 m c t a = ⊥ := by
  obtain ⟨n, r, j, rfl⟩ : ∃ (n : Fin 2) (r : Fin 512) (j : Fin 256), a = ix3 n r j := ⟨a 0, a 1, a 2, eq_ix3 a⟩
  rw [in1_at]
  match n with
  | 0 => rw [v34_at0]; split <;> simp
  | 1 => rw [v34_at1]; split <;> simp

variable (h0 : ∀ a, IsReal (sinks m c a)) (h1 : ∀ a, IsReal (queries m c a)) (h2 : ∀ a, IsReal (keysVals m c a))

include h0 in
theorem sink_real (t : Fin cfg0.N) (a : S16.Idx) : IsReal (in0 m c t a) := by
  obtain ⟨n, rfl⟩ : ∃ n : Fin 16, a = ix1 n := ⟨a 0, eq_ix1 a⟩
  rw [in0_at]
  exact h0 _

include h1 in
theorem q_real (t : Fin cfg0.N) (a : S512x1024.Idx) : IsReal (in2 m c t a) := by
  obtain ⟨r, l, rfl⟩ : ∃ (r : Fin 512) (l : Fin 1024), a = ix2 r l := ⟨a 0, a 1, eq_ix2 a⟩
  rw [in2_at]
  exact h1 _

include h2 in
theorem kv_real (k : ℕ) (hk : k < 32) (a : S640x256.Idx) : IsReal (kvOf (in3 m c (pt k)) (prevN m c k) a) := by
  obtain ⟨r, l, rfl⟩ : ∃ (r : Fin 640) (l : Fin 256), a = ix2 r l := ⟨a 0, a 1, eq_ix2 a⟩
  have e : r = ⟨128 * (min (r.val / 128) 3) + (r.val - 128 * (min (r.val / 128) 3)), by omega⟩ := Fin.ext (by simp only; omega)
  rw [e, kv_at m c k hk ⟨min (r.val / 128) 3, by omega⟩ ⟨r.val - 128 * (min (r.val / 128) 3), by omega⟩ l ⟨k / 4, by omega⟩
    ⟨512 * (k % 4) + 128 * min (r.val / 128) 3, by omega⟩ rfl (by simp only; omega)]
  unfold kvRow
  split
  · exact ⟨0, rfl⟩
  · exact h2 _

theorem pick2 (A : Fin 2 → EReal) (p : Fin 2) : ((if p = 0 then A 0 else 0) + if p = 1 then A 1 else 0) = A p := by
  match p with
  | 0 => rw [if_pos rfl, if_neg (by decide), add_zero]
  | 1 => rw [if_neg (by decide), if_pos rfl, zero_add]

/-- The units of tile `k`. -/
abbrev unitsN (k : ℕ) := unitsOf (in0 m c (pt k)) (in1 m c (pt k)) (in2 m c (pt k)) (in3 m c (pt k)) (prevN m c k) (rowN k)

/-- The scores of a row of a unit are the row's scores. -/
theorem score_at (k : ℕ) (hk : k < 32) (i : Fin 4) (h p : Fin 2) (g : Fin 4) (r : Fin 128) (b : Fin 8) (t : Fin 2048) (n : Fin 16)
    (hb : b.val = k / 4) (ht : t.val = 512 * (k % 4) + 128 * i.val + r.val) (hn : n.val = 8 * h.val + 2 * g.val + p.val) :
    unitScore (in1 m c (pt k)) (in2 m c (pt k)) (in3 m c (pt k)) (prevN m c k) (rowN k) i h p g r
      = scoreAt (queries m c) (keysVals m c) b t n := by
  funext j
  unfold unitScore scoreAt
  rw [mask_at m c k i g r j t ht]
  have es : ∀ d : Fin 64, in2 m c (pt k) (ix2 (⟨128 * i.val + r.val, by omega⟩ : Fin 512) (⟨128 * (4 * h.val + g.val) + (64 * p.val + d.val), by omega⟩ : Fin 1024))
        * kvOf (in3 m c (pt k)) (prevN m c k) (ix2 (⟨128 * i.val + j.val, by omega⟩ : Fin 640) (⟨64 * h.val + d.val, by omega⟩ : Fin 256))
      = queries m c (ix3 b t ⟨64 * n.val + d.val, by omega⟩) * kvRow (keysVals m c) b t j ⟨64 * (n.val / 8) + d.val, by omega⟩ := by
    intro d
    rw [q_at m c k hk i r _ b t hb ht, kv_at m c k hk i j _ b t hb (by omega)]
    have e1 : (⟨128 * (4 * h.val + g.val) + (64 * p.val + d.val), by omega⟩ : Fin 1024) = ⟨64 * n.val + d.val, by omega⟩ := Fin.ext (by simp only; omega)
    have e2 : (⟨64 * h.val + d.val, by omega⟩ : Fin 256) = ⟨64 * (n.val / 8) + d.val, by omega⟩ := Fin.ext (by simp only; omega)
    rw [e1, e2]
  simp only [es]
  split
  · rw [add_zero]
  · exact EReal.add_bot _

include h0 h1 h2 in
/-- A lane of a tile's attention output. -/
theorem y_at (k : ℕ) (hk : k < 32) (i : Fin 4) (h : Fin 2) (g : Fin 4) (r : Fin 128) (p : Fin 2) (d : Fin 64) (b : Fin 8) (t : Fin 2048) (n : Fin 16)
    (hb : b.val = k / 4) (ht : t.val = 512 * (k % 4) + 128 * i.val + r.val) (hn : n.val = 8 * h.val + 2 * g.val + p.val) :
    yOf (unitsN m c k) (ix2 (⟨128 * i.val + r.val, by omega⟩ : Fin 512) (⟨128 * (4 * h.val + g.val) + (64 * p.val + d.val), by omega⟩ : Fin 1024))
      = attAt (sinks m c) (queries m c) (keysVals m c) b t n d := by
  refine (yOf_apply _ i h g r ⟨64 * p.val + d.val, by omega⟩).trans ?_
  unfold unitsN unitsOf
  have u := fun p₀ : Fin 2 => unit_apply (in0 m c (pt k)) (in1 m c (pt k)) (in2 m c (pt k)) (in3 m c (pt k)) (prevN m c k) (q_real m c h1 _)
    (kv_real m c h2 k hk) (sink_real m c h0 _) (mask_vals m c _) (rowN k) i h p₀ g r p d
  rw [u 0, u 1]
  have hit : attRow (unitScore (in1 m c (pt k)) (in2 m c (pt k)) (in3 m c (pt k)) (prevN m c k) (rowN k) i h p g r) (in0 m c (pt k) (ix1 (hd h p g)))
      (fun j => kvOf (in3 m c (pt k)) (prevN m c k) (ix2 (⟨128 * i.val + j.val, by omega⟩ : Fin 640) (⟨128 + 64 * h.val + d.val, by omega⟩ : Fin 256)))
      = attAt (sinks m c) (queries m c) (keysVals m c) b t n d := by
    unfold attAt
    rw [score_at m c k hk i h p g r b t n hb ht hn, in0_at]
    have e1 : hd h p g = n := Fin.ext (by simp only; omega)
    rw [e1]
    refine congrArg _ (funext fun j => ?_)
    rw [kv_at m c k hk i j _ b t hb (by omega)]
    exact congrArg (kvRow (keysVals m c) b t j) (Fin.ext (by simp only; omega))
  refine Eq.trans (pick2 (fun p₀ => attRow (unitScore (in1 m c (pt k)) (in2 m c (pt k)) (in3 m c (pt k)) (prevN m c k) (rowN k) i h p₀ g r)
    (in0 m c (pt k) (ix1 (hd h p₀ g))) (fun j => kvOf (in3 m c (pt k)) (prevN m c k)
      (ix2 (⟨128 * i.val + j.val, by omega⟩ : Fin 640) (⟨128 + 64 * h.val + d.val, by omega⟩ : Fin 256)))) p) ?_
  exact hit

end Cert.KernelIdeal.Hand

end
-- ==== Proof.AttnR.lean ====
/-
  The reference's attention output at an index, over the extended reals.
-/
module

public import proofs.«01_k».proof.Proof.Gen.ReferenceIdeal.Read
public import proofs.«01_k».proof.Proof.Spec
public import Idealize.ShloMosaic.Lib.WordCmp
public import Idealize.ShloMosaic.Lib.Tactic.WordOmega

@[expose] public section

set_option maxRecDepth 16384

noncomputable section

namespace Cert.KernelIdeal.Hand

open Cert.ReferenceIdeal Cert.ReferenceIdeal.Gen Cert.ReferenceIdeal.Read
open Idealize.ShloMosaic

variable (x0 : (⟨S1x16, .f32⟩ : BufTy).Contents (Elt Ideal)) (x1 : (⟨S8x2048x1024, .f32⟩ : BufTy).Contents (Elt Ideal))
  (x2 : (⟨S8x2048x256, .f32⟩ : BufTy).Contents (Elt Ideal))

/-- The word of minus infinity. -/
theorem ofBits_bot' : Ideal.ofBits .f32 0xFF800000#32 = ⊥ := by
  simp [Ideal.ofBits, Ideal.ieee]

theorem ix3_congr {a b c : ℕ} {i i' : Fin a} {j j' : Fin b} {k k' : Fin c} (hi : i.val = i'.val) (hj : j.val = j'.val) (hk : k.val = k'.val) :
    ix3 i j k = ix3 i' j' k' := by
  rw [Fin.ext hi, Fin.ext hj, Fin.ext hk]

/-- The two spellings of a row of the window. -/
theorem kv_split (T j : ℕ) (b : Fin 8) (l l' : Fin 256) (hl : l.val = l'.val) (hT : T < 16) (hj : j < 256) (t : ℕ) (ht : t / 128 = T) :
    (if h1 : j < 128 then if h : T < 1 then (0 : EReal) else x2 (ix3 b (⟨(T - 1) * 128 + j, by omega⟩ : Fin 2048) l)
      else x2 (ix3 b (⟨T * 128 + (j - 128), by omega⟩ : Fin 2048) l))
    = if h : 128 * (t / 128) + j < 128 then 0 else x2 (ix3 b (⟨128 * (t / 128) + j - 128, by omega⟩ : Fin 2048) l') := by
  obtain rfl : l = l' := Fin.ext hl
  subst ht
  by_cases h1 : j < 128
  · by_cases h : t / 128 < 1
    · rw [dif_pos h1, dif_pos h, dif_pos (by omega)]
    · rw [dif_pos h1, dif_neg h, dif_neg (by omega)]
      exact congrArg x2 (ix3_congr rfl (by simp only; omega) rfl)
  · rw [dif_neg h1, dif_neg (by omega)]
    exact congrArg x2 (ix3_congr rfl (by simp only; omega) rfl)

theorem ref_keys (b : Fin 8) (T : Fin 16) (j : Fin 256) (h : Fin 2) (d : Fin 64) (t : Fin 2048) (ht : t.val / 128 = T.val) :
    val_main_v12 x2 (ix5 b T j h d) = kvRow x2 b t j ⟨64 * h.val + d.val, by omega⟩ := by
  unfold kvRow
  rw [← kv_split x2 T.val j.val b ⟨h.val * 64 + d.val, by omega⟩ _ (by simp only; omega) T.isLt j.isLt t.val ht]
  pointwise [val_main_v12, val_main_v10, val_main_v11, val_main_v8, val_main_v7, val_main_v4, val_main_v0, val_main_cst]

theorem ref_vals (b : Fin 8) (T : Fin 16) (j : Fin 256) (h : Fin 2) (d : Fin 64) (t : Fin 2048) (ht : t.val / 128 = T.val) :
    val_main_v15 x2 (ix5 b T j h d) = kvRow x2 b t j ⟨128 + 64 * h.val + d.val, by omega⟩ := by
  unfold kvRow
  rw [← kv_split x2 T.val j.val b ⟨128 + (h.val * 64 + d.val), by omega⟩ _ (by simp only; omega) T.isLt j.isLt t.val ht]
  pointwise [val_main_v15, val_main_v13, val_main_v14, val_main_v9, val_main_v7, val_main_v5, val_main_v1, val_main_cst]

theorem ref_q (b : Fin 8) (T : Fin 16) (q : Fin 128) (h : Fin 2) (g : Fin 8) (d : Fin 64) :
    val_main_v3 x1 (ix6 b T q h g d) = x1 (ix3 b ⟨128 * T.val + q.val, by omega⟩ ⟨64 * (8 * h.val + g.val) + d.val, by omega⟩) := by
  pointwise [val_main_v3]
  exact congrArg x1 (ix3_congr rfl (by simp only; omega) (by simp only; omega))

theorem ref_sink (h : Fin 2) (g : Fin 8) : val_main_v53 x0 (ix6 0 0 h g 0 0) = x0 (ix2 0 ⟨8 * h.val + g.val, by omega⟩) := by
  pointwise [val_main_v53, val_main_v2]
  exact congrArg (fun k => x0 (ix2 0 k)) (Fin.ext (by simp only; omega))

theorem ref_mask (T : Fin 16) (q : Fin 128) (j : Fin 256) :
    val_main_v50 (F := Ideal) (ix3 T q j) = if q.val < j.val ∧ j.val ≤ q.val + 128 ∧ 128 ≤ 128 * T.val + j.val then 1#1 else 0#1 := by
  simp only [val_main_v50_apply, val_main_v49_apply, val_main_v48_apply, val_main_v47_apply, val_main_c_4_apply, val_main_v46_apply, val_main_v45_apply, val_main_v44_apply, val_main_v43_apply, val_main_v42_apply, val_main_v41_apply,
    val_main_c_3_apply, val_main_v40_apply, val_main_v39_apply, val_main_v38_apply, val_main_v37_apply, val_main_v36_apply, val_main_v35_apply, val_main_v34_apply, val_main_v33_apply, val_main_v32_apply, val_main_v31_apply, val_main_c_2_apply,
    val_main_v30_apply, val_main_v29_apply, val_main_c_1_apply, val_main_v28_apply, val_main_v27_apply, val_main_v26_apply, val_main_v25_apply, val_main_v24_apply, val_main_v23_apply, val_main_v22_apply, val_main_c_apply, val_main_v21_apply, val_main_v20_apply]
  obtain ⟨T, hT⟩ := T
  obtain ⟨q, hq⟩ := q
  obtain ⟨j, hj⟩ := j
  simp only [ix3]
  have hA : ∀ T < 16, (IntOp.muli (IntOp.subi (BitVec.ofNat 32 T) 1#32) 128#32).toNat = if T = 0 then 4294967168 else 128 * T - 128 := by decide
  have hB : ∀ T < 16, (IntOp.muli (BitVec.ofNat 32 T) 128#32).toNat = 128 * T := by decide
  replace hA := hA T hT
  replace hB := hB T hT
  generalize IntOp.muli (IntOp.subi (BitVec.ofNat 32 T) 1#32) 128#32 = A at hA ⊢
  generalize IntOp.muli (BitVec.ofNat 32 T) 128#32 = B at hB ⊢
  have hx : (IntOp.addi A (BitVec.ofNat 32 j)).toInt = 128 * (T : ℤ) - 128 + j := by
    simp only [IntOp.addi, BitVec.toInt_eq_toNat_cond, BitVec.toNat_add, BitVec.toNat_ofNat, hA]
    split <;> split <;> omega
  have hy : (IntOp.addi B (BitVec.ofNat 32 q)).toInt = 128 * (T : ℤ) + q := by
    simp only [IntOp.addi, BitVec.toInt_eq_toNat_cond, BitVec.toNat_add, BitVec.toNat_ofNat, hB]
    split <;> omega
  have hz : (IntOp.subi (IntOp.addi B (BitVec.ofNat 32 q)) 128#32).toInt = 128 * (T : ℤ) + q - 128 := by
    simp only [IntOp.addi, IntOp.subi, BitVec.toInt_eq_toNat_cond, BitVec.toNat_sub, BitVec.toNat_add, BitVec.toNat_ofNat, hB]
    split <;> omega
  have h0 : (0#32).toInt = 0 := rfl
  have key : ∀ a b c : Bool, IntOp.andi (IntOp.andi (BitVec.ofBool a) (BitVec.ofBool b)) (BitVec.ofBool c) = if (a && b && c) = true then 1#1 else 0#1 := by
    decide
  rw [WordCmp.cmpi_sle_eq, WordCmp.cmpi_sgt_eq, WordCmp.cmpi_sge_eq, hx, hy, hz, h0, key]
  simp only [Bool.and_eq_true, decide_eq_true_eq]
  exact if_congr (by omega) rfl rfl

theorem ref_dot (b : Fin 8) (T : Fin 16) (h : Fin 2) (g : Fin 8) (q : Fin 128) (j : Fin 256) :
    val_main_v19 x1 x2 (ix6 b T h g q j) = (∑ d : Fin 64, (val_main_v12 (F := Ideal) x2) (ix5 b T j h d) * (val_main_v3 (F := Ideal) x1) (ix6 b T q h g d)) * Ideal.ofBits .f32 0x3E000000#32 := by
  have g' : ∀ (K : (⟨S8x16x256x2x64, .f32⟩ : BufTy).Contents (Elt Ideal)) (Q : (⟨S8x16x128x2x8x64, .f32⟩ : BufTy).Contents (Elt Ideal)), val_main_v12 (F := Ideal) x2 = K → val_main_v3 (F := Ideal) x1 = Q →
      val_main_v19 x1 x2 (ix6 b T h g q j) = (∑ d : Fin 64, K (ix5 b T j h d) * Q (ix6 b T q h g d)) * Ideal.ofBits .f32 0x3E000000#32 := by
    intro K Q eK eQ
    unfold val_main_v19 val_main_v18 val_main_cst_0 val_main_v17 val_main_v16
    simp only [eK, eQ]
    clear eK eQ
    pointwise []
  exact g' _ _ rfl rfl

theorem ref_score (b : Fin 8) (T : Fin 16) (h : Fin 2) (g : Fin 8) (q : Fin 128) (j : Fin 256) :
    val_main_v52 x1 x2 (ix6 b T h g q j) = Scalar.select ((val_main_v50 (F := Ideal)) (ix3 T q j)) ((val_main_v19 (F := Ideal) x1 x2) (ix6 b T h g q j)) (Ideal.ofBits .f32 0xFF800000#32) := by
  have g' : ∀ (M : (⟨S16x128x256, .i1⟩ : BufTy).Contents (Elt Ideal)) (Y : (⟨S8x16x2x8x128x256, .f32⟩ : BufTy).Contents (Elt Ideal)), val_main_v50 (F := Ideal) = M → val_main_v19 (F := Ideal) x1 x2 = Y →
      val_main_v52 x1 x2 (ix6 b T h g q j) = Scalar.select (M (ix3 T q j)) (Y (ix6 b T h g q j)) (Ideal.ofBits .f32 0xFF800000#32) := by
    intro M Y eM eY
    unfold val_main_v52 val_main_call0_v2 val_main_call0_v1 val_main_call0_v0 val_main_v51 val_main_cst_5
    simp only [eM, eY]
    clear eM eY
    pointwise []
    rfl
  exact g' _ _ rfl rfl

theorem ref_max (b : Fin 8) (T : Fin 16) (h : Fin 2) (g : Fin 8) (q : Fin 128) :
    val_main_v54 x1 x2 (ix5 b T h g q) = Finset.univ.fold max (Ideal.ofBits .f32 0xFF800000#32) fun j : Fin 256 => val_main_v52 x1 x2 (ix6 b T h g q j) := by
  unfold val_main_v54
  generalize val_main_v52 (F := Ideal) x1 x2 = y
  rw [Host.reduce_eq_fold_single _ _ _ reducesTo_S8x16x2x8x128x256_S8x16x2x8x128_d5 (by decide) h_S_]
  refine congrArg (fun f => Finset.fold max (Ideal.ofBits .f32 0xFF800000#32) f Finset.univ) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem ref_total (b : Fin 8) (T : Fin 16) (h : Fin 2) (g : Fin 8) (q : Fin 128) :
    val_main_v61 x0 x1 x2 (ix5 b T h g q) = ∑ j : Fin 256, val_main_v60 x0 x1 x2 (ix6 b T h g q j) := by
  rw [val_main_v61_apply]
  generalize val_main_v60 (F := Ideal) x0 x1 x2 = y
  rw [val_main_cst_7_apply]
  refine (congrArg (· + _) Ideal.ofBits_zero_f32).trans ((zero_add _).trans (Finset.sum_congr rfl fun k _ => ?_))
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem ref_top (b : Fin 8) (T : Fin 16) (h : Fin 2) (g : Fin 8) (q : Fin 128) :
    val_main_v57 x0 x1 x2 (ix6 b T h g q 0) = max ((val_main_v54 (F := Ideal) x1 x2) (ix5 b T h g q)) ((val_main_v53 (F := Ideal) x0) (ix6 0 0 h g 0 0)) := by
  have g' : ∀ (Y : (⟨S8x16x2x8x128, .f32⟩ : BufTy).Contents (Elt Ideal)) (Z : (⟨S1x1x2x8x1x1, .f32⟩ : BufTy).Contents (Elt Ideal)), val_main_v54 (F := Ideal) x1 x2 = Y → val_main_v53 (F := Ideal) x0 = Z →
      val_main_v57 x0 x1 x2 (ix6 b T h g q 0) = max (Y (ix5 b T h g q)) (Z (ix6 0 0 h g 0 0)) := by
    intro Y Z eY eZ
    unfold val_main_v57 val_main_v56 val_main_v55
    simp only [eY, eZ]
    clear eY eZ
    pointwise []
  exact g' _ _ rfl rfl

theorem ref_exp (b : Fin 8) (T : Fin 16) (h : Fin 2) (g : Fin 8) (q : Fin 128) (j : Fin 256) :
    val_main_v60 x0 x1 x2 (ix6 b T h g q j) = Ideal.exp ((val_main_v52 (F := Ideal) x1 x2) (ix6 b T h g q j) - (val_main_v57 (F := Ideal) x0 x1 x2) (ix6 b T h g q 0)) := by
  have g' : ∀ (Y : (⟨S8x16x2x8x128x256, .f32⟩ : BufTy).Contents (Elt Ideal)) (Z : (⟨S8x16x2x8x128x1, .f32⟩ : BufTy).Contents (Elt Ideal)), val_main_v52 (F := Ideal) x1 x2 = Y → val_main_v57 (F := Ideal) x0 x1 x2 = Z →
      val_main_v60 x0 x1 x2 (ix6 b T h g q j) = Ideal.exp (Y (ix6 b T h g q j) - Z (ix6 b T h g q 0)) := by
    intro Y Z eY eZ
    unfold val_main_v60 val_main_v59 val_main_v58
    simp only [eY, eZ]
    clear eY eZ
    pointwise []
  exact g' _ _ rfl rfl

theorem ref_den (b : Fin 8) (T : Fin 16) (h : Fin 2) (g : Fin 8) (q : Fin 128) :
    val_main_v66 x0 x1 x2 (ix6 b T h g q 0) = (val_main_v61 (F := Ideal) x0 x1 x2) (ix5 b T h g q) + Ideal.exp ((val_main_v53 (F := Ideal) x0) (ix6 0 0 h g 0 0) - (val_main_v57 (F := Ideal) x0 x1 x2) (ix6 b T h g q 0)) := by
  have g' : ∀ (Y : (⟨S8x16x2x8x128, .f32⟩ : BufTy).Contents (Elt Ideal)) (Z : (⟨S8x16x2x8x128x1, .f32⟩ : BufTy).Contents (Elt Ideal)) (W : (⟨S1x1x2x8x1x1, .f32⟩ : BufTy).Contents (Elt Ideal)), val_main_v61 (F := Ideal) x0 x1 x2 = Y → val_main_v57 (F := Ideal) x0 x1 x2 = Z → val_main_v53 (F := Ideal) x0 = W →
      val_main_v66 x0 x1 x2 (ix6 b T h g q 0) = Y (ix5 b T h g q) + Ideal.exp (W (ix6 0 0 h g 0 0) - Z (ix6 b T h g q 0)) := by
    intro Y Z W eY eZ eW
    unfold val_main_v66 val_main_v65 val_main_v64 val_main_v63 val_main_v62
    simp only [eY, eZ, eW]
    clear eY eZ eW
    pointwise []
  exact g' _ _ _ rfl rfl rfl

theorem ref_prob (b : Fin 8) (T : Fin 16) (h : Fin 2) (g : Fin 8) (q : Fin 128) (j : Fin 256) :
    val_main_v68 x0 x1 x2 (ix6 b T h g q j) = Ideal.div ((val_main_v60 (F := Ideal) x0 x1 x2) (ix6 b T h g q j)) ((val_main_v66 (F := Ideal) x0 x1 x2) (ix6 b T h g q 0)) := by
  have g' : ∀ (Y : (⟨S8x16x2x8x128x256, .f32⟩ : BufTy).Contents (Elt Ideal)) (Z : (⟨S8x16x2x8x128x1, .f32⟩ : BufTy).Contents (Elt Ideal)), val_main_v60 (F := Ideal) x0 x1 x2 = Y → val_main_v66 (F := Ideal) x0 x1 x2 = Z →
      val_main_v68 x0 x1 x2 (ix6 b T h g q j) = Ideal.div (Y (ix6 b T h g q j)) (Z (ix6 b T h g q 0)) := by
    intro Y Z eY eZ
    unfold val_main_v68 val_main_v67
    simp only [eY, eZ]
    clear eY eZ
    pointwise []
  exact g' _ _ rfl rfl

theorem ref_mix (b : Fin 8) (T : Fin 16) (h : Fin 2) (g : Fin 8) (q : Fin 128) (d : Fin 64) :
    val_main_v70 x0 x1 x2 (ix6 b T q h g d) = ∑ j : Fin 256, (val_main_v15 (F := Ideal) x2) (ix5 b T j h d) * (val_main_v68 (F := Ideal) x0 x1 x2) (ix6 b T h g q j) := by
  have g' : ∀ (Y : (⟨S8x16x256x2x64, .f32⟩ : BufTy).Contents (Elt Ideal)) (Z : (⟨S8x16x2x8x128x256, .f32⟩ : BufTy).Contents (Elt Ideal)), val_main_v15 (F := Ideal) x2 = Y → val_main_v68 (F := Ideal) x0 x1 x2 = Z →
      val_main_v70 x0 x1 x2 (ix6 b T q h g d) = ∑ j : Fin 256, Y (ix5 b T j h d) * Z (ix6 b T h g q j) := by
    intro Y Z eY eZ
    unfold val_main_v70 val_main_v69
    simp only [eY, eZ]
    clear eY eZ
    pointwise []
  exact g' _ _ rfl rfl

theorem ref_flat (b : Fin 8) (T : Fin 16) (h : Fin 2) (g : Fin 8) (q : Fin 128) (d : Fin 64) :
    val_main_v71 x0 x1 x2 (ix3 b ⟨128 * T.val + q.val, by omega⟩ ⟨64 * (8 * h.val + g.val) + d.val, by omega⟩) = (val_main_v70 (F := Ideal) x0 x1 x2) (ix6 b T q h g d) := by
  have g' : ∀ (Y : (⟨S8x16x128x2x8x64, .f32⟩ : BufTy).Contents (Elt Ideal)), val_main_v70 (F := Ideal) x0 x1 x2 = Y →
      val_main_v71 x0 x1 x2 (ix3 b ⟨128 * T.val + q.val, by omega⟩ ⟨64 * (8 * h.val + g.val) + d.val, by omega⟩) = Y (ix6 b T q h g d) := by
    intro Y eY
    unfold val_main_v71
    simp only [eY]
    clear eY
    pointwise []
  exact g' _ rfl

theorem ref_att_at (b : Fin 8) (T : Fin 16) (q : Fin 128) (h : Fin 2) (g : Fin 8) (d : Fin 64) :
    val_main_v71 x0 x1 x2 (ix3 b ⟨128 * T.val + q.val, by omega⟩ ⟨64 * (8 * h.val + g.val) + d.val, by omega⟩)
      = attAt x0 x1 x2 b ⟨128 * T.val + q.val, by omega⟩ ⟨8 * h.val + g.val, by omega⟩ d := by
  have hS : ∀ j : Fin 256, val_main_v52 x1 x2 (ix6 b T h g q j) = scoreAt x1 x2 b ⟨128 * T.val + q.val, by omega⟩ ⟨8 * h.val + g.val, by omega⟩ j := by
    intro j
    have e1 : (128 * T.val + q.val) % 128 = q.val := by omega
    have e2 : (128 * T.val + q.val) / 128 = T.val := by omega
    have e3 : (8 * h.val + g.val) / 8 = h.val := by omega
    rw [ref_score, ref_mask, ref_dot]
    unfold scoreAt sees
    simp only [e1, e2, e3]
    split
    · refine congrArg (· * _) (Finset.sum_congr rfl fun d _ => ?_)
      rw [ref_q, ref_keys x2 b T j h d ⟨128 * T.val + q.val, by omega⟩ (by simp only; omega), mul_comm]
    · exact ofBits_bot'
  have hT : val_main_v57 x0 x1 x2 (ix6 b T h g q 0) = topRow (scoreAt x1 x2 b ⟨128 * T.val + q.val, by omega⟩ ⟨8 * h.val + g.val, by omega⟩)
      (x0 (ix2 0 ⟨8 * h.val + g.val, by omega⟩)) := by
    rw [ref_top, ref_sink, ref_max, ofBits_bot']
    unfold topRow
    simp only [hS]
  rw [ref_flat, ref_mix]
  unfold attAt attRow
  refine Finset.sum_congr rfl fun j _ => ?_
  rw [ref_prob, ref_den, ref_total, ref_sink, hT, ref_vals x2 b T j h d ⟨128 * T.val + q.val, by omega⟩ (by simp only; omega), mul_comm]
  simp only [ref_exp, hS, hT]
  have ev : (⟨128 + 64 * h.val + d.val, by omega⟩ : Fin 256) = ⟨128 + 64 * ((8 * h.val + g.val) / 8) + d.val, by omega⟩ :=
    Fin.ext (by simp only; omega)
  rw [ev]

/-- A lane of the reference's attention output. -/
theorem ref_att (b : Fin 8) (T : Fin 16) (q : Fin 128) (h : Fin 2) (g : Fin 8) (d : Fin 64) (t : Fin 2048) (n : Fin 16) (c : Fin 1024)
    (ht : t.val = 128 * T.val + q.val) (hn : n.val = 8 * h.val + g.val) (hc : c.val = 64 * n.val + d.val) :
    val_main_v71 x0 x1 x2 (ix3 b t c) = attAt x0 x1 x2 b t n d := by
  have key := ref_att_at x0 x1 x2 b T q h g d
  rw [show (⟨128 * T.val + q.val, by omega⟩ : Fin 2048) = t from Fin.ext ht.symm,
    show (⟨8 * h.val + g.val, by omega⟩ : Fin 16) = n from Fin.ext hn.symm,
    show (⟨64 * (8 * h.val + g.val) + d.val, by omega⟩ : Fin 1024) = c from Fin.ext (by rw [hc, hn])] at key
  exact key

end Cert.KernelIdeal.Hand

end
-- ==== Proof.TailK.lean ====
/-
  A row of a kernel's output block, over the extended reals, from the row of its attention output.
-/
module

public import proofs.«01_k».proof.Proof.Tile
public import proofs.«01_k».proof.Proof.Spec

@[expose] public section

set_option maxRecDepth 16384

noncomputable section

namespace Cert.KernelIdeal.Hand

open Cert.KernelIdeal Cert.KernelIdeal.Gen
open Idealize.ShloMosaic

theorem rmsOf_apply (v : FVec Ideal S512x1024 .f32) (g : Vec Ideal S1x1024 .f32) (r : Fin 512) (c : Fin 1024) :
    rmsOf v g (ix2 r c) = rmsRow (fun k => v (ix2 r k)) (fun k => g (ix2 0 k)) c := by
  unfold rmsRow
  pointwise [rmsOf]

theorem residOf_apply (x6 : Vec Ideal S512x1024 .f32) (x7 ya : Vec Ideal S512x1024 .bf16) (wo : Vec Ideal S2048x1024 .bf16)
    (r : Fin 512) (c : Fin 1024) :
    residOf x6 x7 ya wo (ix2 r c) = resRow (fun k => x6 (ix2 r k)) (fun k => x7 (ix2 r k)) (fun k => ya (ix2 r k))
      (fun e d => wo (ix2 e d)) c := by
  unfold resRow
  pointwise [residOf]

theorem eighth_apply (hid : FVec Ideal S512x1024 .bf16) (wu : Vec Ideal S1024x4096 .bf16) (wd : Vec Ideal S4096x1024 .bf16)
    (k : Fin 8) (r : Fin 512) (c : Fin 1024) :
    eighth hid wu wd k (ix2 r c) = ∑ f : Fin 512,
      hidRow (fun j => hid (ix2 r j)) (fun j f => wu (ix2 j f)) ⟨512 * k.val + f.val, by omega⟩ * wd (ix2 ⟨512 * k.val + f.val, by omega⟩ c) := by
  unfold hidRow
  pointwise [eighth]

/-- A sum over 4096 positions, in eight sums of 512. -/
theorem sum_eighths (g : Fin 4096 → EReal) :
    ∑ f : Fin 4096, g f = ∑ k : Fin 8, ∑ f : Fin 512, g ⟨512 * k.val + f.val, by omega⟩ := by
  rw [← Finset.sum_product', Finset.univ_product_univ]
  refine (Fintype.sum_equiv (finProdFinEquiv (m := 8) (n := 512)) _ _ fun x => ?_).symm
  exact congrArg g (Fin.ext (by simp only [finProdFinEquiv_apply_val]; omega))

theorem mlpOf_apply (hid : FVec Ideal S512x1024 .bf16) (wu : Vec Ideal S1024x4096 .bf16) (wd : Vec Ideal S4096x1024 .bf16)
    (r : Fin 512) (c : Fin 1024) :
    mlpOf hid wu wd (ix2 r c) = mlpRow (fun j => hid (ix2 r j)) (fun j f => wu (ix2 j f)) (fun f d => wd (ix2 f d)) c := by
  unfold mlpRow
  rw [sum_eighths]
  simp only [Fin.sum_univ_eight, ← eighth_apply]
  rfl

/-- A row of the output block. -/
theorem outOf_apply (x6 : Vec Ideal S512x1024 .f32) (x7 : Vec Ideal S512x1024 .bf16) (x9 x12 : Vec Ideal S1x1024 .f32)
    (U : Fin 4 → Fin 2 → Fin 2 → FVec Ideal S512x128 .f32) (x5 : Vec Ideal S1x1024 .f32)
    (wo : Vec Ideal S2048x1024 .bf16) (wu : Vec Ideal S1024x4096 .bf16) (wd : Vec Ideal S4096x1024 .bf16) (r : Fin 512) (c : Fin 1024) :
    outOf x6 x7 x9 x12 (yaOf U x5) wo wu wd (ix2 r c)
      = outRow (fun k => x6 (ix2 r k)) (fun k => x7 (ix2 r k)) (fun k => yOf U (ix2 r k)) (fun k => x5 (ix2 0 k))
          (fun k => x9 (ix2 0 k)) (fun k => x12 (ix2 0 k)) (fun e d => wo (ix2 e d)) (fun j f => wu (ix2 j f)) (fun f d => wd (ix2 f d)) c := by
  have hya : ∀ k, yaOf U x5 (ix2 r k) = rmsRow (fun k => yOf U (ix2 r k)) (fun k => x5 (ix2 0 k)) k := fun k => by
    rw [← rmsOf_apply]; pointwise [yaOf]
  have hres : ∀ k, residOf x6 x7 (yaOf U x5) wo (ix2 r k) = resRow (fun k => x6 (ix2 r k)) (fun k => x7 (ix2 r k))
      (rmsRow (fun k => yOf U (ix2 r k)) (fun k => x5 (ix2 0 k))) (fun e d => wo (ix2 e d)) k := fun k => by
    rw [residOf_apply]; simp only [hya]
  unfold outRow outOf
  rw [rmsOf_apply]
  congr 1
  funext k
  rw [show (addf (residOf x6 x7 (yaOf U x5) wo) (mlpOf (truncf .bf16 (rmsOf (residOf x6 x7 (yaOf U x5) wo) x9) bitsLt_bf16_f32) wu wd)) (ix2 r k)
    = residOf x6 x7 (yaOf U x5) wo (ix2 r k) + mlpOf (truncf .bf16 (rmsOf (residOf x6 x7 (yaOf U x5) wo) x9) bitsLt_bf16_f32) wu wd (ix2 r k) from rfl,
    hres, mlpOf_apply]
  congr 2
  funext j
  rw [show (truncf .bf16 (rmsOf (residOf x6 x7 (yaOf U x5) wo) x9) bitsLt_bf16_f32 : FVec Ideal S512x1024 .bf16) (ix2 r j)
    = rmsOf (residOf x6 x7 (yaOf U x5) wo) x9 (ix2 r j) from rfl, rmsOf_apply]
  simp only [hres]

end Cert.KernelIdeal.Hand

end
-- ==== Proof.TailR.lean ====
/-
  A row of the reference's result, over the extended reals, from the row of its attention output.
-/
module

public import proofs.«01_k».proof.Proof.Gen.ReferenceIdeal.Read
public import proofs.«01_k».proof.Proof.Spec

@[expose] public section

set_option maxRecDepth 16384

noncomputable section

namespace Cert.KernelIdeal.Hand

open Cert.ReferenceIdeal Cert.ReferenceIdeal.Gen Cert.ReferenceIdeal.Read
open Idealize.ShloMosaic

variable (x0 : (⟨S1x16, .f32⟩ : BufTy).Contents (Elt Ideal)) (x1 : (⟨S8x2048x1024, .f32⟩ : BufTy).Contents (Elt Ideal))
  (x2 : (⟨S8x2048x256, .f32⟩ : BufTy).Contents (Elt Ideal)) (x3 : (⟨S1x1024, .f32⟩ : BufTy).Contents (Elt Ideal))
  (x4 x5 : (⟨S8x2048x1024, .f32⟩ : BufTy).Contents (Elt Ideal)) (x6 : (⟨S1x2048x1024, .f32⟩ : BufTy).Contents (Elt Ideal))
  (x7 : (⟨S1x1024, .f32⟩ : BufTy).Contents (Elt Ideal)) (x8 : (⟨S1x1024x4096, .f32⟩ : BufTy).Contents (Elt Ideal))
  (x9 : (⟨S1x4096x1024, .f32⟩ : BufTy).Contents (Elt Ideal)) (x10 : (⟨S1024, .f32⟩ : BufTy).Contents (Elt Ideal))

theorem ref_ms (b : Fin 8) (t : Fin 2048) (c : Fin 1) :
    val_main_v80 x0 x1 x2 (ix3 b t c) = Ideal.rsqrt (Ideal.div (∑ k : Fin 1024, val_main_v71 x0 x1 x2 (ix3 b t k) * val_main_v71 x0 x1 x2 (ix3 b t k))
      (Ideal.ofBits .f32 0x44800000#32) + Ideal.ofBits .f32 0x358637BD#32) := by
  have g : ∀ Y : (⟨S8x2048x1024, .f32⟩ : BufTy).Contents (Elt Ideal), val_main_v71 x0 x1 x2 = Y →
      val_main_v80 x0 x1 x2 (ix3 b t c) = Ideal.rsqrt (Ideal.div (∑ k : Fin 1024, Y (ix3 b t k) * Y (ix3 b t k))
        (Ideal.ofBits .f32 0x44800000#32) + Ideal.ofBits .f32 0x358637BD#32) := by
    intro Y hY
    unfold val_main_v80 val_main_v79 val_main_v78 val_main_v77 val_main_v76 val_main_v75 val_main_v74 val_main_v73 val_main_cst_8 val_main_cst_9 val_main_cst_10
    rw [hY]
    clear hY
    pointwise []
  exact g _ rfl

theorem ref_gain (b : Fin 8) (t : Fin 2048) (c : Fin 1024) : val_main_v84 x3 (ix3 b t c) = x3 (ix2 0 c) := by
  pointwise [val_main_v84, val_main_v83, val_main_v72]

theorem ref_ya (b : Fin 8) (t : Fin 2048) (c : Fin 1024) :
    val_main_v85 x0 x1 x2 x3 (ix3 b t c)
      = rmsRow (fun k => val_main_v71 x0 x1 x2 (ix3 b t k)) (fun k => x3 (ix2 0 k)) c := by
  have h : val_main_v85 x0 x1 x2 x3 (ix3 b t c)
      = val_main_v71 x0 x1 x2 (ix3 b t c) * val_main_v80 x0 x1 x2 (ix3 b t 0) * val_main_v84 x3 (ix3 b t c) := by
    rw [val_main_v85_apply, val_main_v82_apply, val_main_v81_apply]
    have e : idx_main_v81 (ix3 b t c) = ix3 b t 0 := by
      funext a; fin_cases a <;> rfl
    rw [e]
    generalize val_main_v71 x0 x1 x2 = Y
    generalize val_main_v80 x0 x1 x2 = Z
    generalize val_main_v84 x3 = W
    rfl
  rw [h, ref_ms, ref_gain]
  unfold rmsRow
  rfl

/-- A sum over 2048 positions, in two halves. -/
theorem sum_halves (g : Fin 2048 → EReal) :
    ∑ f : Fin 2048, g f = (∑ k : Fin 1024, g ⟨k.val, by omega⟩) + ∑ k : Fin 1024, g ⟨1024 + k.val, by omega⟩ := by
  rw [Fin.sum_univ_two_halves 1024 1024 rfl g]

theorem ref_res (b : Fin 8) (t : Fin 2048) (c : Fin 1024) :
    val_main_v89 x0 x1 x2 x3 x4 x5 x6 (ix3 b t c)
      = resRow (fun k => x4 (ix3 b t k)) (fun k => x5 (ix3 b t k)) (fun k => val_main_v85 x0 x1 x2 x3 (ix3 b t k))
          (fun e d => x6 (ix3 0 e d)) c := by
  unfold resRow
  unfold val_main_v89 val_main_v88 val_main_v87 val_main_v86
  generalize val_main_v85 x0 x1 x2 x3 = Y
  pointwise []

theorem ref_hid (b : Fin 8) (t : Fin 2048) (c : Fin 1024) :
    val_main_v103 x0 x1 x2 x3 x4 x5 x6 x7 (ix3 b t c)
      = rmsRow (fun k => val_main_v89 x0 x1 x2 x3 x4 x5 x6 (ix3 b t k)) (fun k => x7 (ix2 0 k)) c := by
  unfold rmsRow
  unfold val_main_v103 val_main_v102 val_main_v101 val_main_v100 val_main_v99 val_main_v98 val_main_v97 val_main_v96 val_main_v95 val_main_v94 val_main_v93 val_main_v92 val_main_v91 val_main_v90 val_main_cst_11 val_main_cst_12 val_main_cst_13
  generalize val_main_v89 x0 x1 x2 x3 x4 x5 x6 = Y
  pointwise []

theorem ref_mlp (b : Fin 8) (t : Fin 2048) (c : Fin 1024) :
    val_main_v109 x0 x1 x2 x3 x4 x5 x6 x7 x8 x9 (ix3 b t c)
      = mlpRow (fun k => val_main_v103 x0 x1 x2 x3 x4 x5 x6 x7 (ix3 b t k)) (fun j f => x8 (ix3 0 j f)) (fun f d => x9 (ix3 0 f d)) c := by
  unfold mlpRow hidRow
  unfold val_main_v109 val_main_v108 val_main_v107 val_main_v106 val_main_call1_v0 val_main_call1_cst val_main_v105 val_main_v104
  generalize val_main_v103 x0 x1 x2 x3 x4 x5 x6 x7 = Y
  pointwise []

theorem ref_out (R : Fin 16384) (c : Fin 1024) :
    val_main_v124 x0 x1 x2 x3 x4 x5 x6 x7 x8 x9 x10 (ix2 R c)
      = rmsRow (fun k => val_main_v110 x0 x1 x2 x3 x4 x5 x6 x7 x8 x9 (ix3 ⟨R.val / 2048, by omega⟩ ⟨R.val % 2048, by omega⟩ k))
          (fun k => x10 (ix1 k)) c := by
  unfold rmsRow
  unfold val_main_v124 val_main_v123 val_main_v122 val_main_v121 val_main_v120 val_main_v119 val_main_v118 val_main_v117 val_main_v116 val_main_v115 val_main_v114 val_main_v113 val_main_v112 val_main_v111 val_main_cst_14 val_main_cst_15 val_main_cst_16
  generalize val_main_v110 x0 x1 x2 x3 x4 x5 x6 x7 x8 x9 = Y
  pointwise []

theorem ref_sum (b : Fin 8) (t : Fin 2048) (k : Fin 1024) :
    val_main_v110 x0 x1 x2 x3 x4 x5 x6 x7 x8 x9 (ix3 b t k)
      = val_main_v89 x0 x1 x2 x3 x4 x5 x6 (ix3 b t k) + val_main_v109 x0 x1 x2 x3 x4 x5 x6 x7 x8 x9 (ix3 b t k) := by
  unfold val_main_v110
  generalize val_main_v89 x0 x1 x2 x3 x4 x5 x6 = Y, val_main_v109 x0 x1 x2 x3 x4 x5 x6 x7 x8 x9 = Z
  pointwise []

/-- A row of the reference's result. -/
theorem ref_row (R : Fin 16384) (c : Fin 1024) (b : Fin 8) (t : Fin 2048) (hb : b.val = R.val / 2048) (ht : t.val = R.val % 2048) :
    val_main_v124 x0 x1 x2 x3 x4 x5 x6 x7 x8 x9 x10 (ix2 R c)
      = outRow (fun k => x4 (ix3 b t k)) (fun k => x5 (ix3 b t k)) (fun k => val_main_v71 x0 x1 x2 (ix3 b t k)) (fun k => x3 (ix2 0 k))
          (fun k => x7 (ix2 0 k)) (fun k => x10 (ix1 k)) (fun e d => x6 (ix3 0 e d)) (fun j f => x8 (ix3 0 j f)) (fun f d => x9 (ix3 0 f d)) c := by
  have eb : (⟨R.val / 2048, by omega⟩ : Fin 8) = b := Fin.ext hb.symm
  have et : (⟨R.val % 2048, by omega⟩ : Fin 2048) = t := Fin.ext ht.symm
  rw [ref_out, eb, et]
  unfold outRow
  simp only [ref_sum, ref_mlp, ref_hid, ref_res, ref_ya]

end Cert.KernelIdeal.Hand

end
-- ==== Proof.PreReal.lean ====
/-
  The precondition read back: where it holds, every sink, every query and every key and value is a real number.
-/
module

public import proofs.«01_k».proof.Defs
public import proofs.«01_k».proof.Proof.Gen.Pre_real_attention
public import proofs.«01_k».proof.Proof.Soft
public import Idealize.ShloMosaic.Lib.ReduceAll

@[expose] public section

noncomputable section

namespace Cert.KernelIdeal.Hand

open Idealize.ShloMosaic

instance : Subsingleton Cert.Pre_real_attention.S_.Idx := ⟨fun a b => funext fun k => Fin.elim0 k⟩

/-- An extended real whose absolute value is below the top is a real number. -/
theorem isReal_of_max_lt (x : EReal) (h : max x (-x) < ⊤) : IsReal x := by
  induction x with
  | bot => simp at h
  | top => simp at h
  | coe a => exact ⟨a, rfl⟩

/-- The comparison that the precondition makes of an element. -/
theorem isReal_of_olt (x : EReal) (h : Ideal.cmp .olt (max x (-x)) (Ideal.ofBits .f32 0x7F800000#32) = 1#1) : IsReal x := by
  have hinf : (Ideal.ofBits .f32 0x7F800000#32 : EReal) = ⊤ := by simp [Ideal.ofBits, Ideal.ieee]
  rw [hinf] at h
  refine isReal_of_max_lt x ?_
  by_contra hn
  simp [Ideal.cmp, hn] at h

open Cert.Pre_real_attention in
theorem real_of_pre (x0 : FVec Ideal S1x16 .f32) (x1 : FVec Ideal S8x2048x1024 .f32) (x2 : FVec Ideal S8x2048x256 .f32)
    (x3 : FVec Ideal S1x1024 .f32) (x4 x5 : FVec Ideal S8x2048x1024 .f32) (x6 : FVec Ideal S1x2048x1024 .f32)
    (x7 : FVec Ideal S1x1024 .f32) (x8 : FVec Ideal S1x1024x4096 .f32) (x9 : FVec Ideal S1x4096x1024 .f32) (x10 : FVec Ideal S1024 .f32)
    (h : Cert.Pre_real_attention.fn (F := Ideal) x0 x1 x2 x3 x4 x5 x6 x7 x8 x9 x10 = (fun _ => 1#1)) :
    (∀ a, IsReal (x0 a)) ∧ (∀ a, IsReal (x1 a)) ∧ (∀ a, IsReal (x2 a)) := by
  have e := congrFun h (fun k => Fin.elim0 k)
  unfold Cert.Pre_real_attention.fn at e
  obtain ⟨e1, e2⟩ := IntOp.andi_eq_one.1 e
  obtain ⟨e0, e1⟩ := IntOp.andi_eq_one.1 e1
  exact ⟨fun a => isReal_of_olt _ (Host.reduce_andi_all _ _ _ _ _ e0 a), fun a => isReal_of_olt _ (Host.reduce_andi_all _ _ _ _ _ e1 a),
    fun a => isReal_of_olt _ (Host.reduce_andi_all _ _ _ _ _ e2 a)⟩

end Cert.KernelIdeal.Hand

end
-- ==== Proof.Value.lean ====
/-
  The value claim: the array that the kernel's launch leaves is the reference's result, element by element, where the
  sinks, the queries and the keys and values are real numbers.
-/
module

public import proofs.«01_k».proof.Proof.AttK
public import proofs.«01_k».proof.Proof.AttnR
public import proofs.«01_k».proof.Proof.TailK
public import proofs.«01_k».proof.Proof.TailR
public import proofs.«01_k».proof.Proof.PreReal
public import proofs.«01_k».proof.Proof.Gen.ReferenceIdeal.Run
public import proofs.«01_k».proof.Proof.Gen.ReferenceIdeal.Read

@[expose] public section

set_option maxRecDepth 16384

noncomputable section

namespace Cert.KernelIdeal.Hand

open Cert.KernelIdeal Cert.KernelIdeal.Gen
open Idealize.ShloMosaic Idealize.SL.Sem
open Cert.ReferenceIdeal.Read (val_main_v71 val_main_v124)

section
variable (m : (ℓ : Loc nD τ sig) → Buf (Elt Ideal) ℓ) (c : Dev nD)
variable (h0 : ∀ a, IsReal (sinks m c a)) (h1 : ∀ a, IsReal (queries m c a)) (h2 : ∀ a, IsReal (keysVals m c a))

/-- The reference's result, of the kernel's arguments. -/
def want : S16384x1024.Idx → EReal :=
  val_main_v124 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10))

/-- The reference's result depends on its arguments alone. -/
theorem want_congr {y0 : S1x16.Idx → EReal} {y1 : S8x2048x1024.Idx → EReal} {y2 : S8x2048x256.Idx → EReal} {y3 : S1x1024.Idx → EReal} {y4 : S8x2048x1024.Idx → EReal} {y5 : S8x2048x1024.Idx → EReal}
    {y6 : S1x2048x1024.Idx → EReal} {y7 : S1x1024.Idx → EReal} {y8 : S1x1024x4096.Idx → EReal} {y9 : S1x4096x1024.Idx → EReal} {y10 : S1024.Idx → EReal}
    (e0 : y0 = m ((c.tc : Thread nD τ).loc main_arg0))    (e1 : y1 = m ((c.tc : Thread nD τ).loc main_arg1))    (e2 : y2 = m ((c.tc : Thread nD τ).loc main_arg2))
    (e3 : y3 = m ((c.tc : Thread nD τ).loc main_arg3))    (e4 : y4 = m ((c.tc : Thread nD τ).loc main_arg4))    (e5 : y5 = m ((c.tc : Thread nD τ).loc main_arg5))
    (e6 : y6 = m ((c.tc : Thread nD τ).loc main_arg6))    (e7 : y7 = m ((c.tc : Thread nD τ).loc main_arg7))    (e8 : y8 = m ((c.tc : Thread nD τ).loc main_arg8))
    (e9 : y9 = m ((c.tc : Thread nD τ).loc main_arg9))    (e10 : y10 = m ((c.tc : Thread nD τ).loc main_arg10)) :
    val_main_v124 (F := Ideal) y0 y1 y2 y3 y4 y5 y6 y7 y8 y9 y10 = want m c := by
  subst e0 e1 e2 e3 e4 e5 e6 e7 e8 e9 e10
  rfl

include h0 h1 h2 in
/-- A row of the tile's attention output is the reference's row. -/
theorem y_row (k : ℕ) (hk : k < 32) (r : Fin 512) (j : Fin 1024) (b : Fin 8) (t : Fin 2048)
    (hb : b.val = (512 * k + r.val) / 2048) (ht : t.val = (512 * k + r.val) % 2048) :
    yOf (unitsN m c k) (ix2 r j) = val_main_v71 (F := Ideal) (sinks m c) (queries m c) (keysVals m c) (ix3 b t j) := by
  have hr := r.isLt
  have hj := j.isLt
  have key := y_at m c h0 h1 h2 k hk ⟨r.val / 128, by omega⟩ ⟨j.val / 512, by omega⟩ ⟨j.val / 128 % 4, by omega⟩ ⟨r.val % 128, by omega⟩
    ⟨j.val / 64 % 2, by omega⟩ ⟨j.val % 64, by omega⟩ b t ⟨j.val / 64, by omega⟩ (by omega) (by dsimp only; omega) (by dsimp only; omega)
  have er : (⟨128 * (r.val / 128) + r.val % 128, by omega⟩ : Fin 512) = r := Fin.ext (by dsimp only; omega)
  have ej : (⟨128 * (4 * (j.val / 512) + j.val / 128 % 4) + (64 * (j.val / 64 % 2) + j.val % 64), by omega⟩ : Fin 1024) = j :=
    Fin.ext (by dsimp only; omega)
  dsimp only at key
  rw [er, ej] at key
  rw [key]
  exact (ref_att (sinks m c) (queries m c) (keysVals m c) b ⟨t.val / 128, by omega⟩ ⟨t.val % 128, by omega⟩ ⟨j.val / 512, by omega⟩ ⟨j.val / 64 % 8, by omega⟩
    ⟨j.val % 64, by omega⟩ t ⟨j.val / 64, by omega⟩ j (by dsimp only; omega) (by dsimp only; omega) (by dsimp only; omega)).symm

include h0 h1 h2 in
/-- What a step writes is the reference's rows. -/
theorem out_at (t : Fin cfg0.N) (ht : 1 ≤ t.val) (r : Fin 512) (j : Fin 1024) :
    outAt m c t (ix2 r j) = want m c (ix2 ⟨512 * wrt t + r.val, by have := wrt_le t; omega⟩ j) := by
  have hw := wrt_le t
  have hr := r.isLt
  have e : outAt m c t = outOf (in5 m c t) (in6 m c t) (in7 m c t) (in8 m c t) (yaOf (unitsN m c (t.val - 1)) (in4 m c (pt (t.val - 1))))
    (woAt m c) (wuAt m c) (wdAt m c) := rfl
  rw [e, outOf_apply]
  unfold want
  rw [ref_row _ _ _ _ _ _ _ _ _ _ _ _ j ⟨(512 * wrt t + r.val) / 2048, by omega⟩ ⟨(512 * wrt t + r.val) % 2048, by omega⟩ rfl rfl]
  have ey : (fun k => yOf (unitsN m c (t.val - 1)) (ix2 r k)) = fun k => val_main_v71 (F := Ideal) (sinks m c) (queries m c) (keysVals m c)
      (ix3 ⟨(512 * wrt t + r.val) / 2048, by omega⟩ ⟨(512 * wrt t + r.val) % 2048, by omega⟩ k) :=
    funext fun k => y_row m c h0 h1 h2 (t.val - 1) (by unfold wrt at hw; omega) r k _ _ rfl rfl
  rw [ey, funext (in5_at m c t r), funext (in6_at m c t r), funext (in4_at m c (pt (t.val - 1))), funext (in7_at m c t), funext (in8_at m c t),
    show (fun e d => woAt m c (ix2 e d)) = _ from funext fun e => funext fun d => wo_at m c e d,
    show (fun e d => wuAt m c (ix2 e d)) = _ from funext fun e => funext fun d => wu_at m c e d,
    show (fun e d => wdAt m c (ix2 e d)) = _ from funext fun e => funext fun d => wd_at m c e d]

theorem flush_pos : ∀ t : Fin cfg0.N, (cfg0.win 9).flush t = true → 1 ≤ t.val := by decide +kernel

include h0 h1 h2 in
/-- The array that the launch leaves. -/
theorem final : (dats m 0 c).arrAt 9 cfg0.N = want m c :=
  (dats m 0 c).arrAt_eq_of_covers 9 (want m c) (by decide +kernel) fun t hf y => by
    have ht := flush_pos t hf
    blk_simp
    rw [after_9]
    rw [eq_ix2 y]
    refine (out_at m c h0 h1 h2 t ht (y 0) (y 1)).trans (congrArg (want m c) ?_)
    blk_ext [idx_9]

end

/-- The kernel and the reference, from memories that agree on the arguments: both leave the reference's result. -/
theorem algebraic : Cert.algebraic_KernelIdeal_ReferenceIdeal_pre_real_attention := by
  intro m g m' g' hpre harg
  have hreal := fun c : Dev nD => real_of_pre _ _ _ _ _ _ _ _ _ _ _ (hpre c)
  refine ⟨fun c => want m c, ?_, ?_⟩
  · refine (θ_run _ _ _).mono (fun r h c => ?_) (run_main (F := Ideal) m g)
    exact ⟨(Pipeline.FramePost.out_eq h.1 c 9).trans (final m c (hreal c).1 (hreal c).2.1 (hreal c).2.2),
        ((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c),
        ((h.1 c).2 main_arg3 (Pipeline.mem_restRefs_of main_arg3 (by decide) (by decide))).trans (V_main_arg3 m c),
        ((h.1 c).2 main_arg4 (Pipeline.mem_restRefs_of main_arg4 (by decide) (by decide))).trans (V_main_arg4 m c),
        ((h.1 c).2 main_arg5 (Pipeline.mem_restRefs_of main_arg5 (by decide) (by decide))).trans (V_main_arg5 m c),
        ((h.1 c).2 main_arg6 (Pipeline.mem_restRefs_of main_arg6 (by decide) (by decide))).trans (V_main_arg6 m c),
        ((h.1 c).2 main_arg7 (Pipeline.mem_restRefs_of main_arg7 (by decide) (by decide))).trans (V_main_arg7 m c),
        ((h.1 c).2 main_arg8 (Pipeline.mem_restRefs_of main_arg8 (by decide) (by decide))).trans (V_main_arg8 m c),
        ((h.1 c).2 main_arg9 (Pipeline.mem_restRefs_of main_arg9 (by decide) (by decide))).trans (V_main_arg9 m c),
        ((h.1 c).2 main_arg10 (Pipeline.mem_restRefs_of main_arg10 (by decide) (by decide))).trans (V_main_arg10 m c)⟩
  · refine (θ_run _ _ _).mono (fun r h c => ⟨?_, (h c).2⟩) (Cert.ReferenceIdeal.Value.run (F := Ideal) m' g')
    obtain ⟨a0, a1, a2, a3, a4, a5, a6, a7, a8, a9, a10⟩ := harg c
    refine ((h c).1.trans (Cert.ReferenceIdeal.Read.val_main_v124_eq _)).trans ?_
    exact want_congr m c a0 a1 a2 a3 a4 a5 a6 a7 a8 a9 a10

end Cert.KernelIdeal.Hand

end
-- ==== Proof.Same2.lean ====
/-
  The two printings of the call `in_lru` are the same text: its body, its tables and its main function.
-/
module

public import proofs.«01_k».proof.Proof.Gen.Kernel2
public import proofs.«01_k».proof.Proof.Gen.Kernel2Ideal

@[expose] public section

set_option maxHeartbeats 0
set_option maxRecDepth 65536

noncomputable section

namespace Cert.Proof

open Idealize.ShloMosaic

variable {F : FTy → Type} [FloatOps F]

theorem same2_body : Cert.Kernel2.cc0_in_lru (F := F) = Cert.Kernel2Ideal.cc0_in_lru (F := F) := by
  rfl

theorem same2_defs₀ : Cert.Kernel2.defs₀ (F := F) = Cert.Kernel2Ideal.defs₀ (F := F) := by
  unfold Cert.Kernel2.defs₀ Cert.Kernel2Ideal.defs₀
  rw [same2_body]
  refine congrArg _ ?_
  funext l x
  match l, x with
  | ⟨0, _⟩, (t, s) => rfl

theorem same2_defs : Cert.Kernel2.defs (F := F) = Cert.Kernel2Ideal.defs (F := F) := by
  unfold Cert.Kernel2.defs
  rw [same2_defs₀]
  rfl

theorem same2_main : Cert.Kernel2.main (F := F) = Cert.Kernel2Ideal.main (F := F) := by
  unfold Cert.Kernel2.main Cert.Kernel2Ideal.main
  rfl

end Cert.Proof

end
-- ==== Proof.LruPay.lean ====
/-
  The payloads of the kernel `in_lru` that the queries and the keys and values are made of, element by element.
-/
module

public import proofs.«01_k».proof.Proof.Gen.Kernel2Ideal.Skeleton
public import proofs.«01_k».proof.Proof.Spec

@[expose] public section

set_option maxRecDepth 16384

noncomputable section

namespace Cert.Kernel2Ideal.Hand

open Cert.Kernel2Ideal Cert.Kernel2Ideal.Gen
open Cert.KernelIdeal.Hand (rmsRow)
open Idealize.ShloMosaic

/-- The normalised rows of one batch, from its block of the input. -/
def normBlk (v : Vec Ideal S1x64x1024 .f32) (g : Vec Ideal S1x1024 .f32) : FVec Ideal S64x1024 .bf16 := k0_pay9 v g

theorem normBlk_apply (v : Vec Ideal S1x64x1024 .f32) (g : Vec Ideal S1x1024 .f32) (r : Fin 64) (k : Fin 1024) :
    normBlk v g (ix2 r k) = rmsRow (fun k => v (ix3 0 r k)) (fun k => g (ix2 0 k)) k := by
  unfold rmsRow
  pointwise [normBlk, k0_pay9, k0_pay8]

theorem pay21_eq (v : Vec Ideal S1x64x1024 .f32) (g : Vec Ideal S1x1024 .f32) : k0_pay21 v g = normBlk v g := rfl
theorem pay31_eq (v : Vec Ideal S1x64x1024 .f32) (g : Vec Ideal S1x1024 .f32) : k0_pay31 v g = normBlk v g := rfl
theorem pay42_eq (v : Vec Ideal S1x64x1024 .f32) (g : Vec Ideal S1x1024 .f32) : k0_pay42 v g = normBlk v g := rfl
theorem pay53_eq (v : Vec Ideal S1x64x1024 .f32) (g : Vec Ideal S1x1024 .f32) : k0_pay53 v g = normBlk v g := rfl
theorem pay64_eq (v : Vec Ideal S1x64x1024 .f32) (g : Vec Ideal S1x1024 .f32) : k0_pay64 v g = normBlk v g := rfl
theorem pay75_eq (v : Vec Ideal S1x64x1024 .f32) (g : Vec Ideal S1x1024 .f32) : k0_pay75 v g = normBlk v g := rfl
theorem pay85_eq (v : Vec Ideal S1x64x1024 .f32) (g : Vec Ideal S1x1024 .f32) : k0_pay85 v g = normBlk v g := rfl

/-- The eight batches' normalised rows, one above the other. -/
def stack (a : Fin 8 → FVec Ideal S64x1024 .bf16) : FVec Ideal S512x1024 .bf16 :=
  k0_pay95 (a 0) (a 1) (a 2) (a 3) (a 4) (a 5) (a 6) (a 7)

theorem stack_apply (a : Fin 8 → FVec Ideal S64x1024 .bf16) (b : Fin 8) (r : Fin 64) (k : Fin 1024) :
    stack a (ix2 ⟨b.val * 64 + r.val, by omega⟩ k) = a b (ix2 r k) := by
  have hr := r.isLt
  fin_cases b <;> pointwise [stack, k0_pay95]
  all_goals
    repeat first | rw [dif_neg (by omega)] | rw [dif_pos (by omega)]
  all_goals exact congrArg (fun i => a _ (ix2 i k)) (Fin.ext (by dsimp only; omega))

/-- One product of the normalised rows with 256 columns. -/
theorem pay113_apply (v : FVec Ideal S512x1024 .bf16) (w : Vec Ideal S1024x256 .bf16) (b : Fin 8) (r : Fin 64) (e : Fin 256) :
    k0_pay113 v w (ix3 b r e) = ∑ k : Fin 1024, v (ix2 ⟨b.val * 64 + r.val, by omega⟩ k) * w (ix2 k e) := by
  pointwise [k0_pay113]

theorem pay196_eq (v : FVec Ideal S512x1024 .bf16) (w : Vec Ideal S1024x256 .bf16) : k0_pay196 v w = k0_pay113 v w := rfl
theorem pay281_eq (v : FVec Ideal S512x1024 .bf16) (w : Vec Ideal S1024x256 .bf16) : k0_pay281 (k0_pay280 v w) = k0_pay113 v w := rfl
theorem pay361_eq (v : FVec Ideal S512x1024 .bf16) (w : Vec Ideal S1024x256 .bf16) : k0_pay361 v w = k0_pay113 v w := rfl

theorem pay435_apply (v : FVec Ideal S512x1024 .bf16) (w : Vec Ideal S1024x256 .bf16) (b : Fin 8) (r : Fin 64) (e : Fin 256) :
    k0_pay435 v w (ix3 b r e) = ∑ k : Fin 1024, v (ix2 ⟨b.val * 64 + r.val, by omega⟩ k) * w (ix2 k e) := by
  pointwise [k0_pay435]

theorem pay4_apply (w : Vec Ideal S1024x3328 .f32) (k : Fin 1024) (e : Fin 3328) : k0_pay4 w (ix2 k e) = w (ix2 k e) := by
  pointwise [k0_pay4]

end Cert.Kernel2Ideal.Hand

end
-- ==== Proof.LruReads.lean ====
/-
  The blocks the projection reads at a step: rows 64t … 64t + 63 of every batch of the stream, the gain of the norm and the
  weights, by the arguments.
-/
module

public import proofs.«01_k».proof.Proof.LruPay
public import proofs.«01_k».proof.Proof.Gen.Kernel2Ideal.Frame.Runs
public import Idealize.ShloMosaic.Lib.StableHlo.ReadAt
public import Idealize.ShloMosaic.Lib.Pipeline.ValueKit.Geometry

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

variable (m : (l : Loc nD τ sig) → Buf (Elt Ideal) l) (c : Dev nD)

theorem gain_at (k : Fin 1024) : (V m c main_v1 : S1x1024.Idx → EReal) (ix2 0 k) = (m (c, main_arg1) : S1x1024.Idx → EReal) (ix2 0 k) := by
  unfold V
  after_reads_at

theorem weight_at (k : Fin 1024) (e : Fin 3328) :
    (V m c main_v2 : S1024x3328.Idx → EReal) (ix2 k e) = (m (c, main_arg2) : S1x1024x3328.Idx → EReal) (ix3 0 k e) := by
  unfold V
  after_reads_at

theorem stream_at : (V m c main_arg0 : S8x2048x1024.Idx → EReal) = (m (c, main_arg0) : S8x2048x1024.Idx → EReal) :=
  V_main_arg0 m c

theorem idx_0 : ∀ t : Fin cfg0.N, win0_0.index t = ![0, t.val, 0] := by decide +kernel
theorem idx_1 : ∀ t : Fin cfg0.N, win0_1.index t = ![0, 0] := by decide +kernel
theorem idx_2 : ∀ t : Fin cfg0.N, win0_2.index t = ![0, 0] := by decide +kernel
theorem idx_14 : ∀ t : Fin cfg0.N, win0_14.index t = ![0, t.val, 0] := by decide +kernel
theorem idx_15 : ∀ t : Fin cfg0.N, win0_15.index t = ![0, t.val, 0] := by decide +kernel

theorem lt32 (t : Fin cfg0.N) : t.val < 32 := by have : cfg0.N = 32 := N_0; have := t.isLt; omega

abbrev xin (t : Fin cfg0.N) : FVec Ideal S8x64x1024 .f32 := iblk m c 0 t
abbrev gin (t : Fin cfg0.N) : FVec Ideal S1x1024 .f32 := iblk m c 1 t
abbrev win (t : Fin cfg0.N) : FVec Ideal S1024x3328 .f32 := iblk m c 2 t

theorem xin_at (t : Fin cfg0.N) (b : Fin 8) (r : Fin 64) (k : Fin 1024) : xin m c t (ix3 b r k)
    = (m (c, main_arg0) : S8x2048x1024.Idx → EReal) (ix3 b ⟨64 * t.val + r.val, by have := lt32 t; omega⟩ k) := by
  refine Eq.trans ?_ (congrFun (stream_at m c) _)
  unfold xin
  blk_simp [iblk]
  refine congrArg (V m c main_arg0 : S8x2048x1024.Idx → EReal) ?_
  blk_ext [idx_0]

theorem gin_at (t : Fin cfg0.N) (k : Fin 1024) : gin m c t (ix2 0 k) = (m (c, main_arg1) : S1x1024.Idx → EReal) (ix2 0 k) := by
  refine Eq.trans ?_ (gain_at m c k)
  unfold gin
  blk_simp [iblk]
  refine congrArg (V m c main_v1 : S1x1024.Idx → EReal) ?_
  blk_ext [idx_1]

theorem win_at (t : Fin cfg0.N) (k : Fin 1024) (e : Fin 3328) : win m c t (ix2 k e) = (m (c, main_arg2) : S1x1024x3328.Idx → EReal) (ix3 0 k e) := by
  refine Eq.trans ?_ (weight_at m c k e)
  unfold win
  blk_simp [iblk]
  refine congrArg (V m c main_v2 : S1024x3328.Idx → EReal) ?_
  blk_ext [idx_2]

end Cert.Kernel2Ideal.Hand

end
-- ==== Proof.LruOut.lean ====
/-
  What a step of the projection leaves: the cast weights in their scratch buffer, the queries, the keys and values, as functions
  of the blocks that it reads.
-/
module

public import proofs.«01_k».proof.Proof.LruReads
public import proofs.«01_k».proof.Proof.Gen.Kernel2Ideal.Frame
public import Idealize.ShloMosaic.Lib.Pipeline.ReadBack
public import Idealize.ShloMosaic.Lib.Pipeline.ValueKit.Geometry
public import Idealize.ShloMosaic.Lib.Pipeline.ValueKit.Acc
public import Idealize.ShloMosaic.Lib.Pipeline.ValueKit.Tiles

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

variable (m : (l : Loc nD τ sig) → Buf (Elt Ideal) l) (c : Dev nD)

theorem scratch_A (t : Fin cfg0.N) (h : t.val % 32 = 0) : (outsAt0 m c t.val t.isLt).2.2.2.2.2.2.1 = k0_pay4 (F := Ideal) (win m c t) := by
  rw [outsAt0_A m c t h]
  dsimp only
  frame_out

theorem scratch_B (t : Fin cfg0.N) (h : ¬t.val % 32 = 0) :
    (outsAt0 m c t.val t.isLt).2.2.2.2.2.2.1 = (outsAt0 m c (t.val - 1) (Nat.lt_of_le_of_lt (Nat.sub_le _ _) t.isLt)).2.2.2.2.2.2.1 := by
  rw [outsAt0_B m c t h]
  rfl

/-- One batch of a block of the stream. -/
abbrev batch (x : FVec Ideal S8x64x1024 .f32) (off : Fin 3 → ℕ) (inb : ∀ a, off a + S1x64x1024.size a ≤ S8x64x1024.size a) : FVec Ideal S1x64x1024 .f32 :=
  View.ld (Val := Elt Ideal) (S := S8x64x1024) (e' := .f32) x (Rect.unit (s := S8x64x1024) off S1x64x1024.size inb)

/-- 256 columns of the weights. -/
abbrev cols (W : FVec Ideal S1024x3328 .bf16) (off : Fin 2 → ℕ) (inb : ∀ a, off a + S1024x256.size a ≤ S1024x3328.size a) : FVec Ideal S1024x256 .bf16 :=
  View.ld (Val := Elt Ideal) (S := S1024x3328) (e' := .bf16) W (Rect.unit (s := S1024x3328) off S1024x256.size inb)

/-- The eight batches of rows of a block, each row normalised, one batch under the other. -/
def normed (x : FVec Ideal S8x64x1024 .f32) (g : FVec Ideal S1x1024 .f32) : FVec Ideal S512x1024 .bf16 :=
  stack ![normBlk (batch x ![0, 0, 0] inb_S8x64x1024_S1x64x1024_0_0_0) g,
    normBlk (batch x ![1, 0, 0] inb_S8x64x1024_S1x64x1024_1_0_0) g,
    normBlk (batch x ![2, 0, 0] inb_S8x64x1024_S1x64x1024_2_0_0) g,
    normBlk (batch x ![3, 0, 0] inb_S8x64x1024_S1x64x1024_3_0_0) g,
    normBlk (batch x ![4, 0, 0] inb_S8x64x1024_S1x64x1024_4_0_0) g,
    normBlk (batch x ![5, 0, 0] inb_S8x64x1024_S1x64x1024_5_0_0) g,
    normBlk (batch x ![6, 0, 0] inb_S8x64x1024_S1x64x1024_6_0_0) g,
    normBlk (batch x ![7, 0, 0] inb_S8x64x1024_S1x64x1024_7_0_0) g]

theorem normed_apply (x : FVec Ideal S8x64x1024 .f32) (g : FVec Ideal S1x1024 .f32) (b : Fin 8) (r : Fin 64) (k : Fin 1024) :
    normed x g (ix2 ⟨b.val * 64 + r.val, by omega⟩ k) = Cert.KernelIdeal.Hand.rmsRow (fun k => x (ix3 b r k)) (fun k => g (ix2 0 k)) k := by
  unfold normed
  rw [stack_apply]
  fin_cases b
  all_goals
    refine (normBlk_apply _ _ r k).trans ?_
    refine congrArg (fun f => Cert.KernelIdeal.Hand.rmsRow f _ k) (funext fun k => ?_)
    unfold batch
    pointwise []

theorem read_x (t : Fin cfg0.N) : View.read (Elt Ideal) (ms0_0 t).view ((hs0_0 t).unread (iblk m c 0 t)) = xin m c t :=
  (hs0_0 t).read_unread _

theorem read_g (t : Fin cfg0.N) :
    View.ld (View.read (Elt Ideal) (ms0_1 t).view ((hs0_1 t).unread (iblk m c 1 t))) (Rect.unit ![0, 0] ![1, 1024] inb_S1x1024_S1x1024_0_0)
      = gin m c t := by
  have e : View.read (Elt Ideal) (ms0_1 t).view ((hs0_1 t).unread (iblk m c 1 t)) = gin m c t := (hs0_1 t).read_unread _
  rw [e]
  exact View.ld_unit_lit (S := S1x1024) _ _ (by decide)

theorem kv_B (t : Fin cfg0.N) (h : ¬t.val % 32 = 0) :
    (outsAt0 m c t.val t.isLt).2.2.1 = k0_pay435 (F := Ideal) (normed (xin m c t) (gin m c t))
      (cols (outsAt0 m c (t.val - 1) (Nat.lt_of_le_of_lt (Nat.sub_le _ _) t.isLt)).2.2.2.2.2.2.1 ![0, 3072] inb_S1024x3328_S1024x256_0_3072) := by
  rw [outsAt0_B m c t h]
  dsimp only
  frame_open
  simp (disch := decide) only [↓ View.readCov_skip, ↓ View.readCov_cons_toLoadRect, ↓ View.readCov_fill]
  frame_out
  rw [read_x m c t, read_g m c t]
  first | rfl | (simp only [read_unread_whole]; rfl)

theorem kv_A (t : Fin cfg0.N) (h : t.val % 32 = 0) :
    (outsAt0 m c t.val t.isLt).2.2.1 = k0_pay435 (F := Ideal) (normed (xin m c t) (gin m c t))
      (cols (k0_pay4 (F := Ideal) (win m c t)) ![0, 3072] inb_S1024x3328_S1024x256_0_3072) := by
  rw [outsAt0_A m c t h]
  dsimp only
  frame_open
  simp (disch := decide) only [↓ View.readCov_skip, ↓ View.readCov_cons_toLoadRect, ↓ View.readCov_fill]
  frame_out
  rw [read_x m c t, read_g m c t]
  first | rfl | (simp only [read_unread_whole]; rfl)

/-- The four groups of query columns, one beside the other. -/
def queries (X : FVec Ideal S512x1024 .bf16) (W : FVec Ideal S1024x3328 .bf16) : FVec Ideal S8x64x1024 .bf16 :=
  View.canon (Val := Elt Ideal) (s := S8x64x1024) (e := .bf16) [
    ⟨Rect.unit (s := S8x64x1024) ![0, 0, 768] S8x64x256.size inb_S8x64x1024_S8x64x256_0_0_768, k0_pay361 (F := Ideal) X (cols W ![0, 2816] inb_S1024x3328_S1024x256_0_2816)⟩,
    ⟨Rect.unit (s := S8x64x1024) ![0, 0, 512] S8x64x256.size inb_S8x64x1024_S8x64x256_0_0_512, k0_pay281 (F := Ideal) (k0_pay280 X (cols W ![0, 2560] inb_S1024x3328_S1024x256_0_2560))⟩,
    ⟨Rect.unit (s := S8x64x1024) ![0, 0, 256] S8x64x256.size inb_S8x64x1024_S8x64x256_0_0_256, k0_pay196 (F := Ideal) X (cols W ![0, 2304] inb_S1024x3328_S1024x256_0_2304)⟩,
    ⟨Rect.unit (s := S8x64x1024) ![0, 0, 0] S8x64x256.size inb_S8x64x1024_S8x64x256_0_0_0, k0_pay113 (F := Ideal) X (cols W ![0, 2048] inb_S1024x3328_S1024x256_0_2048)⟩]

theorem q_B (t : Fin cfg0.N) (h : ¬t.val % 32 = 0) :
    (outsAt0 m c t.val t.isLt).2.1 = queries (normed (xin m c t) (gin m c t))
      (outsAt0 m c (t.val - 1) (Nat.lt_of_le_of_lt (Nat.sub_le _ _) t.isLt)).2.2.2.2.2.2.1 := by
  rw [outsAt0_B m c t h]
  dsimp only
  frame_open
  simp (disch := decide) only [↓ View.readCov_skip, ↓ View.readCov_cons_toLoadRect, ↓ View.readCov_fill]
  frame_out
  rw [read_x m c t, read_g m c t]
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  all_goals
    try simp only [read_unread_whole]
    rfl

theorem q_A (t : Fin cfg0.N) (h : t.val % 32 = 0) :
    (outsAt0 m c t.val t.isLt).2.1 = queries (normed (xin m c t) (gin m c t)) (k0_pay4 (win m c t)) := by
  rw [outsAt0_A m c t h]
  dsimp only
  frame_open
  simp (disch := decide) only [↓ View.readCov_skip, ↓ View.readCov_cons_toLoadRect, ↓ View.readCov_fill]
  frame_out
  rw [read_x m c t, read_g m c t]
  refine congrArg View.canon (congrArg₂ List.cons (congrArg (Sigma.mk _) ?_) (congrArg₂ List.cons (congrArg (Sigma.mk _) ?_)
    (congrArg₂ List.cons (congrArg (Sigma.mk _) ?_) (congrArg₂ List.cons (congrArg (Sigma.mk _) ?_) rfl))))
  all_goals
    try simp only [read_unread_whole]
    rfl

end Cert.Kernel2Ideal.Hand

end
-- ==== Proof.LruR.lean ====
/-
  The queries and the keys and values of the reference, over the extended reals: rows of the normalised input times
  columns of the input projection.
-/
module

public import proofs.«01_k».proof.Proof.Gen.Reference2Ideal.Read
public import proofs.«01_k».proof.Proof.Spec

@[expose] public section

set_option maxRecDepth 16384

noncomputable section

namespace Cert.Kernel2Ideal.Hand

open Cert.Reference2Ideal Cert.Reference2Ideal.Gen Cert.Reference2Ideal.Read
open Cert.KernelIdeal.Hand (rmsRow)
open Idealize.ShloMosaic

/-- An element of the projection: a normalised row times a column. -/
def projRow (x g : Fin 1024 → EReal) (w : Fin 1024 → Fin 3328 → EReal) (e : Fin 3328) : EReal :=
  ∑ k : Fin 1024, rmsRow x g k * w k e

variable (x0 : (⟨S8x2048x1024, .f32⟩ : BufTy).Contents (Elt Ideal)) (x1 : (⟨S1x1024, .f32⟩ : BufTy).Contents (Elt Ideal))
  (x2 : (⟨S1x1024x3328, .f32⟩ : BufTy).Contents (Elt Ideal))

theorem ref_norm (b : Fin 8) (t : Fin 2048) (k : Fin 1024) :
    val_main_v13 x0 x1 (ix3 b t k) = rmsRow (fun k => x0 (ix3 b t k)) (fun k => x1 (ix2 0 k)) k := by
  unfold rmsRow
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise []

theorem ref_q (b : Fin 8) (t : Fin 2048) (e : Fin 1024) :
    val_main_v17 x0 x1 x2 (ix3 b t e) = projRow (fun k => x0 (ix3 b t k)) (fun k => x1 (ix2 0 k)) (fun k e => x2 (ix3 0 k e)) ⟨2048 + e.val, by omega⟩ := by
  unfold projRow
  simp only [← ref_norm x0 x1 b t]
  unfold val_main_v17 val_main_v16 val_main_v15 val_main_v14
  generalize val_main_v13 x0 x1 = Y
  pointwise []

theorem ref_kv (b : Fin 8) (t : Fin 2048) (e : Fin 256) :
    val_main_v18 x0 x1 x2 (ix3 b t e) = projRow (fun k => x0 (ix3 b t k)) (fun k => x1 (ix2 0 k)) (fun k e => x2 (ix3 0 k e)) ⟨3072 + e.val, by omega⟩ := by
  unfold projRow
  simp only [← ref_norm x0 x1 b t]
  unfold val_main_v18 val_main_v15 val_main_v14
  generalize val_main_v13 x0 x1 = Y
  pointwise []

end Cert.Kernel2Ideal.Hand

end
-- ==== Proof.LruStep.lean ====
/-
  What a step of the projection writes, element by element: a query, a key or value, as the normalised row times a column
  of the weights.
-/
module

public import proofs.«01_k».proof.Proof.LruOut
public import proofs.«01_k».proof.Proof.LruR

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic

variable (m : (l : Loc nD τ sig) → Buf (Elt Ideal) l) (c : Dev nD)

/-- The stream, the gain and the weights that the launch is given. -/
abbrev stream : S8x2048x1024.Idx → EReal := m (c, main_arg0)
abbrev gain : S1x1024.Idx → EReal := m (c, main_arg1)
abbrev weights : S1x1024x3328.Idx → EReal := m (c, main_arg2)

/-- The projection of a row of the stream, by the arguments. -/
def proj (b : Fin 8) (s : Fin 2048) (e : Fin 3328) : EReal :=
  projRow (fun k => stream m c (ix3 b s k)) (fun k => gain m c (ix2 0 k)) (fun k e => weights m c (ix3 0 k e)) e

/-- The weights carried from the first step on: the argument's. -/
theorem scratch_at (n : ℕ) (hn : n < cfg0.N) (k : Fin 1024) (e : Fin 3328) :
    (outsAt0 m c n hn).2.2.2.2.2.2.1 (ix2 k e) = weights m c (ix3 0 k e) := by
  induction n with
  | zero =>
    rw [scratch_A m c ⟨0, hn⟩ (Nat.zero_mod 32)]
    exact (pay4_apply _ k e).trans (win_at m c ⟨0, hn⟩ k e)
  | succ n ih =>
    by_cases h : (n + 1) % 32 = 0
    · rw [scratch_A m c ⟨n + 1, hn⟩ h]
      exact (pay4_apply _ k e).trans (win_at m c ⟨n + 1, hn⟩ k e)
    · rw [scratch_B m c ⟨n + 1, hn⟩ h]
      exact ih _

theorem cols_apply (W : FVec Ideal S1024x3328 .bf16) (o : ℕ) (inb : ∀ a, (![0, o] : Fin 2 → ℕ) a + S1024x256.size a ≤ S1024x3328.size a)
    (k : Fin 1024) (e : Fin 256) (e' : Fin 3328) (he : e'.val = o + e.val) : cols W ![0, o] inb (ix2 k e) = W (ix2 k e') := by
  unfold cols View.ld
  refine congrArg W (funext fun a => Fin.ext ?_)
  fin_cases a <;> simp [Rect.unit, LoadRect.idx, he]

/-- A column of a product with the normalised rows. -/
theorem normed_sum (t : Fin cfg0.N) (W : FVec Ideal S1024x3328 .bf16) (hW : ∀ k e, W (ix2 k e) = weights m c (ix3 0 k e))
    (b : Fin 8) (r : Fin 64) (e : Fin 3328) :
    (∑ k : Fin 1024, normed (xin m c t) (gin m c t) (ix2 ⟨b.val * 64 + r.val, by omega⟩ k) * W (ix2 k e))
      = proj m c b ⟨64 * t.val + r.val, by have := lt32 t; omega⟩ e := by
  unfold proj projRow
  refine Finset.sum_congr rfl fun k _ => ?_
  rw [normed_apply, hW, funext (xin_at m c t b r), funext (gin_at m c t)]

theorem group_apply (X : FVec Ideal S512x1024 .bf16) (W : FVec Ideal S1024x3328 .bf16) (o : ℕ)
    (inb : ∀ a, (![0, o] : Fin 2 → ℕ) a + S1024x256.size a ≤ S1024x3328.size a) (x : S8x64x256.Idx) (b : Fin 8) (r : Fin 64) (e : Fin 3328)
    (hb : b.val = (x 0).val) (hr : r.val = (x 1).val) (he : e.val = o + (x 2).val) :
    k0_pay113 (F := Ideal) X (cols W ![0, o] inb) x = ∑ k : Fin 1024, X (ix2 ⟨b.val * 64 + r.val, by omega⟩ k) * W (ix2 k e) := by
  have e0 : x = ix3 b r ⟨(x 2).val, (x 2).isLt⟩ := by
    refine (eq_ix3 x).trans ?_
    rw [show (x 0 : Fin 8) = b from Fin.ext hb.symm, show (x 1 : Fin 64) = r from Fin.ext hr.symm]
    rfl
  refine (congrArg (k0_pay113 (F := Ideal) X (cols W ![0, o] inb)) e0).trans ?_
  refine (pay113_apply X (cols W ![0, o] inb) b r _).trans (Finset.sum_congr rfl fun k _ => ?_)
  rw [cols_apply W o inb k _ e he]

theorem queries_apply (X : FVec Ideal S512x1024 .bf16) (W : FVec Ideal S1024x3328 .bf16) (b : Fin 8) (r : Fin 64) (e : Fin 1024) :
    queries X W (ix3 b r e) = ∑ k : Fin 1024, X (ix2 ⟨b.val * 64 + r.val, by omega⟩ k) * W (ix2 k ⟨2048 + e.val, by omega⟩) := by
  have h0' : ∀ y : S8x64x1024.Idx, (y 0).val = b.val → (y 1).val = r.val → (y 2).val = e.val →
      queries X W y = ∑ k : Fin 1024, X (ix2 ⟨b.val * 64 + r.val, by omega⟩ k) * W (ix2 k ⟨2048 + e.val, by omega⟩) := by
    intro y y0 y1 y2
    unfold queries
    canon_tiles x h
    · rw [pay361_eq]
      exact group_apply X W 2816 _ x b r _ (by omega) (by omega) (by dsimp only; omega)
    · rw [pay281_eq]
      exact group_apply X W 2560 _ x b r _ (by omega) (by omega) (by dsimp only; omega)
    · rw [pay196_eq]
      exact group_apply X W 2304 _ x b r _ (by omega) (by omega) (by dsimp only; omega)
    · exact group_apply X W 2048 _ x b r _ (by omega) (by omega) (by dsimp only; omega)
  exact h0' _ rfl rfl rfl

theorem kv_of (t : Fin cfg0.N) (W : FVec Ideal S1024x3328 .bf16) (hW : ∀ k e, W (ix2 k e) = weights m c (ix3 0 k e))
    (b : Fin 8) (r : Fin 64) (e : Fin 256) :
    k0_pay435 (F := Ideal) (normed (xin m c t) (gin m c t)) (cols W ![0, 3072] inb_S1024x3328_S1024x256_0_3072) (ix3 b r e)
      = proj m c b ⟨64 * t.val + r.val, by have := lt32 t; omega⟩ ⟨3072 + e.val, by omega⟩ := by
  rw [pay435_apply, ← normed_sum m c t W hW]
  refine Finset.sum_congr rfl fun k _ => ?_
  rw [cols_apply W 3072 _ k e ⟨3072 + e.val, by omega⟩ rfl]

theorem kv_at (t : Fin cfg0.N) (b : Fin 8) (r : Fin 64) (e : Fin 256) : (outsAt0 m c t.val t.isLt).2.2.1 (ix3 b r e)
    = proj m c b ⟨64 * t.val + r.val, by have := lt32 t; omega⟩ ⟨3072 + e.val, by omega⟩ := by
  by_cases h : t.val % 32 = 0
  · rw [kv_A m c t h]
    exact kv_of m c t _ (fun k e => (pay4_apply _ k e).trans (win_at m c t k e)) b r e
  · rw [kv_B m c t h]
    exact kv_of m c t _ (fun k e => scratch_at m c _ _ k e) b r e

theorem q_of (t : Fin cfg0.N) (W : FVec Ideal S1024x3328 .bf16) (hW : ∀ k e, W (ix2 k e) = weights m c (ix3 0 k e))
    (b : Fin 8) (r : Fin 64) (e : Fin 1024) :
    queries (normed (xin m c t) (gin m c t)) W (ix3 b r e)
      = proj m c b ⟨64 * t.val + r.val, by have := lt32 t; omega⟩ ⟨2048 + e.val, by omega⟩ := by
  rw [queries_apply, ← normed_sum m c t W hW]

theorem q_at (t : Fin cfg0.N) (b : Fin 8) (r : Fin 64) (e : Fin 1024) : (outsAt0 m c t.val t.isLt).2.1 (ix3 b r e)
    = proj m c b ⟨64 * t.val + r.val, by have := lt32 t; omega⟩ ⟨2048 + e.val, by omega⟩ := by
  by_cases h : t.val % 32 = 0
  · rw [q_A m c t h]
    exact q_of m c t _ (fun k e => (pay4_apply _ k e).trans (win_at m c t k e)) b r e
  · rw [q_B m c t h]
    exact q_of m c t _ (fun k e => scratch_at m c _ _ k e) b r e

end Cert.Kernel2Ideal.Hand

end
-- ==== Proof.LruCopy.lean ====
/-
  The casts of the later weights: each step casts a band of rows of each of the three, which the launch leaves as the reference's
  casts.
-/
module

public import proofs.«01_k».proof.Proof.LruOut
public import proofs.«01_k».proof.Proof.Gen.Reference2Ideal.Read

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Cert.Reference2Ideal.Read

variable (m : (l : Loc nD τ sig) → Buf (Elt Ideal) l) (c : Dev nD)

theorem wo_at (i : Fin 2048) (k : Fin 1024) :
    (V m c main_v14 : S2048x1024.Idx → EReal) (ix2 i k) = (m (c, main_arg10) : S1x2048x1024.Idx → EReal) (ix3 0 i k) := by
  unfold V
  after_reads_at

theorem idx_10 : ∀ t : Fin cfg0.N, win0_10.index t = ![t.val, 0] := by decide +kernel
theorem idx_16 : ∀ t : Fin cfg0.N, win0_16.index t = ![t.val, 0] := by decide +kernel

abbrev woIn (t : Fin cfg0.N) : FVec Ideal S64x1024 .f32 := iblk m c 10 t

theorem woIn_at (t : Fin cfg0.N) (i : Fin 64) (k : Fin 1024) : woIn m c t (ix2 i k)
    = (m (c, main_arg10) : S1x2048x1024.Idx → EReal) (ix3 0 ⟨64 * t.val + i.val, by have := lt32 t; omega⟩ k) := by
  refine Eq.trans ?_ (wo_at m c _ _)
  unfold woIn
  blk_simp [iblk]
  refine congrArg (V m c main_v14 : S2048x1024.Idx → EReal) ?_
  blk_ext [idx_10]

/-- A step leaves the cast of the band it reads. -/
theorem wo_cast (t : Fin cfg0.N) : (outsAt0 m c t.val t.isLt).2.2.2.1 = k0_pay5 (F := Ideal) (woIn m c t) := by
  by_cases h : t.val % 32 = 0
  · rw [outsAt0_A m c t h]
    dsimp only
    frame_out
  · rw [outsAt0_B m c t h]
    dsimp only
    frame_out

theorem wo_pay (x : FVec Ideal S64x1024 .f32) (i : Fin 64) (k : Fin 1024) : k0_pay5 (F := Ideal) x (ix2 i k) = x (ix2 i k) := by
  unfold k0_pay5
  pointwise []

/-- The reference's cast of the weight, of the kernel's argument. -/
def wantOut : S2048x1024.Idx → EReal :=
  val_main_v20 (F := Ideal) (m ((c.tc : Thread nD τ).loc main_arg10))

theorem wantOut_at (i : Fin 2048) (k : Fin 1024) :
    wantOut m c (ix2 i k) = (m (c, main_arg10) : S1x2048x1024.Idx → EReal) (ix3 0 i k) := by
  unfold wantOut val_main_v20 val_main_v19
  pointwise []

theorem wantOut_congr {y : S1x2048x1024.Idx → EReal} (e : y = m ((c.tc : Thread nD τ).loc main_arg10)) :
    val_main_v20 (F := Ideal) y = wantOut m c := by
  subst e
  rfl

/-- The array of the cast weight that the launch leaves. -/
theorem final_wo : (dats m 0 c).arrAt 16 cfg0.N = wantOut m c :=
  (dats m 0 c).arrAt_eq_of_covers 16 (wantOut m c) (by decide +kernel) fun t hf y => by
    blk_simp
    rw [after0_16, wo_cast]
    rw [eq_ix2 y]
    refine (wo_pay _ (y 0) (y 1)).trans ((woIn_at m c t (y 0) (y 1)).trans ((wantOut_at m c _ (y 1)).symm.trans (congrArg (wantOut m c) ?_)))
    blk_ext [idx_16]

theorem wu_at (i : Fin 1024) (k : Fin 4096) :
    (V m c main_v15 : S1024x4096.Idx → EReal) (ix2 i k) = (m (c, main_arg11) : S1x1024x4096.Idx → EReal) (ix3 0 i k) := by
  unfold V
  after_reads_at

theorem idx_11 : ∀ t : Fin cfg0.N, win0_11.index t = ![t.val, 0] := by decide +kernel
theorem idx_17 : ∀ t : Fin cfg0.N, win0_17.index t = ![t.val, 0] := by decide +kernel

abbrev wuIn (t : Fin cfg0.N) : FVec Ideal S32x4096 .f32 := iblk m c 11 t

theorem wuIn_at (t : Fin cfg0.N) (i : Fin 32) (k : Fin 4096) : wuIn m c t (ix2 i k)
    = (m (c, main_arg11) : S1x1024x4096.Idx → EReal) (ix3 0 ⟨32 * t.val + i.val, by have := lt32 t; omega⟩ k) := by
  refine Eq.trans ?_ (wu_at m c _ _)
  unfold wuIn
  blk_simp [iblk]
  refine congrArg (V m c main_v15 : S1024x4096.Idx → EReal) ?_
  blk_ext [idx_11]

/-- A step leaves the cast of the band it reads. -/
theorem wu_cast (t : Fin cfg0.N) : (outsAt0 m c t.val t.isLt).2.2.2.2.1 = k0_pay6 (F := Ideal) (wuIn m c t) := by
  by_cases h : t.val % 32 = 0
  · rw [outsAt0_A m c t h]
    dsimp only
    frame_out
  · rw [outsAt0_B m c t h]
    dsimp only
    frame_out

theorem wu_pay (x : FVec Ideal S32x4096 .f32) (i : Fin 32) (k : Fin 4096) : k0_pay6 (F := Ideal) x (ix2 i k) = x (ix2 i k) := by
  unfold k0_pay6
  pointwise []

/-- The reference's cast of the weight, of the kernel's argument. -/
def wantUp : S1024x4096.Idx → EReal :=
  val_main_v22 (F := Ideal) (m ((c.tc : Thread nD τ).loc main_arg11))

theorem wantUp_at (i : Fin 1024) (k : Fin 4096) :
    wantUp m c (ix2 i k) = (m (c, main_arg11) : S1x1024x4096.Idx → EReal) (ix3 0 i k) := by
  unfold wantUp val_main_v22 val_main_v21
  pointwise []

theorem wantUp_congr {y : S1x1024x4096.Idx → EReal} (e : y = m ((c.tc : Thread nD τ).loc main_arg11)) :
    val_main_v22 (F := Ideal) y = wantUp m c := by
  subst e
  rfl

/-- The array of the cast weight that the launch leaves. -/
theorem final_wu : (dats m 0 c).arrAt 17 cfg0.N = wantUp m c :=
  (dats m 0 c).arrAt_eq_of_covers 17 (wantUp m c) (by decide +kernel) fun t hf y => by
    blk_simp
    rw [after0_17, wu_cast]
    rw [eq_ix2 y]
    refine (wu_pay _ (y 0) (y 1)).trans ((wuIn_at m c t (y 0) (y 1)).trans ((wantUp_at m c _ (y 1)).symm.trans (congrArg (wantUp m c) ?_)))
    blk_ext [idx_17]

theorem wd_at (i : Fin 4096) (k : Fin 1024) :
    (V m c main_v16 : S4096x1024.Idx → EReal) (ix2 i k) = (m (c, main_arg12) : S1x4096x1024.Idx → EReal) (ix3 0 i k) := by
  unfold V
  after_reads_at

theorem idx_12 : ∀ t : Fin cfg0.N, win0_12.index t = ![t.val, 0] := by decide +kernel
theorem idx_18 : ∀ t : Fin cfg0.N, win0_18.index t = ![t.val, 0] := by decide +kernel

abbrev wdIn (t : Fin cfg0.N) : FVec Ideal S128x1024 .f32 := iblk m c 12 t

theorem wdIn_at (t : Fin cfg0.N) (i : Fin 128) (k : Fin 1024) : wdIn m c t (ix2 i k)
    = (m (c, main_arg12) : S1x4096x1024.Idx → EReal) (ix3 0 ⟨128 * t.val + i.val, by have := lt32 t; omega⟩ k) := by
  refine Eq.trans ?_ (wd_at m c _ _)
  unfold wdIn
  blk_simp [iblk]
  refine congrArg (V m c main_v16 : S4096x1024.Idx → EReal) ?_
  blk_ext [idx_12]

/-- A step leaves the cast of the band it reads. -/
theorem wd_cast (t : Fin cfg0.N) : (outsAt0 m c t.val t.isLt).2.2.2.2.2.1 = k0_pay7 (F := Ideal) (wdIn m c t) := by
  by_cases h : t.val % 32 = 0
  · rw [outsAt0_A m c t h]
    dsimp only
    frame_out
  · rw [outsAt0_B m c t h]
    dsimp only
    frame_out

theorem wd_pay (x : FVec Ideal S128x1024 .f32) (i : Fin 128) (k : Fin 1024) : k0_pay7 (F := Ideal) x (ix2 i k) = x (ix2 i k) := by
  unfold k0_pay7
  pointwise []

/-- The reference's cast of the weight, of the kernel's argument. -/
def wantDown : S4096x1024.Idx → EReal :=
  val_main_v24 (F := Ideal) (m ((c.tc : Thread nD τ).loc main_arg12))

theorem wantDown_at (i : Fin 4096) (k : Fin 1024) :
    wantDown m c (ix2 i k) = (m (c, main_arg12) : S1x4096x1024.Idx → EReal) (ix3 0 i k) := by
  unfold wantDown val_main_v24 val_main_v23
  pointwise []

theorem wantDown_congr {y : S1x4096x1024.Idx → EReal} (e : y = m ((c.tc : Thread nD τ).loc main_arg12)) :
    val_main_v24 (F := Ideal) y = wantDown m c := by
  subst e
  rfl

/-- The array of the cast weight that the launch leaves. -/
theorem final_wd : (dats m 0 c).arrAt 18 cfg0.N = wantDown m c :=
  (dats m 0 c).arrAt_eq_of_covers 18 (wantDown m c) (by decide +kernel) fun t hf y => by
    blk_simp
    rw [after0_18, wd_cast]
    rw [eq_ix2 y]
    refine (wd_pay _ (y 0) (y 1)).trans ((wdIn_at m c t (y 0) (y 1)).trans ((wantDown_at m c _ (y 1)).symm.trans (congrArg (wantDown m c) ?_)))
    blk_ext [idx_18]

end Cert.Kernel2Ideal.Hand

end
-- ==== Proof.LruValue.lean ====
/-
  The value claim of the projection: the queries, the keys and values and the casts of the later weights that the launch
  leaves are the reference's, element by element, for all arguments.
-/
module

public import proofs.«01_k».proof.Defs
public import proofs.«01_k».proof.Proof.LruStep
public import proofs.«01_k».proof.Proof.LruCopy
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.Kernel2Ideal.Hand

open Cert.Kernel2Ideal Cert.Kernel2Ideal.Gen
open Idealize.ShloMosaic Idealize.SL.Sem
open Cert.Reference2Ideal.Read (val_main_v17 val_main_v18)

section
variable (m : (ℓ : Loc nD τ sig) → Buf (Elt Ideal) ℓ) (c : Dev nD)

/-- The reference's queries, of the kernel's arguments. -/
def wantQ : S8x2048x1024.Idx → EReal :=
  val_main_v17 (F := Ideal) (m ((c.tc : Thread nD τ).loc main_arg0)) (m ((c.tc : Thread nD τ).loc main_arg1)) (m ((c.tc : Thread nD τ).loc main_arg2))

/-- The reference's keys and values, of the kernel's arguments. -/
def wantKV : S8x2048x256.Idx → EReal :=
  val_main_v18 (F := Ideal) (m ((c.tc : Thread nD τ).loc main_arg0)) (m ((c.tc : Thread nD τ).loc main_arg1)) (m ((c.tc : Thread nD τ).loc main_arg2))

theorem wantQ_at (b : Fin 8) (s : Fin 2048) (e : Fin 1024) : wantQ m c (ix3 b s e) = proj m c b s ⟨2048 + e.val, by omega⟩ :=
  ref_q _ _ _ b s e

theorem wantKV_at (b : Fin 8) (s : Fin 2048) (e : Fin 256) : wantKV m c (ix3 b s e) = proj m c b s ⟨3072 + e.val, by omega⟩ :=
  ref_kv _ _ _ b s e

theorem wantQ_congr {y0 : S8x2048x1024.Idx → EReal} {y1 : S1x1024.Idx → EReal} {y2 : S1x1024x3328.Idx → EReal}
    (e0 : y0 = m ((c.tc : Thread nD τ).loc main_arg0)) (e1 : y1 = m ((c.tc : Thread nD τ).loc main_arg1))
    (e2 : y2 = m ((c.tc : Thread nD τ).loc main_arg2)) : val_main_v17 (F := Ideal) y0 y1 y2 = wantQ m c := by
  subst e0 e1 e2
  rfl

theorem wantKV_congr {y0 : S8x2048x1024.Idx → EReal} {y1 : S1x1024.Idx → EReal} {y2 : S1x1024x3328.Idx → EReal}
    (e0 : y0 = m ((c.tc : Thread nD τ).loc main_arg0)) (e1 : y1 = m ((c.tc : Thread nD τ).loc main_arg1))
    (e2 : y2 = m ((c.tc : Thread nD τ).loc main_arg2)) : val_main_v18 (F := Ideal) y0 y1 y2 = wantKV m c := by
  subst e0 e1 e2
  rfl

/-- The array of queries that the launch leaves. -/
theorem final_q : (dats m 0 c).arrAt 14 cfg0.N = wantQ m c :=
  (dats m 0 c).arrAt_eq_of_covers 14 (wantQ m c) (by decide +kernel) fun t hf y => by
    blk_simp
    rw [after0_14]
    rw [eq_ix3 y]
    refine (q_at m c t (y 0) (y 1) (y 2)).trans ((wantQ_at m c (y 0) _ (y 2)).symm.trans (congrArg (wantQ m c) ?_))
    blk_ext [idx_14]

/-- The array of keys and values that the launch leaves. -/
theorem final_kv : (dats m 0 c).arrAt 15 cfg0.N = wantKV m c :=
  (dats m 0 c).arrAt_eq_of_covers 15 (wantKV m c) (by decide +kernel) fun t hf y => by
    blk_simp
    rw [after0_15]
    rw [eq_ix3 y]
    refine (kv_at m c t (y 0) (y 1) (y 2)).trans ((wantKV_at m c (y 0) _ (y 2)).symm.trans (congrArg (wantKV m c) ?_))
    blk_ext [idx_15]

end

/-- The kernel and the reference, from memories that agree on the arguments: both leave the reference's queries, keys and
    values and casts of the later weights. -/
theorem algebraic : Cert.algebraic_Kernel2Ideal_Reference2Ideal := by
  intro m g m' g' _ harg
  refine ⟨fun c => wantQ m c, fun c => wantKV m c, fun c => wantOut m c, fun c => wantUp m c, fun c => wantDown m c, ?_, ?_⟩
  · refine (θ_run _ _ _).mono (fun r h c => ?_) (run_main (F := Ideal) m g)
    exact ⟨(Value.post14 m r h c).trans (final_q m c), (Value.post15 m r h c).trans (final_kv m c),
      (Value.post16 m r h c).trans (final_wo m c), (Value.post17 m r h c).trans (final_wu m c), (Value.post18 m r h c).trans (final_wd m c),
      Value.kept_main_arg0 m r h c, Value.kept_main_arg1 m r h c, Value.kept_main_arg2 m r h c, Value.kept_main_arg3 m r h c,
      Value.kept_main_arg4 m r h c, Value.kept_main_arg5 m r h c, Value.kept_main_arg6 m r h c, Value.kept_main_arg7 m r h c,
      Value.kept_main_arg8 m r h c, Value.kept_main_arg9 m r h c, Value.kept_main_arg10 m r h c, Value.kept_main_arg11 m r h c,
      Value.kept_main_arg12 m r h c⟩
  · refine (θ_run _ _ _).mono (fun r h c => ⟨?_, ?_, ?_, ?_, ?_, (h c).2.2.2.2.2⟩) (Cert.Reference2Ideal.Value.run (F := Ideal) m' g')
    · obtain ⟨a0, a1, a2, _⟩ := harg c
      refine ((h c).1.trans (Cert.Reference2Ideal.Read.val_main_v17_eq _ _ _)).trans ?_
      exact wantQ_congr m c a0 a1 a2
    · obtain ⟨a0, a1, a2, _⟩ := harg c
      refine ((h c).2.1.trans (Cert.Reference2Ideal.Read.val_main_v18_eq _ _ _)).trans ?_
      exact wantKV_congr m c a0 a1 a2
    · obtain ⟨_, _, _, _, _, _, _, _, _, _, a10, a11, a12⟩ := harg c
      refine ((h c).2.2.1.trans (Cert.Reference2Ideal.Read.val_main_v20_eq _)).trans ?_
      exact wantOut_congr m c a10
    · obtain ⟨_, _, _, _, _, _, _, _, _, _, a10, a11, a12⟩ := harg c
      refine ((h c).2.2.2.1.trans (Cert.Reference2Ideal.Read.val_main_v22_eq _)).trans ?_
      exact wantUp_congr m c a11
    · obtain ⟨_, _, _, _, _, _, _, _, _, _, a10, a11, a12⟩ := harg c
      refine ((h c).2.2.2.2.1.trans (Cert.Reference2Ideal.Read.val_main_v24_eq _)).trans ?_
      exact wantDown_congr m c a12

end Cert.Kernel2Ideal.Hand

end
-- ==== Proof.lean ====
/- The proof of the claims, of the call `attn_mlp` and of the call `in_lru`: the two frames of each kernel (one run, over any
   float values), the frames of the references, and the value claims over the reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_real_attention
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Kernel2Ideal.Value
public import proofs.«01_k».proof.Proof.Gen.Kernel2Ideal.Points
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Launch
public import proofs.«01_k».proof.Proof.Same
public import proofs.«01_k».proof.Proof.Value
public import proofs.«01_k».proof.Proof.Same2
public import proofs.«01_k».proof.Proof.LruValue

@[expose] public section

noncomputable section

namespace Cert.Proof

open Idealize.ShloMosaic Idealize.SL.Sem

theorem frame_kernelIdeal : Cert.quiescent_KernelIdeal := fun m ρ _ =>
  Cert.KernelIdeal.Hand.frame_args (F := Ideal) m ρ

set_option maxHeartbeats 4000000 in
theorem frame_kernel : Cert.quiescent_Kernel := by
  unfold Cert.quiescent_Kernel
  rw [same_defs, same_main]
  exact fun m ρ _ => Cert.KernelIdeal.Hand.frame_args (F := Bits) m ρ

theorem frame_kernelIdeal_pre : Cert.quiescent_KernelIdeal_pre_real_attention := fun m ρ _ =>
  Cert.KernelIdeal.Hand.frame_args (F := Ideal) m ρ

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem frame_reference_pre : Cert.quiescent_ReferenceIdeal_pre_real_attention := fun m ρ _ =>
  (θ_run Cert.ReferenceIdeal.defs _ _).mono (fun r h => ⟨fun c => (h c).2, sem_eq_zero_of_no_sems rfl r.2⟩) (Cert.ReferenceIdeal.Value.run (F := Ideal) m ρ)

theorem frame_kernel2Ideal : Cert.quiescent_Kernel2Ideal := fun m ρ _ =>
  Cert.Kernel2Ideal.Gen.frame (F := Ideal) m ρ

set_option maxHeartbeats 4000000 in
theorem frame_kernel2 : Cert.quiescent_Kernel2 := by
  unfold Cert.quiescent_Kernel2
  rw [same2_defs, same2_main]
  exact fun m ρ _ => Cert.Kernel2Ideal.Gen.frame (F := Bits) m ρ

theorem frame_reference2 : Cert.quiescent_Reference2Ideal := fun m ρ _ =>
  (θ_run Cert.Reference2Ideal.defs _ _).mono (fun r h => ⟨fun c => (h c).2.2.2.2.2, sem_eq_zero_of_no_sems rfl r.2⟩) (Cert.Reference2Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Pre_real_attention.Gen.facts,
    frame_kernel, frame_kernelIdeal, frame_kernelIdeal_pre, frame_reference, frame_reference_pre, frame_kernel2, frame_kernel2Ideal, frame_reference2,
    trivial, Cert.KernelIdeal.Hand.algebraic, trivial, Cert.Kernel2Ideal.Hand.algebraic⟩

end Cert.Proof

end
